-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 1024]⟩ ⟨3, ![4, 4096, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = Layout.blockN ⟨2, ![1024, 1024]⟩ ⟨2, ![4096, 1024]⟩ (Layout.meshBlock [2, 2, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x1024 : Shape := ⟨3, ![1, 4096, 1024]⟩
abbrev S1024 : Shape := ⟨1, ![1024]⟩
abbrev S_ : Shape := ⟨0, ![]⟩
abbrev S4x4x256x1024 : Shape := ⟨4, ![4, 4, 256, 1024]⟩
abbrev S4x1x256x1024 : Shape := ⟨4, ![4, 1, 256, 1024]⟩
abbrev S4x256x1024 : Shape := ⟨3, ![4, 256, 1024]⟩
abbrev S1x1024 : Shape := ⟨2, ![1, 1024]⟩
abbrev S1024x1024 : Shape := ⟨2, ![1024, 1024]⟩
abbrev S8x128x1024 : Shape := ⟨3, ![8, 128, 1024]⟩
abbrev S8 : Shape := ⟨1, ![8]⟩
abbrev S1x128x1024 : Shape := ⟨3, ![1, 128, 1024]⟩
abbrev S128x1024 : Shape := ⟨2, ![128, 1024]⟩
abbrev S1 : Shape := ⟨1, ![1]⟩
abbrev S128 : Shape := ⟨1, ![128]⟩
abbrev S128x1 : Shape := ⟨2, ![128, 1]⟩
abbrev S64x1024 : Shape := ⟨2, ![64, 1024]⟩

abbrev nBuf : Space → Nat
  | .hbm => 30
  | .vmem => 5
  | .smem => 0
  | _ => 0

abbrev bufTy : (tb : Table) → Fin (tcTables nBuf tb) → BufTy
  | .hbm, ⟨0, _⟩ => ⟨S1x4096x1024, .bf16⟩
  | .hbm, ⟨1, _⟩ => ⟨S1024, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S4x4x256x1024, .bf16⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S4x1x256x1024, .bf16⟩
  | .hbm, ⟨27, _⟩ => ⟨S4x256x1024, .bf16⟩
  | .hbm, ⟨28, _⟩ => ⟨S1x1024, .bf16⟩
  | .hbm, ⟨29, _⟩ => ⟨S1024x1024, .bf16⟩
  | .local _ .vmem, ⟨0, _⟩ => ⟨S4x256x1024, .bf16⟩
  | .local _ .vmem, ⟨1, _⟩ => ⟨S1x1024, .bf16⟩
  | .local _ .vmem, ⟨2, _⟩ => ⟨S1024x1024, .bf16⟩
  | .local _ .vmem, ⟨3, _⟩ => ⟨S8x128x1024, .bf16⟩
  | .local _ .vmem, ⟨4, _⟩ => ⟨S8x128x1024, .bf16⟩
  | _, _ => ⟨S1x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_4 : Ref sig .tc := ⟨.hbm, 18, rfl⟩
abbrev main_v12 : Ref sig .tc := ⟨.hbm, 19, rfl⟩
abbrev main_c_5 : Ref sig .tc := ⟨.hbm, 20, rfl⟩
abbrev main_v13 : Ref sig .tc := ⟨.hbm, 21, rfl⟩
abbrev main_v14 : Ref sig .tc := ⟨.hbm, 22, rfl⟩
abbrev main_c_6 : Ref sig .tc := ⟨.hbm, 23, rfl⟩
abbrev main_c_7 : Ref sig .tc := ⟨.hbm, 24, rfl⟩
abbrev main_c_8 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v16 : BitVec 32 := Scalar.subi c1_i32_5 v2
  let c8_i32_7 : BitVec 32 := 8#32
  let v17 : BitVec 32 := Scalar.muli v16 c8_i32_7
  let v18 : BitVec 32 := Scalar.addi c0_i32_8 v17
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_9 : BitVec 32 := 4#32
  let v19 : BitVec 32 := Scalar.muli v5 c4_i32_9
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v21 : BitVec 32 := Scalar.muli v8 c1_i32_10
  let v22 : BitVec 32 := Scalar.addi v20 v21
  v22.toNat
def k0_dev2 (d0 : Dev nD) : Nat :=
  let c0_i32_14 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_13 : BitVec 32 := 8#32
  let v24 : BitVec 32 := Scalar.muli v2 c8_i32_13
  let v25 : BitVec 32 := Scalar.addi c0_i32_14 v24
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_11 v5
  let c4_i32_15 : BitVec 32 := 4#32
  let v26 : BitVec 32 := Scalar.muli v23 c4_i32_15
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v28 : BitVec 32 := Scalar.muli v8 c1_i32_16
  let v29 : BitVec 32 := Scalar.addi v27 v28
  v29.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_17 : BitVec 32 := 0#32
  let v30 : BitVec 1 := Scalar.cmpi .sgt v8 c0_i32_17
  let v31 : BitVec 32 := Scalar.extui v30
  let c0_i32_18 : BitVec 32 := 0#32
  let v32 : BitVec 1 := Scalar.cmpi .ne v31 c0_i32_18
  v32

def k0_dev3 (d0 : Dev nD) : Nat :=
  let c0_i32_379 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_378 : BitVec 32 := 8#32
  let v499 : BitVec 32 := Scalar.muli v2 c8_i32_378
  let v500 : BitVec 32 := Scalar.addi c0_i32_379 v499
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_380 : BitVec 32 := 4#32
  let v501 : BitVec 32 := Scalar.muli v5 c4_i32_380
  let v502 : BitVec 32 := Scalar.addi v500 v501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_381 : BitVec 32 := 1#32
  let v503 : BitVec 32 := Scalar.muli v14 c1_i32_381
  let v504 : BitVec 32 := Scalar.addi v502 v503
  v504.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_19 : BitVec 32 := 3#32
  let v33 : BitVec 1 := Scalar.cmpi .slt v8 c3_i32_19
  let v34 : BitVec 32 := Scalar.extui v33
  let c0_i32_20 : BitVec 32 := 0#32
  let v35 : BitVec 1 := Scalar.cmpi .ne v34 c0_i32_20
  v35

def k0_dev4 (d0 : Dev nD) : Nat :=
  let c0_i32_379 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_378 : BitVec 32 := 8#32
  let v499 : BitVec 32 := Scalar.muli v2 c8_i32_378
  let v500 : BitVec 32 := Scalar.addi c0_i32_379 v499
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_380 : BitVec 32 := 4#32
  let v501 : BitVec 32 := Scalar.muli v5 c4_i32_380
  let v502 : BitVec 32 := Scalar.addi v500 v501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_381 : BitVec 32 := 1#32
  let v503 : BitVec 32 := Scalar.muli v12 c1_i32_381
  let v504 : BitVec 32 := Scalar.addi v502 v503
  v504.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_25 : BitVec 32 := 2#32
  let c0_i32_26 : BitVec 32 := 0#32
  let v41 : BitVec 1 := Scalar.cmpi .eq c2_i32_25 c0_i32_26
  let c1_i32_27 : BitVec 32 := 1#32
  let v42 : BitVec 32 := Scalar.select v41 c1_i32_27 c2_i32_25
  let v43 : BitVec 32 := Scalar.remsi v8 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let c1_i32_31 : BitVec 32 := 1#32
  let v51 : BitVec 1 := Scalar.cmpi .eq v50 c1_i32_31
  let v52 : BitVec 32 := Scalar.extui v51
  let c0_i32_32 : BitVec 32 := 0#32
  let v53 : BitVec 1 := Scalar.cmpi .ne v52 c0_i32_32
  v53

def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_377 : BitVec 32 := 0#32
  let v499 : BitVec 1 := Scalar.cmpi .eq v8 c0_i32_377
  let v500 : BitVec 32 := Scalar.extui v499
  let c0_i32_378 : BitVec 32 := 0#32
  let v501 : BitVec 1 := Scalar.cmpi .ne v500 c0_i32_378
  v501

def k0_dev5 (d0 : Dev nD) : Nat :=
  let c0_i32_415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_414 : BitVec 32 := 8#32
  let v552 : BitVec 32 := Scalar.muli v2 c8_i32_414
  let v553 : BitVec 32 := Scalar.addi c0_i32_415 v552
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_416 : BitVec 32 := 4#32
  let v554 : BitVec 32 := Scalar.muli v5 c4_i32_416
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_417 : BitVec 32 := 1#32
  let v556 : BitVec 32 := Scalar.muli v12 c1_i32_417
  let v557 : BitVec 32 := Scalar.addi v555 v556
  v557.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_379 : BitVec 32 := 1#32
  let v502 : BitVec 1 := Scalar.cmpi .sge v8 c1_i32_379
  let c3_i32_380 : BitVec 32 := 3#32
  let v503 : BitVec 1 := Scalar.cmpi .slt v8 c3_i32_380
  let v504 : BitVec 1 := Scalar.andi v502 v503
  let v505 : BitVec 32 := Scalar.extui v504
  let c0_i32_381 : BitVec 32 := 0#32
  let v506 : BitVec 1 := Scalar.cmpi .ne v505 c0_i32_381
  v506

def k0_dev6 (d0 : Dev nD) : Nat :=
  let c0_i32_430 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_429 : BitVec 32 := 8#32
  let v567 : BitVec 32 := Scalar.muli v2 c8_i32_429
  let v568 : BitVec 32 := Scalar.addi c0_i32_430 v567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_431 : BitVec 32 := 4#32
  let v569 : BitVec 32 := Scalar.muli v5 c4_i32_431
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_432 : BitVec 32 := 1#32
  let v571 : BitVec 32 := Scalar.muli v12 c1_i32_432
  let v572 : BitVec 32 := Scalar.addi v570 v571
  v572.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_382 : BitVec 32 := 3#32
  let v507 : BitVec 1 := Scalar.cmpi .eq v8 c3_i32_382
  let v508 : BitVec 32 := Scalar.extui v507
  let c0_i32_383 : BitVec 32 := 0#32
  let v509 : BitVec 1 := Scalar.cmpi .ne v508 c0_i32_383
  v509

def k0_dev7 (d0 : Dev nD) : Nat :=
  let c0_i32_417 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_416 : BitVec 32 := 8#32
  let v552 : BitVec 32 := Scalar.muli v2 c8_i32_416
  let v553 : BitVec 32 := Scalar.addi c0_i32_417 v552
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_418 : BitVec 32 := 4#32
  let v554 : BitVec 32 := Scalar.muli v5 c4_i32_418
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_419 : BitVec 32 := 1#32
  let v556 : BitVec 32 := Scalar.muli v14 c1_i32_419
  let v557 : BitVec 32 := Scalar.addi v555 v556
  v557.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_384 : BitVec 32 := 2#32
  let v510 : BitVec 1 := Scalar.cmpi .sle v8 c2_i32_384
  let c0_i32_385 : BitVec 32 := 0#32
  let v511 : BitVec 1 := Scalar.cmpi .sgt v8 c0_i32_385
  let v512 : BitVec 1 := Scalar.andi v510 v511
  let v513 : BitVec 32 := Scalar.extui v512
  let c0_i32_386 : BitVec 32 := 0#32
  let v514 : BitVec 1 := Scalar.cmpi .ne v513 c0_i32_386
  v514

def k0_dev8 (d0 : Dev nD) : Nat :=
  let c0_i32_432 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_431 : BitVec 32 := 8#32
  let v567 : BitVec 32 := Scalar.muli v2 c8_i32_431
  let v568 : BitVec 32 := Scalar.addi c0_i32_432 v567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_433 : BitVec 32 := 4#32
  let v569 : BitVec 32 := Scalar.muli v5 c4_i32_433
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_434 : BitVec 32 := 1#32
  let v571 : BitVec 32 := Scalar.muli v14 c1_i32_434
  let v572 : BitVec 32 := Scalar.addi v570 v571
  v572.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_387 : BitVec 32 := 0#32
  let v515 : BitVec 1 := Scalar.cmpi .eq v8 c0_i32_387
  let v516 : BitVec 32 := Scalar.extui v515
  let c0_i32_388 : BitVec 32 := 0#32
  let v517 : BitVec 1 := Scalar.cmpi .ne v516 c0_i32_388
  v517

def k0_dev9 (d0 : Dev nD) : Nat :=
  let c0_i32_415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_414 : BitVec 32 := 8#32
  let v552 : BitVec 32 := Scalar.muli v2 c8_i32_414
  let v553 : BitVec 32 := Scalar.addi c0_i32_415 v552
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_416 : BitVec 32 := 4#32
  let v554 : BitVec 32 := Scalar.muli v5 c4_i32_416
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_417 : BitVec 32 := 1#32
  let v556 : BitVec 32 := Scalar.muli v12 c1_i32_417
  let v557 : BitVec 32 := Scalar.addi v555 v556
  v557.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_389 : BitVec 32 := 1#32
  let v518 : BitVec 1 := Scalar.cmpi .sge v8 c1_i32_389
  let c2_i32_390 : BitVec 32 := 2#32
  let v519 : BitVec 1 := Scalar.cmpi .slt v8 c2_i32_390
  let v520 : BitVec 1 := Scalar.andi v518 v519
  let v521 : BitVec 32 := Scalar.extui v520
  let c0_i32_391 : BitVec 32 := 0#32
  let v522 : BitVec 1 := Scalar.cmpi .ne v521 c0_i32_391
  v522

def k0_dev10 (d0 : Dev nD) : Nat :=
  let c0_i32_430 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_429 : BitVec 32 := 8#32
  let v567 : BitVec 32 := Scalar.muli v2 c8_i32_429
  let v568 : BitVec 32 := Scalar.addi c0_i32_430 v567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_431 : BitVec 32 := 4#32
  let v569 : BitVec 32 := Scalar.muli v5 c4_i32_431
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_432 : BitVec 32 := 1#32
  let v571 : BitVec 32 := Scalar.muli v12 c1_i32_432
  let v572 : BitVec 32 := Scalar.addi v570 v571
  v572.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_392 : BitVec 32 := 3#32
  let v523 : BitVec 1 := Scalar.cmpi .eq v8 c3_i32_392
  let v524 : BitVec 32 := Scalar.extui v523
  let c0_i32_393 : BitVec 32 := 0#32
  let v525 : BitVec 1 := Scalar.cmpi .ne v524 c0_i32_393
  v525

def k0_dev11 (d0 : Dev nD) : Nat :=
  let c0_i32_415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_414 : BitVec 32 := 8#32
  let v552 : BitVec 32 := Scalar.muli v2 c8_i32_414
  let v553 : BitVec 32 := Scalar.addi c0_i32_415 v552
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_416 : BitVec 32 := 4#32
  let v554 : BitVec 32 := Scalar.muli v5 c4_i32_416
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_417 : BitVec 32 := 1#32
  let v556 : BitVec 32 := Scalar.muli v14 c1_i32_417
  let v557 : BitVec 32 := Scalar.addi v555 v556
  v557.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_394 : BitVec 32 := 2#32
  let v526 : BitVec 1 := Scalar.cmpi .sle v8 c2_i32_394
  let c1_i32_395 : BitVec 32 := 1#32
  let v527 : BitVec 1 := Scalar.cmpi .sgt v8 c1_i32_395
  let v528 : BitVec 1 := Scalar.andi v526 v527
  let v529 : BitVec 32 := Scalar.extui v528
  let c0_i32_396 : BitVec 32 := 0#32
  let v530 : BitVec 1 := Scalar.cmpi .ne v529 c0_i32_396
  v530

def k0_dev12 (d0 : Dev nD) : Nat :=
  let c0_i32_430 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_429 : BitVec 32 := 8#32
  let v567 : BitVec 32 := Scalar.muli v2 c8_i32_429
  let v568 : BitVec 32 := Scalar.addi c0_i32_430 v567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_431 : BitVec 32 := 4#32
  let v569 : BitVec 32 := Scalar.muli v5 c4_i32_431
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_432 : BitVec 32 := 1#32
  let v571 : BitVec 32 := Scalar.muli v14 c1_i32_432
  let v572 : BitVec 32 := Scalar.addi v570 v571
  v572.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_397 : BitVec 32 := 0#32
  let v531 : BitVec 1 := Scalar.cmpi .eq v8 c0_i32_397
  let v532 : BitVec 32 := Scalar.extui v531
  let c0_i32_398 : BitVec 32 := 0#32
  let v533 : BitVec 1 := Scalar.cmpi .ne v532 c0_i32_398
  v533

def k0_dev13 (d0 : Dev nD) : Nat :=
  let c0_i32_415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_414 : BitVec 32 := 8#32
  let v552 : BitVec 32 := Scalar.muli v2 c8_i32_414
  let v553 : BitVec 32 := Scalar.addi c0_i32_415 v552
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_416 : BitVec 32 := 4#32
  let v554 : BitVec 32 := Scalar.muli v5 c4_i32_416
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_417 : BitVec 32 := 1#32
  let v556 : BitVec 32 := Scalar.muli v12 c1_i32_417
  let v557 : BitVec 32 := Scalar.addi v555 v556
  v557.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_399 : BitVec 32 := 1#32
  let v534 : BitVec 1 := Scalar.cmpi .sge v8 c1_i32_399
  let c1_i32_400 : BitVec 32 := 1#32
  let v535 : BitVec 1 := Scalar.cmpi .slt v8 c1_i32_400
  let v536 : BitVec 1 := Scalar.andi v534 v535
  let v537 : BitVec 32 := Scalar.extui v536
  let c0_i32_401 : BitVec 32 := 0#32
  let v538 : BitVec 1 := Scalar.cmpi .ne v537 c0_i32_401
  v538

def k0_dev14 (d0 : Dev nD) : Nat :=
  let c0_i32_430 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_429 : BitVec 32 := 8#32
  let v567 : BitVec 32 := Scalar.muli v2 c8_i32_429
  let v568 : BitVec 32 := Scalar.addi c0_i32_430 v567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_431 : BitVec 32 := 4#32
  let v569 : BitVec 32 := Scalar.muli v5 c4_i32_431
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_432 : BitVec 32 := 1#32
  let v571 : BitVec 32 := Scalar.muli v12 c1_i32_432
  let v572 : BitVec 32 := Scalar.addi v570 v571
  v572.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_402 : BitVec 32 := 3#32
  let v539 : BitVec 1 := Scalar.cmpi .eq v8 c3_i32_402
  let v540 : BitVec 32 := Scalar.extui v539
  let c0_i32_403 : BitVec 32 := 0#32
  let v541 : BitVec 1 := Scalar.cmpi .ne v540 c0_i32_403
  v541

def k0_dev15 (d0 : Dev nD) : Nat :=
  let c0_i32_415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_414 : BitVec 32 := 8#32
  let v552 : BitVec 32 := Scalar.muli v2 c8_i32_414
  let v553 : BitVec 32 := Scalar.addi c0_i32_415 v552
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_416 : BitVec 32 := 4#32
  let v554 : BitVec 32 := Scalar.muli v5 c4_i32_416
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_417 : BitVec 32 := 1#32
  let v556 : BitVec 32 := Scalar.muli v14 c1_i32_417
  let v557 : BitVec 32 := Scalar.addi v555 v556
  v557.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_404 : BitVec 32 := 2#32
  let v542 : BitVec 1 := Scalar.cmpi .sle v8 c2_i32_404
  let c2_i32_405 : BitVec 32 := 2#32
  let v543 : BitVec 1 := Scalar.cmpi .sgt v8 c2_i32_405
  let v544 : BitVec 1 := Scalar.andi v542 v543
  let v545 : BitVec 32 := Scalar.extui v544
  let c0_i32_406 : BitVec 32 := 0#32
  let v546 : BitVec 1 := Scalar.cmpi .ne v545 c0_i32_406
  v546

def k0_dev16 (d0 : Dev nD) : Nat :=
  let c0_i32_430 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_429 : BitVec 32 := 8#32
  let v567 : BitVec 32 := Scalar.muli v2 c8_i32_429
  let v568 : BitVec 32 := Scalar.addi c0_i32_430 v567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_431 : BitVec 32 := 4#32
  let v569 : BitVec 32 := Scalar.muli v5 c4_i32_431
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_432 : BitVec 32 := 1#32
  let v571 : BitVec 32 := Scalar.muli v14 c1_i32_432
  let v572 : BitVec 32 := Scalar.addi v570 v571
  v572.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let c0_i32_34 : BitVec 32 := 0#32
  let v54 : BitVec 1 := Scalar.cmpi .eq c2_i32_33 c0_i32_34
  let c1_i32_35 : BitVec 32 := 1#32
  let v55 : BitVec 32 := Scalar.select v54 c1_i32_35 c2_i32_33
  let v56 : BitVec 32 := Scalar.remsi v8 v55
  let c0_i32_37 : BitVec 32 := 0#32
  let v58 : BitVec 1 := Scalar.cmpi .slt v56 c0_i32_37
  let c0_i32_38 : BitVec 32 := 0#32
  let v59 : BitVec 1 := Scalar.cmpi .slt v55 c0_i32_38
  let v60 : BitVec 1 := Scalar.xori v58 v59
  let c0_i32_36 : BitVec 32 := 0#32
  let v57 : BitVec 1 := Scalar.cmpi .ne v56 c0_i32_36
  let v61 : BitVec 1 := Scalar.andi v60 v57
  let v62 : BitVec 32 := Scalar.addi v56 v55
  let v63 : BitVec 32 := Scalar.select v61 v62 v56
  let c0_i32_39 : BitVec 32 := 0#32
  let v64 : BitVec 1 := Scalar.cmpi .eq v63 c0_i32_39
  let v65 : BitVec 32 := Scalar.extui v64
  let c0_i32_40 : BitVec 32 := 0#32
  let v66 : BitVec 1 := Scalar.cmpi .ne v65 c0_i32_40
  v66

def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_377 : BitVec 32 := 3#32
  let v499 : BitVec 1 := Scalar.cmpi .eq v8 c3_i32_377
  let v500 : BitVec 32 := Scalar.extui v499
  let c0_i32_378 : BitVec 32 := 0#32
  let v501 : BitVec 1 := Scalar.cmpi .ne v500 c0_i32_378
  v501

def k0_dev17 (d0 : Dev nD) : Nat :=
  let c0_i32_417 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_416 : BitVec 32 := 8#32
  let v552 : BitVec 32 := Scalar.muli v2 c8_i32_416
  let v553 : BitVec 32 := Scalar.addi c0_i32_417 v552
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_418 : BitVec 32 := 4#32
  let v554 : BitVec 32 := Scalar.muli v5 c4_i32_418
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_419 : BitVec 32 := 1#32
  let v556 : BitVec 32 := Scalar.muli v14 c1_i32_419
  let v557 : BitVec 32 := Scalar.addi v555 v556
  v557.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_379 : BitVec 32 := 2#32
  let v502 : BitVec 1 := Scalar.cmpi .sle v8 c2_i32_379
  let c0_i32_380 : BitVec 32 := 0#32
  let v503 : BitVec 1 := Scalar.cmpi .sgt v8 c0_i32_380
  let v504 : BitVec 1 := Scalar.andi v502 v503
  let v505 : BitVec 32 := Scalar.extui v504
  let c0_i32_381 : BitVec 32 := 0#32
  let v506 : BitVec 1 := Scalar.cmpi .ne v505 c0_i32_381
  v506

def k0_dev18 (d0 : Dev nD) : Nat :=
  let c0_i32_432 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_431 : BitVec 32 := 8#32
  let v567 : BitVec 32 := Scalar.muli v2 c8_i32_431
  let v568 : BitVec 32 := Scalar.addi c0_i32_432 v567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_433 : BitVec 32 := 4#32
  let v569 : BitVec 32 := Scalar.muli v5 c4_i32_433
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_434 : BitVec 32 := 1#32
  let v571 : BitVec 32 := Scalar.muli v14 c1_i32_434
  let v572 : BitVec 32 := Scalar.addi v570 v571
  v572.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_382 : BitVec 32 := 0#32
  let v507 : BitVec 1 := Scalar.cmpi .eq v8 c0_i32_382
  let v508 : BitVec 32 := Scalar.extui v507
  let c0_i32_383 : BitVec 32 := 0#32
  let v509 : BitVec 1 := Scalar.cmpi .ne v508 c0_i32_383
  v509

def k0_dev19 (d0 : Dev nD) : Nat :=
  let c0_i32_415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_414 : BitVec 32 := 8#32
  let v552 : BitVec 32 := Scalar.muli v2 c8_i32_414
  let v553 : BitVec 32 := Scalar.addi c0_i32_415 v552
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_416 : BitVec 32 := 4#32
  let v554 : BitVec 32 := Scalar.muli v5 c4_i32_416
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_417 : BitVec 32 := 1#32
  let v556 : BitVec 32 := Scalar.muli v12 c1_i32_417
  let v557 : BitVec 32 := Scalar.addi v555 v556
  v557.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_384 : BitVec 32 := 1#32
  let v510 : BitVec 1 := Scalar.cmpi .sge v8 c1_i32_384
  let c3_i32_385 : BitVec 32 := 3#32
  let v511 : BitVec 1 := Scalar.cmpi .slt v8 c3_i32_385
  let v512 : BitVec 1 := Scalar.andi v510 v511
  let v513 : BitVec 32 := Scalar.extui v512
  let c0_i32_386 : BitVec 32 := 0#32
  let v514 : BitVec 1 := Scalar.cmpi .ne v513 c0_i32_386
  v514

def k0_dev20 (d0 : Dev nD) : Nat :=
  let c0_i32_430 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_429 : BitVec 32 := 8#32
  let v567 : BitVec 32 := Scalar.muli v2 c8_i32_429
  let v568 : BitVec 32 := Scalar.addi c0_i32_430 v567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_431 : BitVec 32 := 4#32
  let v569 : BitVec 32 := Scalar.muli v5 c4_i32_431
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_432 : BitVec 32 := 1#32
  let v571 : BitVec 32 := Scalar.muli v12 c1_i32_432
  let v572 : BitVec 32 := Scalar.addi v570 v571
  v572.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_387 : BitVec 32 := 3#32
  let v515 : BitVec 1 := Scalar.cmpi .eq v8 c3_i32_387
  let v516 : BitVec 32 := Scalar.extui v515
  let c0_i32_388 : BitVec 32 := 0#32
  let v517 : BitVec 1 := Scalar.cmpi .ne v516 c0_i32_388
  v517

def k0_dev21 (d0 : Dev nD) : Nat :=
  let c0_i32_415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_414 : BitVec 32 := 8#32
  let v552 : BitVec 32 := Scalar.muli v2 c8_i32_414
  let v553 : BitVec 32 := Scalar.addi c0_i32_415 v552
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_416 : BitVec 32 := 4#32
  let v554 : BitVec 32 := Scalar.muli v5 c4_i32_416
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_417 : BitVec 32 := 1#32
  let v556 : BitVec 32 := Scalar.muli v14 c1_i32_417
  let v557 : BitVec 32 := Scalar.addi v555 v556
  v557.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_389 : BitVec 32 := 2#32
  let v518 : BitVec 1 := Scalar.cmpi .sle v8 c2_i32_389
  let c1_i32_390 : BitVec 32 := 1#32
  let v519 : BitVec 1 := Scalar.cmpi .sgt v8 c1_i32_390
  let v520 : BitVec 1 := Scalar.andi v518 v519
  let v521 : BitVec 32 := Scalar.extui v520
  let c0_i32_391 : BitVec 32 := 0#32
  let v522 : BitVec 1 := Scalar.cmpi .ne v521 c0_i32_391
  v522

def k0_dev22 (d0 : Dev nD) : Nat :=
  let c0_i32_430 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_429 : BitVec 32 := 8#32
  let v567 : BitVec 32 := Scalar.muli v2 c8_i32_429
  let v568 : BitVec 32 := Scalar.addi c0_i32_430 v567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_431 : BitVec 32 := 4#32
  let v569 : BitVec 32 := Scalar.muli v5 c4_i32_431
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_432 : BitVec 32 := 1#32
  let v571 : BitVec 32 := Scalar.muli v14 c1_i32_432
  let v572 : BitVec 32 := Scalar.addi v570 v571
  v572.toNat
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_392 : BitVec 32 := 0#32
  let v523 : BitVec 1 := Scalar.cmpi .eq v8 c0_i32_392
  let v524 : BitVec 32 := Scalar.extui v523
  let c0_i32_393 : BitVec 32 := 0#32
  let v525 : BitVec 1 := Scalar.cmpi .ne v524 c0_i32_393
  v525

def k0_dev23 (d0 : Dev nD) : Nat :=
  let c0_i32_415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_414 : BitVec 32 := 8#32
  let v552 : BitVec 32 := Scalar.muli v2 c8_i32_414
  let v553 : BitVec 32 := Scalar.addi c0_i32_415 v552
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_416 : BitVec 32 := 4#32
  let v554 : BitVec 32 := Scalar.muli v5 c4_i32_416
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_417 : BitVec 32 := 1#32
  let v556 : BitVec 32 := Scalar.muli v12 c1_i32_417
  let v557 : BitVec 32 := Scalar.addi v555 v556
  v557.toNat
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_394 : BitVec 32 := 1#32
  let v526 : BitVec 1 := Scalar.cmpi .sge v8 c1_i32_394
  let c2_i32_395 : BitVec 32 := 2#32
  let v527 : BitVec 1 := Scalar.cmpi .slt v8 c2_i32_395
  let v528 : BitVec 1 := Scalar.andi v526 v527
  let v529 : BitVec 32 := Scalar.extui v528
  let c0_i32_396 : BitVec 32 := 0#32
  let v530 : BitVec 1 := Scalar.cmpi .ne v529 c0_i32_396
  v530

def k0_dev24 (d0 : Dev nD) : Nat :=
  let c0_i32_430 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_429 : BitVec 32 := 8#32
  let v567 : BitVec 32 := Scalar.muli v2 c8_i32_429
  let v568 : BitVec 32 := Scalar.addi c0_i32_430 v567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_431 : BitVec 32 := 4#32
  let v569 : BitVec 32 := Scalar.muli v5 c4_i32_431
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_432 : BitVec 32 := 1#32
  let v571 : BitVec 32 := Scalar.muli v12 c1_i32_432
  let v572 : BitVec 32 := Scalar.addi v570 v571
  v572.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_397 : BitVec 32 := 3#32
  let v531 : BitVec 1 := Scalar.cmpi .eq v8 c3_i32_397
  let v532 : BitVec 32 := Scalar.extui v531
  let c0_i32_398 : BitVec 32 := 0#32
  let v533 : BitVec 1 := Scalar.cmpi .ne v532 c0_i32_398
  v533

def k0_dev25 (d0 : Dev nD) : Nat :=
  let c0_i32_415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_414 : BitVec 32 := 8#32
  let v552 : BitVec 32 := Scalar.muli v2 c8_i32_414
  let v553 : BitVec 32 := Scalar.addi c0_i32_415 v552
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_416 : BitVec 32 := 4#32
  let v554 : BitVec 32 := Scalar.muli v5 c4_i32_416
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_417 : BitVec 32 := 1#32
  let v556 : BitVec 32 := Scalar.muli v14 c1_i32_417
  let v557 : BitVec 32 := Scalar.addi v555 v556
  v557.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_399 : BitVec 32 := 2#32
  let v534 : BitVec 1 := Scalar.cmpi .sle v8 c2_i32_399
  let c2_i32_400 : BitVec 32 := 2#32
  let v535 : BitVec 1 := Scalar.cmpi .sgt v8 c2_i32_400
  let v536 : BitVec 1 := Scalar.andi v534 v535
  let v537 : BitVec 32 := Scalar.extui v536
  let c0_i32_401 : BitVec 32 := 0#32
  let v538 : BitVec 1 := Scalar.cmpi .ne v537 c0_i32_401
  v538

def k0_dev26 (d0 : Dev nD) : Nat :=
  let c0_i32_430 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_429 : BitVec 32 := 8#32
  let v567 : BitVec 32 := Scalar.muli v2 c8_i32_429
  let v568 : BitVec 32 := Scalar.addi c0_i32_430 v567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_431 : BitVec 32 := 4#32
  let v569 : BitVec 32 := Scalar.muli v5 c4_i32_431
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_432 : BitVec 32 := 1#32
  let v571 : BitVec 32 := Scalar.muli v14 c1_i32_432
  let v572 : BitVec 32 := Scalar.addi v570 v571
  v572.toNat
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_402 : BitVec 32 := 0#32
  let v539 : BitVec 1 := Scalar.cmpi .eq v8 c0_i32_402
  let v540 : BitVec 32 := Scalar.extui v539
  let c0_i32_403 : BitVec 32 := 0#32
  let v541 : BitVec 1 := Scalar.cmpi .ne v540 c0_i32_403
  v541

def k0_dev27 (d0 : Dev nD) : Nat :=
  let c0_i32_415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_414 : BitVec 32 := 8#32
  let v552 : BitVec 32 := Scalar.muli v2 c8_i32_414
  let v553 : BitVec 32 := Scalar.addi c0_i32_415 v552
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_416 : BitVec 32 := 4#32
  let v554 : BitVec 32 := Scalar.muli v5 c4_i32_416
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_417 : BitVec 32 := 1#32
  let v556 : BitVec 32 := Scalar.muli v12 c1_i32_417
  let v557 : BitVec 32 := Scalar.addi v555 v556
  v557.toNat
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_404 : BitVec 32 := 1#32
  let v542 : BitVec 1 := Scalar.cmpi .sge v8 c1_i32_404
  let c1_i32_405 : BitVec 32 := 1#32
  let v543 : BitVec 1 := Scalar.cmpi .slt v8 c1_i32_405
  let v544 : BitVec 1 := Scalar.andi v542 v543
  let v545 : BitVec 32 := Scalar.extui v544
  let c0_i32_406 : BitVec 32 := 0#32
  let v546 : BitVec 1 := Scalar.cmpi .ne v545 c0_i32_406
  v546

def k0_dev28 (d0 : Dev nD) : Nat :=
  let c0_i32_430 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_429 : BitVec 32 := 8#32
  let v567 : BitVec 32 := Scalar.muli v2 c8_i32_429
  let v568 : BitVec 32 := Scalar.addi c0_i32_430 v567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_431 : BitVec 32 := 4#32
  let v569 : BitVec 32 := Scalar.muli v5 c4_i32_431
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_432 : BitVec 32 := 1#32
  let v571 : BitVec 32 := Scalar.muli v12 c1_i32_432
  let v572 : BitVec 32 := Scalar.addi v570 v571
  v572.toNat
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_41 : BitVec 32 := 0#32
  let v67 : BitVec 1 := Scalar.cmpi .eq v8 c0_i32_41
  let v68 : BitVec 32 := Scalar.extui v67
  let c0_i32_42 : BitVec 32 := 0#32
  let v69 : BitVec 1 := Scalar.cmpi .ne v68 c0_i32_42
  v69

def k0_dev29 (d0 : Dev nD) : Nat :=
  let c0_i32_384 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_383 : BitVec 32 := 8#32
  let v504 : BitVec 32 := Scalar.muli v2 c8_i32_383
  let v505 : BitVec 32 := Scalar.addi c0_i32_384 v504
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_385 : BitVec 32 := 4#32
  let v506 : BitVec 32 := Scalar.muli v5 c4_i32_385
  let v507 : BitVec 32 := Scalar.addi v505 v506
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_386 : BitVec 32 := 1#32
  let v508 : BitVec 32 := Scalar.muli v12 c1_i32_386
  let v509 : BitVec 32 := Scalar.addi v507 v508
  v509.toNat
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_43 : BitVec 32 := 0#32
  let v70 : BitVec 1 := Scalar.cmpi .eq v8 c0_i32_43
  let v71 : BitVec 32 := Scalar.extui v70
  let c0_i32_44 : BitVec 32 := 0#32
  let v72 : BitVec 1 := Scalar.cmpi .ne v71 c0_i32_44
  v72

def k0_dev30 (d0 : Dev nD) : Nat :=
  let c0_i32_384 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_383 : BitVec 32 := 8#32
  let v504 : BitVec 32 := Scalar.muli v2 c8_i32_383
  let v505 : BitVec 32 := Scalar.addi c0_i32_384 v504
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_385 : BitVec 32 := 4#32
  let v506 : BitVec 32 := Scalar.muli v5 c4_i32_385
  let v507 : BitVec 32 := Scalar.addi v505 v506
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_386 : BitVec 32 := 1#32
  let v508 : BitVec 32 := Scalar.muli v12 c1_i32_386
  let v509 : BitVec 32 := Scalar.addi v507 v508
  v509.toNat
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_45 : BitVec 32 := 0#32
  let v73 : BitVec 1 := Scalar.cmpi .eq v8 c0_i32_45
  let v74 : BitVec 32 := Scalar.extui v73
  let c0_i32_46 : BitVec 32 := 0#32
  let v75 : BitVec 1 := Scalar.cmpi .ne v74 c0_i32_46
  v75

def k0_dev31 (d0 : Dev nD) : Nat :=
  let c0_i32_384 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_383 : BitVec 32 := 8#32
  let v504 : BitVec 32 := Scalar.muli v2 c8_i32_383
  let v505 : BitVec 32 := Scalar.addi c0_i32_384 v504
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_385 : BitVec 32 := 4#32
  let v506 : BitVec 32 := Scalar.muli v5 c4_i32_385
  let v507 : BitVec 32 := Scalar.addi v505 v506
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_386 : BitVec 32 := 1#32
  let v508 : BitVec 32 := Scalar.muli v12 c1_i32_386
  let v509 : BitVec 32 := Scalar.addi v507 v508
  v509.toNat
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_47 : BitVec 32 := 3#32
  let v76 : BitVec 1 := Scalar.cmpi .eq v8 c3_i32_47
  let v77 : BitVec 32 := Scalar.extui v76
  let c0_i32_48 : BitVec 32 := 0#32
  let v78 : BitVec 1 := Scalar.cmpi .ne v77 c0_i32_48
  v78

def k0_dev32 (d0 : Dev nD) : Nat :=
  let c0_i32_385 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_384 : BitVec 32 := 8#32
  let v504 : BitVec 32 := Scalar.muli v2 c8_i32_384
  let v505 : BitVec 32 := Scalar.addi c0_i32_385 v504
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_386 : BitVec 32 := 4#32
  let v506 : BitVec 32 := Scalar.muli v5 c4_i32_386
  let v507 : BitVec 32 := Scalar.addi v505 v506
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_387 : BitVec 32 := 1#32
  let v508 : BitVec 32 := Scalar.muli v14 c1_i32_387
  let v509 : BitVec 32 := Scalar.addi v507 v508
  v509.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_49 : BitVec 32 := 3#32
  let v79 : BitVec 1 := Scalar.cmpi .eq v8 c3_i32_49
  let v80 : BitVec 32 := Scalar.extui v79
  let c0_i32_50 : BitVec 32 := 0#32
  let v81 : BitVec 1 := Scalar.cmpi .ne v80 c0_i32_50
  v81

def k0_dev33 (d0 : Dev nD) : Nat :=
  let c0_i32_384 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_383 : BitVec 32 := 8#32
  let v504 : BitVec 32 := Scalar.muli v2 c8_i32_383
  let v505 : BitVec 32 := Scalar.addi c0_i32_384 v504
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_385 : BitVec 32 := 4#32
  let v506 : BitVec 32 := Scalar.muli v5 c4_i32_385
  let v507 : BitVec 32 := Scalar.addi v505 v506
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_386 : BitVec 32 := 1#32
  let v508 : BitVec 32 := Scalar.muli v14 c1_i32_386
  let v509 : BitVec 32 := Scalar.addi v507 v508
  v509.toNat
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_51 : BitVec 32 := 3#32
  let v82 : BitVec 1 := Scalar.cmpi .eq v8 c3_i32_51
  let v83 : BitVec 32 := Scalar.extui v82
  let c0_i32_52 : BitVec 32 := 0#32
  let v84 : BitVec 1 := Scalar.cmpi .ne v83 c0_i32_52
  v84

def k0_dev34 (d0 : Dev nD) : Nat :=
  let c0_i32_384 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_383 : BitVec 32 := 8#32
  let v504 : BitVec 32 := Scalar.muli v2 c8_i32_383
  let v505 : BitVec 32 := Scalar.addi c0_i32_384 v504
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_385 : BitVec 32 := 4#32
  let v506 : BitVec 32 := Scalar.muli v5 c4_i32_385
  let v507 : BitVec 32 := Scalar.addi v505 v506
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_386 : BitVec 32 := 1#32
  let v508 : BitVec 32 := Scalar.muli v14 c1_i32_386
  let v509 : BitVec 32 := Scalar.addi v507 v508
  v509.toNat
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_59 : BitVec 32 := 0#32
  let v94 : BitVec 1 := Scalar.cmpi .eq v8 c0_i32_59
  let v95 : BitVec 32 := Scalar.extui v94
  let c0_i32_60 : BitVec 32 := 0#32
  let v96 : BitVec 1 := Scalar.cmpi .ne v95 c0_i32_60
  v96

def k0_off1 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_386 : BitVec 32 := 256#32
  let v522 : BitVec 32 := Scalar.muli v10 c256_i32_386
  let c0_i32_387 : BitVec 32 := 0#32
  let v523 : BitVec 32 := Scalar.addi v522 c0_i32_387
  let v524 : Index := Scalar.indexCast v523
  let c0_388 : Index := 0#32
  ![v524.toNat, 0]
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v103 : BitVec 1 := Scalar.cmpi .eq v8 c1_i32_65
  let v104 : BitVec 32 := Scalar.extui v103
  let c0_i32_66 : BitVec 32 := 0#32
  let v105 : BitVec 1 := Scalar.cmpi .ne v104 c0_i32_66
  v105

def k0_off2 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_387 : BitVec 32 := 256#32
  let v526 : BitVec 32 := Scalar.muli v10 c256_i32_387
  let c0_i32_388 : BitVec 32 := 0#32
  let v527 : BitVec 32 := Scalar.addi v526 c0_i32_388
  let v528 : Index := Scalar.indexCast v527
  let c0_389 : Index := 0#32
  ![v528.toNat, 0]
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_71 : BitVec 32 := 2#32
  let v112 : BitVec 1 := Scalar.cmpi .eq v8 c2_i32_71
  let v113 : BitVec 32 := Scalar.extui v112
  let c0_i32_72 : BitVec 32 := 0#32
  let v114 : BitVec 1 := Scalar.cmpi .ne v113 c0_i32_72
  v114

def k0_off3 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_387 : BitVec 32 := 256#32
  let v526 : BitVec 32 := Scalar.muli v10 c256_i32_387
  let c0_i32_388 : BitVec 32 := 0#32
  let v527 : BitVec 32 := Scalar.addi v526 c0_i32_388
  let v528 : Index := Scalar.indexCast v527
  let c0_389 : Index := 0#32
  ![v528.toNat, 0]
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_75 : BitVec 32 := 3#32
  let v118 : BitVec 1 := Scalar.cmpi .eq v8 c3_i32_75
  let v119 : BitVec 32 := Scalar.extui v118
  let c0_i32_76 : BitVec 32 := 0#32
  let v120 : BitVec 1 := Scalar.cmpi .ne v119 c0_i32_76
  v120

def k0_off4 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_384 : BitVec 32 := 256#32
  let v522 : BitVec 32 := Scalar.muli v10 c256_i32_384
  let c0_i32_385 : BitVec 32 := 0#32
  let v523 : BitVec 32 := Scalar.addi v522 c0_i32_385
  let v524 : Index := Scalar.indexCast v523
  let c0_386 : Index := 0#32
  ![v524.toNat, 0]
def k0_off5 (d0 : Dev nD) (c0_i32_77 : BitVec 32) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v121 : BitVec 32 := Scalar.muli v10 c256_i32
  let v122 : BitVec 32 := Scalar.addi v121 c0_i32_77
  let c0_i32_85 : BitVec 32 := 0#32
  ![v122.toNat, 0]
def k0_dev35 (d0 : Dev nD) : Nat :=
  let c0_i32_82 : BitVec 32 := 0#32
  let c1_i32_78 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v123 : BitVec 32 := Scalar.subi c1_i32_78 v2
  let c8_i32_81 : BitVec 32 := 8#32
  let v124 : BitVec 32 := Scalar.muli v123 c8_i32_81
  let v125 : BitVec 32 := Scalar.addi c0_i32_82 v124
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_83 : BitVec 32 := 4#32
  let v126 : BitVec 32 := Scalar.muli v5 c4_i32_83
  let v127 : BitVec 32 := Scalar.addi v125 v126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v128 : BitVec 32 := Scalar.muli v8 c1_i32_84
  let v129 : BitVec 32 := Scalar.addi v127 v128
  v129.toNat
def k0_dev36 (d0 : Dev nD) : Nat :=
  let c0_i32_93 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_92 : BitVec 32 := 8#32
  let v139 : BitVec 32 := Scalar.muli v2 c8_i32_92
  let v140 : BitVec 32 := Scalar.addi c0_i32_93 v139
  let c1_i32_89 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v138 : BitVec 32 := Scalar.subi c1_i32_89 v5
  let c4_i32_94 : BitVec 32 := 4#32
  let v141 : BitVec 32 := Scalar.muli v138 c4_i32_94
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v143 : BitVec 32 := Scalar.muli v8 c1_i32_95
  let v144 : BitVec 32 := Scalar.addi v142 v143
  v144.toNat
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_98 : BitVec 32 := 2#32
  let c0_i32_99 : BitVec 32 := 0#32
  let v151 : BitVec 1 := Scalar.cmpi .eq c2_i32_98 c0_i32_99
  let c1_i32_100 : BitVec 32 := 1#32
  let v152 : BitVec 32 := Scalar.select v151 c1_i32_100 c2_i32_98
  let v153 : BitVec 32 := Scalar.remsi v8 v152
  let c0_i32_102 : BitVec 32 := 0#32
  let v155 : BitVec 1 := Scalar.cmpi .slt v153 c0_i32_102
  let c0_i32_103 : BitVec 32 := 0#32
  let v156 : BitVec 1 := Scalar.cmpi .slt v152 c0_i32_103
  let v157 : BitVec 1 := Scalar.xori v155 v156
  let c0_i32_101 : BitVec 32 := 0#32
  let v154 : BitVec 1 := Scalar.cmpi .ne v153 c0_i32_101
  let v158 : BitVec 1 := Scalar.andi v157 v154
  let v159 : BitVec 32 := Scalar.addi v153 v152
  let v160 : BitVec 32 := Scalar.select v158 v159 v153
  let c1_i32_104 : BitVec 32 := 1#32
  let v161 : BitVec 1 := Scalar.cmpi .eq v160 c1_i32_104
  let v162 : BitVec 32 := Scalar.extui v161
  let c0_i32_105 : BitVec 32 := 0#32
  let v163 : BitVec 1 := Scalar.cmpi .ne v162 c0_i32_105
  v163

def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_377 : BitVec 32 := 1#32
  let v499 : BitVec 1 := Scalar.cmpi .sge v8 c1_i32_377
  let c3_i32_378 : BitVec 32 := 3#32
  let v500 : BitVec 1 := Scalar.cmpi .slt v8 c3_i32_378
  let v501 : BitVec 1 := Scalar.andi v499 v500
  let v502 : BitVec 32 := Scalar.extui v501
  let c0_i32_379 : BitVec 32 := 0#32
  let v503 : BitVec 1 := Scalar.cmpi .ne v502 c0_i32_379
  v503

def k0_dev37 (d0 : Dev nD) : Nat :=
  let c0_i32_417 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_416 : BitVec 32 := 8#32
  let v549 : BitVec 32 := Scalar.muli v2 c8_i32_416
  let v550 : BitVec 32 := Scalar.addi c0_i32_417 v549
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_418 : BitVec 32 := 4#32
  let v551 : BitVec 32 := Scalar.muli v5 c4_i32_418
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_419 : BitVec 32 := 1#32
  let v553 : BitVec 32 := Scalar.muli v12 c1_i32_419
  let v554 : BitVec 32 := Scalar.addi v552 v553
  v554.toNat
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_380 : BitVec 32 := 2#32
  let v504 : BitVec 1 := Scalar.cmpi .sle v8 c2_i32_380
  let c0_i32_381 : BitVec 32 := 0#32
  let v505 : BitVec 1 := Scalar.cmpi .sgt v8 c0_i32_381
  let v506 : BitVec 1 := Scalar.andi v504 v505
  let v507 : BitVec 32 := Scalar.extui v506
  let c0_i32_382 : BitVec 32 := 0#32
  let v508 : BitVec 1 := Scalar.cmpi .ne v507 c0_i32_382
  v508

def k0_dev38 (d0 : Dev nD) : Nat :=
  let c0_i32_418 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_417 : BitVec 32 := 8#32
  let v549 : BitVec 32 := Scalar.muli v2 c8_i32_417
  let v550 : BitVec 32 := Scalar.addi c0_i32_418 v549
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_419 : BitVec 32 := 4#32
  let v551 : BitVec 32 := Scalar.muli v5 c4_i32_419
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_420 : BitVec 32 := 1#32
  let v553 : BitVec 32 := Scalar.muli v14 c1_i32_420
  let v554 : BitVec 32 := Scalar.addi v552 v553
  v554.toNat
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_383 : BitVec 32 := 1#32
  let v509 : BitVec 1 := Scalar.cmpi .sge v8 c1_i32_383
  let c2_i32_384 : BitVec 32 := 2#32
  let v510 : BitVec 1 := Scalar.cmpi .slt v8 c2_i32_384
  let v511 : BitVec 1 := Scalar.andi v509 v510
  let v512 : BitVec 32 := Scalar.extui v511
  let c0_i32_385 : BitVec 32 := 0#32
  let v513 : BitVec 1 := Scalar.cmpi .ne v512 c0_i32_385
  v513

def k0_dev39 (d0 : Dev nD) : Nat :=
  let c0_i32_417 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_416 : BitVec 32 := 8#32
  let v549 : BitVec 32 := Scalar.muli v2 c8_i32_416
  let v550 : BitVec 32 := Scalar.addi c0_i32_417 v549
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_418 : BitVec 32 := 4#32
  let v551 : BitVec 32 := Scalar.muli v5 c4_i32_418
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_419 : BitVec 32 := 1#32
  let v553 : BitVec 32 := Scalar.muli v12 c1_i32_419
  let v554 : BitVec 32 := Scalar.addi v552 v553
  v554.toNat
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_386 : BitVec 32 := 2#32
  let v514 : BitVec 1 := Scalar.cmpi .sle v8 c2_i32_386
  let c1_i32_387 : BitVec 32 := 1#32
  let v515 : BitVec 1 := Scalar.cmpi .sgt v8 c1_i32_387
  let v516 : BitVec 1 := Scalar.andi v514 v515
  let v517 : BitVec 32 := Scalar.extui v516
  let c0_i32_388 : BitVec 32 := 0#32
  let v518 : BitVec 1 := Scalar.cmpi .ne v517 c0_i32_388
  v518

def k0_dev40 (d0 : Dev nD) : Nat :=
  let c0_i32_417 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_416 : BitVec 32 := 8#32
  let v549 : BitVec 32 := Scalar.muli v2 c8_i32_416
  let v550 : BitVec 32 := Scalar.addi c0_i32_417 v549
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_418 : BitVec 32 := 4#32
  let v551 : BitVec 32 := Scalar.muli v5 c4_i32_418
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_419 : BitVec 32 := 1#32
  let v553 : BitVec 32 := Scalar.muli v14 c1_i32_419
  let v554 : BitVec 32 := Scalar.addi v552 v553
  v554.toNat
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_389 : BitVec 32 := 1#32
  let v519 : BitVec 1 := Scalar.cmpi .sge v8 c1_i32_389
  let c1_i32_390 : BitVec 32 := 1#32
  let v520 : BitVec 1 := Scalar.cmpi .slt v8 c1_i32_390
  let v521 : BitVec 1 := Scalar.andi v519 v520
  let v522 : BitVec 32 := Scalar.extui v521
  let c0_i32_391 : BitVec 32 := 0#32
  let v523 : BitVec 1 := Scalar.cmpi .ne v522 c0_i32_391
  v523

def k0_dev41 (d0 : Dev nD) : Nat :=
  let c0_i32_417 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_416 : BitVec 32 := 8#32
  let v549 : BitVec 32 := Scalar.muli v2 c8_i32_416
  let v550 : BitVec 32 := Scalar.addi c0_i32_417 v549
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_418 : BitVec 32 := 4#32
  let v551 : BitVec 32 := Scalar.muli v5 c4_i32_418
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_419 : BitVec 32 := 1#32
  let v553 : BitVec 32 := Scalar.muli v12 c1_i32_419
  let v554 : BitVec 32 := Scalar.addi v552 v553
  v554.toNat
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_392 : BitVec 32 := 2#32
  let v524 : BitVec 1 := Scalar.cmpi .sle v8 c2_i32_392
  let c2_i32_393 : BitVec 32 := 2#32
  let v525 : BitVec 1 := Scalar.cmpi .sgt v8 c2_i32_393
  let v526 : BitVec 1 := Scalar.andi v524 v525
  let v527 : BitVec 32 := Scalar.extui v526
  let c0_i32_394 : BitVec 32 := 0#32
  let v528 : BitVec 1 := Scalar.cmpi .ne v527 c0_i32_394
  v528

def k0_dev42 (d0 : Dev nD) : Nat :=
  let c0_i32_417 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_416 : BitVec 32 := 8#32
  let v549 : BitVec 32 := Scalar.muli v2 c8_i32_416
  let v550 : BitVec 32 := Scalar.addi c0_i32_417 v549
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_418 : BitVec 32 := 4#32
  let v551 : BitVec 32 := Scalar.muli v5 c4_i32_418
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_419 : BitVec 32 := 1#32
  let v553 : BitVec 32 := Scalar.muli v14 c1_i32_419
  let v554 : BitVec 32 := Scalar.addi v552 v553
  v554.toNat
def k0_cond53 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_106 : BitVec 32 := 2#32
  let c0_i32_107 : BitVec 32 := 0#32
  let v164 : BitVec 1 := Scalar.cmpi .eq c2_i32_106 c0_i32_107
  let c1_i32_108 : BitVec 32 := 1#32
  let v165 : BitVec 32 := Scalar.select v164 c1_i32_108 c2_i32_106
  let v166 : BitVec 32 := Scalar.remsi v8 v165
  let c0_i32_110 : BitVec 32 := 0#32
  let v168 : BitVec 1 := Scalar.cmpi .slt v166 c0_i32_110
  let c0_i32_111 : BitVec 32 := 0#32
  let v169 : BitVec 1 := Scalar.cmpi .slt v165 c0_i32_111
  let v170 : BitVec 1 := Scalar.xori v168 v169
  let c0_i32_109 : BitVec 32 := 0#32
  let v167 : BitVec 1 := Scalar.cmpi .ne v166 c0_i32_109
  let v171 : BitVec 1 := Scalar.andi v170 v167
  let v172 : BitVec 32 := Scalar.addi v166 v165
  let v173 : BitVec 32 := Scalar.select v171 v172 v166
  let c0_i32_112 : BitVec 32 := 0#32
  let v174 : BitVec 1 := Scalar.cmpi .eq v173 c0_i32_112
  let v175 : BitVec 32 := Scalar.extui v174
  let c0_i32_113 : BitVec 32 := 0#32
  let v176 : BitVec 1 := Scalar.cmpi .ne v175 c0_i32_113
  v176

def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_377 : BitVec 32 := 2#32
  let v499 : BitVec 1 := Scalar.cmpi .sle v8 c2_i32_377
  let c0_i32_378 : BitVec 32 := 0#32
  let v500 : BitVec 1 := Scalar.cmpi .sgt v8 c0_i32_378
  let v501 : BitVec 1 := Scalar.andi v499 v500
  let v502 : BitVec 32 := Scalar.extui v501
  let c0_i32_379 : BitVec 32 := 0#32
  let v503 : BitVec 1 := Scalar.cmpi .ne v502 c0_i32_379
  v503

def k0_dev43 (d0 : Dev nD) : Nat :=
  let c0_i32_418 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_417 : BitVec 32 := 8#32
  let v549 : BitVec 32 := Scalar.muli v2 c8_i32_417
  let v550 : BitVec 32 := Scalar.addi c0_i32_418 v549
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_419 : BitVec 32 := 4#32
  let v551 : BitVec 32 := Scalar.muli v5 c4_i32_419
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_420 : BitVec 32 := 1#32
  let v553 : BitVec 32 := Scalar.muli v14 c1_i32_420
  let v554 : BitVec 32 := Scalar.addi v552 v553
  v554.toNat
def k0_cond55 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_380 : BitVec 32 := 1#32
  let v504 : BitVec 1 := Scalar.cmpi .sge v8 c1_i32_380
  let c3_i32_381 : BitVec 32 := 3#32
  let v505 : BitVec 1 := Scalar.cmpi .slt v8 c3_i32_381
  let v506 : BitVec 1 := Scalar.andi v504 v505
  let v507 : BitVec 32 := Scalar.extui v506
  let c0_i32_382 : BitVec 32 := 0#32
  let v508 : BitVec 1 := Scalar.cmpi .ne v507 c0_i32_382
  v508

def k0_dev44 (d0 : Dev nD) : Nat :=
  let c0_i32_417 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_416 : BitVec 32 := 8#32
  let v549 : BitVec 32 := Scalar.muli v2 c8_i32_416
  let v550 : BitVec 32 := Scalar.addi c0_i32_417 v549
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_418 : BitVec 32 := 4#32
  let v551 : BitVec 32 := Scalar.muli v5 c4_i32_418
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_419 : BitVec 32 := 1#32
  let v553 : BitVec 32 := Scalar.muli v12 c1_i32_419
  let v554 : BitVec 32 := Scalar.addi v552 v553
  v554.toNat
def k0_cond56 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_383 : BitVec 32 := 2#32
  let v509 : BitVec 1 := Scalar.cmpi .sle v8 c2_i32_383
  let c1_i32_384 : BitVec 32 := 1#32
  let v510 : BitVec 1 := Scalar.cmpi .sgt v8 c1_i32_384
  let v511 : BitVec 1 := Scalar.andi v509 v510
  let v512 : BitVec 32 := Scalar.extui v511
  let c0_i32_385 : BitVec 32 := 0#32
  let v513 : BitVec 1 := Scalar.cmpi .ne v512 c0_i32_385
  v513

def k0_dev45 (d0 : Dev nD) : Nat :=
  let c0_i32_417 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_416 : BitVec 32 := 8#32
  let v549 : BitVec 32 := Scalar.muli v2 c8_i32_416
  let v550 : BitVec 32 := Scalar.addi c0_i32_417 v549
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_418 : BitVec 32 := 4#32
  let v551 : BitVec 32 := Scalar.muli v5 c4_i32_418
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_419 : BitVec 32 := 1#32
  let v553 : BitVec 32 := Scalar.muli v14 c1_i32_419
  let v554 : BitVec 32 := Scalar.addi v552 v553
  v554.toNat
def k0_cond57 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_386 : BitVec 32 := 1#32
  let v514 : BitVec 1 := Scalar.cmpi .sge v8 c1_i32_386
  let c2_i32_387 : BitVec 32 := 2#32
  let v515 : BitVec 1 := Scalar.cmpi .slt v8 c2_i32_387
  let v516 : BitVec 1 := Scalar.andi v514 v515
  let v517 : BitVec 32 := Scalar.extui v516
  let c0_i32_388 : BitVec 32 := 0#32
  let v518 : BitVec 1 := Scalar.cmpi .ne v517 c0_i32_388
  v518

def k0_dev46 (d0 : Dev nD) : Nat :=
  let c0_i32_417 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_416 : BitVec 32 := 8#32
  let v549 : BitVec 32 := Scalar.muli v2 c8_i32_416
  let v550 : BitVec 32 := Scalar.addi c0_i32_417 v549
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_418 : BitVec 32 := 4#32
  let v551 : BitVec 32 := Scalar.muli v5 c4_i32_418
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_419 : BitVec 32 := 1#32
  let v553 : BitVec 32 := Scalar.muli v12 c1_i32_419
  let v554 : BitVec 32 := Scalar.addi v552 v553
  v554.toNat
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_389 : BitVec 32 := 2#32
  let v519 : BitVec 1 := Scalar.cmpi .sle v8 c2_i32_389
  let c2_i32_390 : BitVec 32 := 2#32
  let v520 : BitVec 1 := Scalar.cmpi .sgt v8 c2_i32_390
  let v521 : BitVec 1 := Scalar.andi v519 v520
  let v522 : BitVec 32 := Scalar.extui v521
  let c0_i32_391 : BitVec 32 := 0#32
  let v523 : BitVec 1 := Scalar.cmpi .ne v522 c0_i32_391
  v523

def k0_dev47 (d0 : Dev nD) : Nat :=
  let c0_i32_417 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_416 : BitVec 32 := 8#32
  let v549 : BitVec 32 := Scalar.muli v2 c8_i32_416
  let v550 : BitVec 32 := Scalar.addi c0_i32_417 v549
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_418 : BitVec 32 := 4#32
  let v551 : BitVec 32 := Scalar.muli v5 c4_i32_418
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32 : BitVec 32 := 0#32
  let v14 : BitVec 32 := Scalar.maxsi v13 c0_i32
  let c1_i32_419 : BitVec 32 := 1#32
  let v553 : BitVec 32 := Scalar.muli v14 c1_i32_419
  let v554 : BitVec 32 := Scalar.addi v552 v553
  v554.toNat
def k0_cond59 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_392 : BitVec 32 := 1#32
  let v524 : BitVec 1 := Scalar.cmpi .sge v8 c1_i32_392
  let c1_i32_393 : BitVec 32 := 1#32
  let v525 : BitVec 1 := Scalar.cmpi .slt v8 c1_i32_393
  let v526 : BitVec 1 := Scalar.andi v524 v525
  let v527 : BitVec 32 := Scalar.extui v526
  let c0_i32_394 : BitVec 32 := 0#32
  let v528 : BitVec 1 := Scalar.cmpi .ne v527 c0_i32_394
  v528

def k0_dev48 (d0 : Dev nD) : Nat :=
  let c0_i32_417 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_416 : BitVec 32 := 8#32
  let v549 : BitVec 32 := Scalar.muli v2 c8_i32_416
  let v550 : BitVec 32 := Scalar.addi c0_i32_417 v549
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_418 : BitVec 32 := 4#32
  let v551 : BitVec 32 := Scalar.muli v5 c4_i32_418
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c3_i32 : BitVec 32 := 3#32
  let v12 : BitVec 32 := Scalar.minsi v11 c3_i32
  let c1_i32_419 : BitVec 32 := 1#32
  let v553 : BitVec 32 := Scalar.muli v12 c1_i32_419
  let v554 : BitVec 32 := Scalar.addi v552 v553
  v554.toNat
def k0_off6 (d0 : Dev nD) (c0_i32_126 : BitVec 32) : Fin 2 → Nat :=
  let c2_i32_54 : BitVec 32 := 2#32
  let c1_i32_53 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v85 : BitVec 32 := Scalar.subi c1_i32_53 v2
  let v86 : BitVec 32 := Scalar.muli c2_i32_54 v85
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v87 : BitVec 32 := Scalar.addi v86 v5
  let c256_i32_125 : BitVec 32 := 256#32
  let v190 : BitVec 32 := Scalar.muli v87 c256_i32_125
  let v191 : BitVec 32 := Scalar.addi v190 c0_i32_126
  let c64_i32 : BitVec 32 := 64#32
  let v192 : BitVec 32 := Scalar.addi v191 c64_i32
  let c0_i32_133 : BitVec 32 := 0#32
  ![v192.toNat, 0]
def k0_dev49 (d0 : Dev nD) : Nat :=
  let c0_i32_130 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_129 : BitVec 32 := 8#32
  let v194 : BitVec 32 := Scalar.muli v2 c8_i32_129
  let v195 : BitVec 32 := Scalar.addi c0_i32_130 v194
  let c1_i32_127 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v193 : BitVec 32 := Scalar.subi c1_i32_127 v5
  let c4_i32_131 : BitVec 32 := 4#32
  let v196 : BitVec 32 := Scalar.muli v193 c4_i32_131
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v198 : BitVec 32 := Scalar.muli v8 c1_i32_132
  let v199 : BitVec 32 := Scalar.addi v197 v198
  v199.toNat
def k0_off7 (d0 : Dev nD) (c0_i32_147 : BitVec 32) : Fin 2 → Nat :=
  let c2_i32_55 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v88 : BitVec 32 := Scalar.muli c2_i32_55 v2
  let c1_i32_56 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v89 : BitVec 32 := Scalar.subi c1_i32_56 v5
  let v90 : BitVec 32 := Scalar.addi v88 v89
  let c256_i32_146 : BitVec 32 := 256#32
  let v219 : BitVec 32 := Scalar.muli v90 c256_i32_146
  let v220 : BitVec 32 := Scalar.addi v219 c0_i32_147
  let c0_i32_155 : BitVec 32 := 0#32
  ![v220.toNat, 0]
def k0_dev50 (d0 : Dev nD) : Nat :=
  let c0_i32_152 : BitVec 32 := 0#32
  let c1_i32_148 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v221 : BitVec 32 := Scalar.subi c1_i32_148 v2
  let c8_i32_151 : BitVec 32 := 8#32
  let v222 : BitVec 32 := Scalar.muli v221 c8_i32_151
  let v223 : BitVec 32 := Scalar.addi c0_i32_152 v222
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_153 : BitVec 32 := 4#32
  let v224 : BitVec 32 := Scalar.muli v5 c4_i32_153
  let v225 : BitVec 32 := Scalar.addi v223 v224
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_154 : BitVec 32 := 1#32
  let v226 : BitVec 32 := Scalar.muli v8 c1_i32_154
  let v227 : BitVec 32 := Scalar.addi v225 v226
  v227.toNat
def k0_cond61 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_159 : BitVec 32 := 0#32
  let v237 : BitVec 1 := Scalar.cmpi .eq v8 c0_i32_159
  let v238 : BitVec 32 := Scalar.extui v237
  let c0_i32_160 : BitVec 32 := 0#32
  let v239 : BitVec 1 := Scalar.cmpi .ne v238 c0_i32_160
  v239

def k0_off8 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_384 : BitVec 32 := 256#32
  let v522 : BitVec 32 := Scalar.muli v10 c256_i32_384
  let c128_i32_385 : BitVec 32 := 128#32
  let v523 : BitVec 32 := Scalar.addi v522 c128_i32_385
  let v524 : Index := Scalar.indexCast v523
  let c0_386 : Index := 0#32
  ![v524.toNat, 0]
def k0_cond64 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v246 : BitVec 1 := Scalar.cmpi .eq v8 c1_i32_165
  let v247 : BitVec 32 := Scalar.extui v246
  let c0_i32_166 : BitVec 32 := 0#32
  let v248 : BitVec 1 := Scalar.cmpi .ne v247 c0_i32_166
  v248

def k0_off9 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_386 : BitVec 32 := 256#32
  let v526 : BitVec 32 := Scalar.muli v10 c256_i32_386
  let c128_i32_387 : BitVec 32 := 128#32
  let v527 : BitVec 32 := Scalar.addi v526 c128_i32_387
  let v528 : Index := Scalar.indexCast v527
  let c0_388 : Index := 0#32
  ![v528.toNat, 0]
def k0_cond67 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_171 : BitVec 32 := 2#32
  let v255 : BitVec 1 := Scalar.cmpi .eq v8 c2_i32_171
  let v256 : BitVec 32 := Scalar.extui v255
  let c0_i32_172 : BitVec 32 := 0#32
  let v257 : BitVec 1 := Scalar.cmpi .ne v256 c0_i32_172
  v257

def k0_off10 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_386 : BitVec 32 := 256#32
  let v526 : BitVec 32 := Scalar.muli v10 c256_i32_386
  let c128_i32_387 : BitVec 32 := 128#32
  let v527 : BitVec 32 := Scalar.addi v526 c128_i32_387
  let v528 : Index := Scalar.indexCast v527
  let c0_388 : Index := 0#32
  ![v528.toNat, 0]
def k0_cond69 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_175 : BitVec 32 := 3#32
  let v261 : BitVec 1 := Scalar.cmpi .eq v8 c3_i32_175
  let v262 : BitVec 32 := Scalar.extui v261
  let c0_i32_176 : BitVec 32 := 0#32
  let v263 : BitVec 1 := Scalar.cmpi .ne v262 c0_i32_176
  v263

def k0_off11 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_383 : BitVec 32 := 256#32
  let v522 : BitVec 32 := Scalar.muli v10 c256_i32_383
  let c128_i32_384 : BitVec 32 := 128#32
  let v523 : BitVec 32 := Scalar.addi v522 c128_i32_384
  let v524 : Index := Scalar.indexCast v523
  let c0_385 : Index := 0#32
  ![v524.toNat, 0]
def k0_dev51 (d0 : Dev nD) : Nat :=
  let c0_i32_182 : BitVec 32 := 0#32
  let c1_i32_178 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v266 : BitVec 32 := Scalar.subi c1_i32_178 v2
  let c8_i32_181 : BitVec 32 := 8#32
  let v267 : BitVec 32 := Scalar.muli v266 c8_i32_181
  let v268 : BitVec 32 := Scalar.addi c0_i32_182 v267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_183 : BitVec 32 := 4#32
  let v269 : BitVec 32 := Scalar.muli v5 c4_i32_183
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v271 : BitVec 32 := Scalar.muli v8 c1_i32_184
  let v272 : BitVec 32 := Scalar.addi v270 v271
  v272.toNat
def k0_dev52 (d0 : Dev nD) : Nat :=
  let c0_i32_193 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_192 : BitVec 32 := 8#32
  let v282 : BitVec 32 := Scalar.muli v2 c8_i32_192
  let v283 : BitVec 32 := Scalar.addi c0_i32_193 v282
  let c1_i32_189 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v281 : BitVec 32 := Scalar.subi c1_i32_189 v5
  let c4_i32_194 : BitVec 32 := 4#32
  let v284 : BitVec 32 := Scalar.muli v281 c4_i32_194
  let v285 : BitVec 32 := Scalar.addi v283 v284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_195 : BitVec 32 := 1#32
  let v286 : BitVec 32 := Scalar.muli v8 c1_i32_195
  let v287 : BitVec 32 := Scalar.addi v285 v286
  v287.toNat
def k0_dev53 (d0 : Dev nD) : Nat :=
  let c0_i32_238 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_237 : BitVec 32 := 8#32
  let v338 : BitVec 32 := Scalar.muli v2 c8_i32_237
  let v339 : BitVec 32 := Scalar.addi c0_i32_238 v338
  let c1_i32_235 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v337 : BitVec 32 := Scalar.subi c1_i32_235 v5
  let c4_i32_239 : BitVec 32 := 4#32
  let v340 : BitVec 32 := Scalar.muli v337 c4_i32_239
  let v341 : BitVec 32 := Scalar.addi v339 v340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_240 : BitVec 32 := 1#32
  let v342 : BitVec 32 := Scalar.muli v8 c1_i32_240
  let v343 : BitVec 32 := Scalar.addi v341 v342
  v343.toNat
def k0_dev54 (d0 : Dev nD) : Nat :=
  let c0_i32_259 : BitVec 32 := 0#32
  let c1_i32_256 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v365 : BitVec 32 := Scalar.subi c1_i32_256 v2
  let c8_i32_258 : BitVec 32 := 8#32
  let v366 : BitVec 32 := Scalar.muli v365 c8_i32_258
  let v367 : BitVec 32 := Scalar.addi c0_i32_259 v366
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_260 : BitVec 32 := 4#32
  let v368 : BitVec 32 := Scalar.muli v5 c4_i32_260
  let v369 : BitVec 32 := Scalar.addi v367 v368
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_261 : BitVec 32 := 1#32
  let v370 : BitVec 32 := Scalar.muli v8 c1_i32_261
  let v371 : BitVec 32 := Scalar.addi v369 v370
  v371.toNat
abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x4096x1024 : Shape := ⟨3, ![4, 4096, 1024]⟩
abbrev S1024 : Shape := ⟨1, ![1024]⟩
abbrev S_ : Shape := ⟨0, ![]⟩
abbrev S4096x1024 : Shape := ⟨2, ![4096, 1024]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S1024, .bf16⟩
  | .hbm, ⟨2, _⟩ => ⟨S4x4096x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Geo.lean ====
/- The geometry of the protocol: the neighbours of a device in the 2×2×4 torus, the two chains along the
   third mesh axis, the semaphore cells, the duties in program order, and the levels of the cells. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.Tactic
public import Idealize.ShloMosaic.Lib.Pipeline.RegionTalk
public import Idealize.ShloMosaic.Harness.Basic

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-! ## Devices -/

/-- The place of a device along the third mesh axis. -/
abbrev zz (c : Dev nD) : ℕ := c.val % 4
/-- The other device along the first mesh axis. -/
noncomputable def px (c : Dev nD) : Dev nD := ⟨(c.val + 8) % 16, Nat.mod_lt _ (by decide)⟩
/-- The other device along the second mesh axis. -/
noncomputable def py (c : Dev nD) : Dev nD := ⟨c.val / 8 * 8 + (c.val + 4) % 8, by have h : c.val < 16 := c.isLt; show _ < 16; omega⟩
/-- The next device along the third mesh axis, cyclically. -/
noncomputable def up (c : Dev nD) : Dev nD := ⟨c.val / 4 * 4 + (c.val + 1) % 4, by have h : c.val < 16 := c.isLt; show _ < 16; omega⟩
/-- The previous device along the third mesh axis, cyclically. -/
noncomputable def dn (c : Dev nD) : Dev nD := ⟨c.val / 4 * 4 + (c.val + 3) % 4, by have h : c.val < 16 := c.isLt; show _ < 16; omega⟩

/-- The device whose final rows are block `r` of the device's plane, at place `z`. -/
noncomputable def dv (r z : ℕ) : Dev nD := ⟨(4 * (r % 4) + z % 4) % 16, Nat.mod_lt _ (by decide)⟩

theorem px_px (c : Dev nD) : px (px c) = c := by revert c; decide
theorem py_py (c : Dev nD) : py (py c) = c := by revert c; decide
theorem up_dn (c : Dev nD) : up (dn c) = c := by revert c; decide
theorem dn_up (c : Dev nD) : dn (up c) = c := by revert c; decide

/-- Where chain `b` goes next from a device (`false`: upwards, `true`: downwards). -/
noncomputable def nx (b : Bool) (c : Dev nD) : Dev nD := bif b then dn c else up c
/-- Where chain `b` comes from. -/
noncomputable def pv (b : Bool) (c : Dev nD) : Dev nD := bif b then up c else dn c
theorem pv_nx (b : Bool) (c : Dev nD) : pv b (nx b c) = c := by revert b c; decide
theorem nx_pv (b : Bool) (c : Dev nD) : nx b (pv b c) = c := by revert b c; decide

/-- The rotations and reflections, as bijections of the devices. -/
noncomputable def pxE : Dev nD ≃ Dev nD := ⟨px, px, px_px, px_px⟩
noncomputable def pyE : Dev nD ≃ Dev nD := ⟨py, py, py_py, py_py⟩
noncomputable def nxE (b : Bool) : Dev nD ≃ Dev nD := ⟨nx b, pv b, pv_nx b, nx_pv b⟩

/-! ## The two chains -/

/-- The position of a device on chain `b`. -/
noncomputable def pos (b : Bool) (c : Dev nD) : ℕ := bif b then 3 - zz c else zz c
/-- The position at which slot `s` of chain `b` ends; a slot that ends at 0 is unused. -/
noncomputable def tgt (b : Bool) (s : Fin 8) : ℕ := bif b then 3 - s.val / 2 else s.val / 2
/-- Whether the device sends slot `s` on. -/
noncomputable def snd (b : Bool) (s : Fin 8) (c : Dev nD) : Bool := decide (pos b c < tgt b s)
/-- Whether the device receives slot `s`. -/
noncomputable def rcv (b : Bool) (s : Fin 8) (c : Dev nD) : Bool := decide (1 ≤ pos b c ∧ pos b c ≤ tgt b s)
theorem snd_pv (b : Bool) (s : Fin 8) (c : Dev nD) : snd b s (pv b c) = rcv b s c := by revert b s c; decide
theorem rcv_nx (b : Bool) (s : Fin 8) (c : Dev nD) : rcv b s (nx b c) = snd b s c := by
  rw [← snd_pv, pv_nx]
theorem pos_pv (b : Bool) (c : Dev nD) (h : 1 ≤ pos b c) : pos b (pv b c) + 1 = pos b c := by
  revert b c; decide

/-- The device to which the row copy `q` goes. -/
noncomputable def pd (q : Fin 8) (c : Dev nD) : Dev nD := bif (q.val / 2) % 2 == 0 then px c else py c
theorem pd_pd (q : Fin 8) (c : Dev nD) : pd q (pd q c) = c := by revert q c; decide
noncomputable def pdE (q : Fin 8) : Dev nD ≃ Dev nD := ⟨pd q, pd q, pd_pd q, pd_pd q⟩

/-- The first row and the number of rows of the row copy `q`. -/
noncomputable def ro (q : Fin 8) (c : Dev nD) : ℕ :=
  if q.val < 4 then 512 * (c.val / 8) + 256 * ((c.val / 4) % 2) + 128 * (q.val % 2)
  else if q.val < 6 then (512 * (c.val / 8) + 128 * (q.val % 2) + 256) - 256 * ((c.val / 4) % 2)
  else (256 * ((c.val / 4) % 2) + 128 * (q.val % 2) + 576) - 512 * (c.val / 8)
noncomputable def rn (q : Fin 8) : ℕ := if q.val < 4 then 128 else 64

/-! ## Cells -/

/-- The DMA semaphores of the kernel: `a` is the array (slot copies up: sent, received; down: sent, received; row
    copies: sent, received), `s` the entry. -/
noncomputable def ix (a : Fin 6) (s : Fin 8) : DmaSem sig := ⟨3 + 8 * a.val + s.val, by have := a.isLt; have := s.isLt; show _ < 51; omega⟩
theorem ix_inj {a a' : Fin 6} {s s' : Fin 8} (h : ix a s = ix a' s') : a = a' ∧ s = s' := by
  have : 3 + 8 * a.val + s.val = 3 + 8 * a'.val + s'.val := congrArg Fin.val h
  have := s.isLt
  have := s'.isLt
  exact ⟨Fin.ext (by omega), Fin.ext (by omega)⟩

/-- The barrier semaphore. -/
abbrev barS : Sem sig := sig.barrier 0 rfl
abbrev bcell (c : Dev nD) : GSem nD τ sig := ((c : Thread nD τ), .reg barS)
abbrev dcell (a : Fin 6) (s : Fin 8) (c : Dev nD) : GSem nD τ sig := ((c : Thread nD τ), .dma (ix a s))

/-- The arrays of the semaphores of chain `b`. -/
noncomputable def aS (b : Bool) : Fin 6 := bif b then 2 else 0
noncomputable def aR (b : Bool) : Fin 6 := bif b then 3 else 1

/-- Which of the semaphores of a device are ever raised. -/
noncomputable def used (a : Fin 6) (s : Fin 8) (c : Dev nD) : Bool :=
  match a with
  | 0 => snd false s c
  | 1 => rcv false s c
  | 2 => snd true s c
  | 3 => rcv true s c
  | _ => true

/-- The array and the entry of a DMA semaphore. -/
noncomputable def aOf (n : ℕ) : Fin 6 := ⟨(n - 3) / 8 % 6, Nat.mod_lt _ (by decide)⟩
noncomputable def sOf (n : ℕ) : Fin 8 := ⟨(n - 3) % 8, Nat.mod_lt _ (by decide)⟩
theorem aOf_ix (a : Fin 6) (s : Fin 8) : aOf (ix a s).val = a := by revert a s; decide
theorem sOf_ix (a : Fin 6) (s : Fin 8) : sOf (ix a s).val = s := by revert a s; decide

/-! ## Levels -/

/-- The level of the cell of array `a` and entry `s` at place `z`: along every chain of waits it grows. -/
noncomputable def lvD (a : Fin 6) (s : Fin 8) (z : ℕ) : ℕ :=
  match a with
  | 1 => (match s, z with
      | 2, 1 => 2 | 3, 1 => 2 | 4, 1 => 2 | 4, 2 => 4 | 5, 1 => 2 | 5, 2 => 6
      | 6, 1 => 2 | 6, 2 => 3 | 6, 3 => 4 | 7, 1 => 2 | 7, 2 => 5 | 7, 3 => 6 | _, _ => 0)
  | 3 => (match s, z with
      | 0, 0 => 4 | 0, 1 => 3 | 0, 2 => 2 | 1, 0 => 6 | 1, 1 => 5 | 1, 2 => 2
      | 2, 1 => 4 | 2, 2 => 2 | 3, 1 => 6 | 3, 2 => 2 | 4, 2 => 2 | 5, 2 => 2 | _, _ => 0)
  | 5 => (match s with | 0 => 5 | 1 => 7 | 2 => 5 | 3 => 7 | 4 => 6 | 5 => 8 | 6 => 6 | 7 => 8)
  | _ => 0

/-- The level of a semaphore at place `z`. -/
noncomputable def lvS (sm : SemLoc sig) (z : ℕ) : ℕ :=
  match sm with
  | .reg _ => 1
  | .dma n => if n.val < 3 then 0 else lvD (aOf n.val) (sOf n.val) z

noncomputable def L (g : GSem nD τ sig) : Finset Unit := if g.1.2 = .tc then {()} else ∅
noncomputable def lv (g : GSem nD τ sig) (_ : Unit) : ℕ := lvS g.2 (zz g.1.1)
theorem L_tc (c : Dev nD) (sm : SemLoc sig) : L ((c : Thread nD τ), sm) = {()} := if_pos rfl
theorem L_of_ne (g : GSem nD τ sig) (h : g.1.2 ≠ .tc) : L g = ∅ := if_neg h

/-! ## What a device owes, in program order -/

/-- What a device pays to a cell of another device: a barrier unit, a slot copy (at the head of the chain or on the
    way), a row copy. -/
inductive Duty where
  | bar (i : Fin 4)
  | edge (b : Bool) (s : Fin 8)
  | mid (b : Bool) (s : Fin 8)
  | pb (q : Fin 8)

/-- The device a barrier signal goes to. -/
noncomputable def nb (i : Fin 4) (c : Dev nD) : Dev nD := match i with | 0 => px c | 1 => py c | 2 => dn c | 3 => up c
/-- Whether the signal is sent. -/
noncomputable def nbOk (i : Fin 4) (c : Dev nD) : Bool := match i with | 0 => true | 1 => true | 2 => decide (0 < zz c) | 3 => decide (zz c < 3)
/-- Whether the signal `i` is received. -/
noncomputable def inOk (i : Fin 4) (c : Dev nD) : Bool := match i with | 0 => true | 1 => true | 2 => decide (zz c < 3) | 3 => decide (0 < zz c)
theorem inOk_nb (i : Fin 4) (c : Dev nD) : inOk i (nb i c) = nbOk i c := by revert i c; decide

noncomputable def Duty.act (c : Dev nD) : Duty → Bool
  | .bar i => nbOk i c
  | .edge b s => decide (pos b c = 0) && snd b s c
  | .mid b s => decide (1 ≤ pos b c) && snd b s c
  | .pb _ => true
noncomputable def Duty.cell (c : Dev nD) : Duty → GSem nD τ sig
  | .bar i => bcell (nb i c)
  | .edge b s => dcell (aR b) s (nx b c)
  | .mid b s => dcell (aR b) s (nx b c)
  | .pb q => dcell 5 q (pd q c)

/-- The units a copy of 128 rows and of 64 rows counts. -/
noncomputable def u128 : ℕ := RefSig.tileCredit S128x1024 .bf16
noncomputable def u64 : ℕ := RefSig.tileCredit S64x1024 .bf16
noncomputable def uD (a : Fin 6) (s : Fin 8) : ℕ := if a.val < 4 then u128 else if s.val < 4 then u128 else u64
theorem uD_pos (a : Fin 6) (s : Fin 8) : 0 < uD a s := by
  unfold uD u128 u64
  split
  · exact RefSig.tileCredit_pos _ _ (by decide)
  · split <;> exact RefSig.tileCredit_pos _ _ (by decide)
noncomputable def Duty.amt : Duty → ℕ
  | .bar _ => 1
  | .edge _ _ => u128
  | .mid _ _ => u128
  | .pb q => uD 5 q

/-- The slot copies of a device of odd, of even place, in program order. -/
noncomputable def chO : List (Bool × Fin 8) := [(false, 6), (true, 0), (false, 4), (true, 2), (false, 2), (true, 4)]
noncomputable def chE : List (Bool × Fin 8) := [(true, 0), (false, 6), (true, 2), (false, 4), (true, 4), (false, 2)]
noncomputable def chO' : List (Bool × Fin 8) := [(false, 7), (true, 1), (false, 5), (true, 3), (false, 3), (true, 5)]
noncomputable def chE' : List (Bool × Fin 8) := [(true, 1), (false, 7), (true, 3), (false, 5), (true, 5), (false, 3)]
noncomputable def both : List (Bool × Fin 8) → List Duty
  | [] => []
  | p :: l => .edge p.1 p.2 :: .mid p.1 p.2 :: both l

/-- All a device ever pays to others, in program order. -/
noncomputable def ord (c : Dev nD) : List Duty :=
  [.bar 0, .bar 1, .bar 2, .bar 3] ++ both (bif c.val % 2 == 1 then chO else chE)
    ++ [.edge false 7, .edge false 5, .edge false 3, .edge true 1, .edge true 3, .edge true 5, .pb 0, .pb 2]
    ++ (bif c.val % 2 == 1 then chO' else chE').map (fun p => .mid p.1 p.2)
    ++ [.pb 6, .pb 4, .pb 1, .pb 3, .pb 7, .pb 5]

/-- What one duty adds to what is owed. -/
noncomputable def Duty.owed (c : Dev nD) (d : Duty) : CellTallies nD τ sig Unit :=
  bif d.act c then tallyAt (d.cell c) () d.amt else 0
/-- What the device still owes after `n` duties. -/
noncomputable def OW (c : Dev nD) (n : ℕ) : CellTallies nD τ sig Unit := (((ord c).drop n).map (Duty.owed c)).sum

/-- Whether the device may wait on its semaphore `sm` after `n` duties: all it still owes is of a higher level. -/
noncomputable def okWait (c : Dev nD) (sm : SemLoc sig) (n : ℕ) : Bool :=
  ((ord c).drop n).all fun d => !(d.act c) || decide (lvS sm (zz c) < lv (d.cell c) ())

theorem OW_step (c : Dev nD) (n : ℕ) (d : Duty) (h : (ord c)[n]? = some d) :
    OW c n = OW c (n + 1) + d.owed c := by
  unfold OW
  obtain ⟨hn, hd⟩ := List.getElem?_eq_some_iff.mp h
  rw [List.drop_eq_getElem_cons hn, List.map_cons, List.sum_cons, hd, add_comm]

theorem OW_skip (c : Dev nD) (n : ℕ) (d : Duty) (h : (ord c)[n]? = some d) (hd : d.act c = false) :
    OW c n = OW c (n + 1) := by
  rw [OW_step c n d h, Duty.owed, hd, cond_false, add_zero]

theorem OW_pay (c : Dev nD) (n : ℕ) (d : Duty) (h : (ord c)[n]? = some d) (hd : d.act c = true) :
    OW c n = OW c (n + 1) + tallyAt (d.cell c) () d.amt := by
  rw [OW_step c n d h, Duty.owed, hd, cond_true]

theorem OW_end (c : Dev nD) : OW c 36 = 0 := by
  unfold OW
  rw [show (ord c).drop 36 = [] from List.drop_eq_nil_of_le (by unfold ord; cases c.val % 2 == 1 <;> exact Nat.le_refl 36)]
  rfl

theorem sum_pos {l : List Duty} (c : Dev nD) (g : GSem nD τ sig) (ι : Unit) (h : 0 < (l.map (Duty.owed c)).sum g ι) :
    ∃ d ∈ l, d.act c = true ∧ g = d.cell c := by
  induction l with
  | nil => exact absurd h (Nat.lt_irrefl 0)
  | cons d l ih =>
    rw [List.map_cons, List.sum_cons, Pi.add_apply, Finsupp.add_apply] at h
    by_cases hd : 0 < Duty.owed c d g ι
    · refine ⟨d, List.mem_cons_self, ?_⟩
      unfold Duty.owed at hd
      cases ha : d.act c with
      | false => rw [ha] at hd; exact absurd hd (Nat.lt_irrefl 0)
      | true =>
        rw [ha, cond_true, tallyAt_apply] at hd
        by_cases hg : g = d.cell c ∧ ι = ()
        · exact ⟨rfl, hg.1⟩
        · rw [if_neg hg] at hd; exact absurd hd (Nat.lt_irrefl 0)
    · obtain ⟨d', hd', h'⟩ := ih (by omega)
      exact ⟨d', List.mem_cons_of_mem _ hd', h'⟩

theorem cell_tc (c : Dev nD) (d : Duty) : (d.cell c).1.2 = .tc := by cases d <;> rfl

section
variable {F : FTy → Type}

/-- The algebra of the protocol's ghost state: the pipeline library's copy and the protocol's. -/
abbrev UU : Type := UR sig nD τ × Rounds.URounds (GSem nD τ sig) (Fin 4)
end

end Cert.Talk

end
-- ==== Proof.Vals.lean ====
/- What the buffers hold: the parts of the operand a device reads, the partial sums that travel along the two chains,
   the normalised rows, and the whole result; and the element sets of the slots and of the row blocks. -/
module

public import proofs.«01_k».proof.Proof.Geo

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Values -/

theorem xInb (j : Fin 4) (h : Fin 2) (a : Fin 3) :
    (![j.val, 128 * h.val, 0] : Fin 3 → ℕ) a + S1x128x1024.size a ≤ S4x256x1024.size a := by
  revert j h a; decide
/-- The rows `h` of chunk `j` of the operand. -/
abbrev xRect (j : Fin 4) (h : Fin 2) : Rect S4x256x1024 := Rect.unit (s := S4x256x1024) ![j.val, 128 * h.val, 0] S1x128x1024.size (xInb j h)
noncomputable def xch (x : Vec F S4x256x1024 .bf16) (j : Fin 4) (h : Fin 2) : Vec F S1x128x1024 .bf16 :=
  fun i => x ((xRect j h).emb i)
theorem gInb (a : Fin 2) : (![0, 0] : Fin 2 → ℕ) a + S1x1024.size a ≤ S1x1024.size a := by revert a; decide
abbrev gRect : Rect S1x1024 := Rect.unit (s := S1x1024) ![0, 0] S1x1024.size gInb
/-- The scale as the kernel reads it. -/
noncomputable def gch (g : Vec F S1x1024 .bf16) : Vec F S1x1024 .bf16 := fun i => g (gRect.emb i)

/-- The chunk and the half a slot carries. -/
noncomputable def jS (s : Fin 8) : Fin 4 := ⟨s.val / 2, by have := s.isLt; omega⟩
noncomputable def hS (s : Fin 8) : Fin 2 := ⟨s.val % 2, by omega⟩
/-- The slot that carries half `h` of chunk `j`. -/
noncomputable def sl (j : Fin 4) (h : Fin 2) : Fin 8 := ⟨2 * j.val + h.val, by have := j.isLt; have := h.isLt; omega⟩

variable (X : Dev nD → Vec F S4x256x1024 .bf16) (G : Dev nD → Vec F S1x1024 .bf16)

/-- The partial sum that leaves position `n` of chain `b` in slot `s`, at device `c`. -/
noncomputable def sv (b : Bool) (s : Fin 8) : ℕ → Dev nD → Vec F S1x128x1024 .bf16
  | 0, c => k0_pay7 (xch (X c) (jS s) (hS s))
  | n + 1, c => k0_pay1 (sv b s n (pv b c)) (xch (X c) (jS s) (hS s))
/-- What a device sends in slot `s`, and what it receives there. -/
noncomputable def sent (b : Bool) (s : Fin 8) (c : Dev nD) : Vec F S1x128x1024 .bf16 := sv X b s (pos b c) c
noncomputable def got (b : Bool) (s : Fin 8) (c : Dev nD) : Vec F S1x128x1024 .bf16 := sent X b s (pv b c)

theorem sent_edge (b : Bool) (s : Fin 8) (c : Dev nD) (h : pos b c = 0) :
    sent X b s c = k0_pay7 (xch (X c) (jS s) (hS s)) := by unfold sent; rw [h]; rfl
theorem sent_mid (b : Bool) (s : Fin 8) (c : Dev nD) (h : 1 ≤ pos b c) :
    sent X b s c = k0_pay1 (got X b s c) (xch (X c) (jS s) (hS s)) := by
  unfold got sent; rw [← pos_pv b c h]; rfl

/-- The normalised rows `h` of device `c`'s block. -/
noncomputable def fv (h : Fin 2) (c : Dev nD) : Vec F S128x1024 .bf16 :=
  match zz c with
  | 0 => k0_pay43 (xch (X c) 0 h) (got X true (sl 0 h) c) (gch (G c))
  | 1 => k0_pay44 (xch (X c) 1 h) (got X false (sl 1 h) c) (got X true (sl 1 h) c) (gch (G c))
  | 2 => k0_pay44 (xch (X c) 2 h) (got X false (sl 2 h) c) (got X true (sl 2 h) c) (gch (G c))
  | _ => k0_pay43 (xch (X c) 3 h) (got X false (sl 3 h) c) (gch (G c))

theorem fv0 (h : Fin 2) (c : Dev nD) (hz : zz c = 0) :
    fv X G h c = k0_pay43 (xch (X c) 0 h) (got X true (sl 0 h) c) (gch (G c)) := by unfold fv; rw [hz]; rfl
theorem fv1 (h : Fin 2) (c : Dev nD) (hz : zz c = 1) :
    fv X G h c = k0_pay44 (xch (X c) 1 h) (got X false (sl 1 h) c) (got X true (sl 1 h) c) (gch (G c)) := by unfold fv; rw [hz]; rfl
theorem fv2 (h : Fin 2) (c : Dev nD) (hz : zz c = 2) :
    fv X G h c = k0_pay44 (xch (X c) 2 h) (got X false (sl 2 h) c) (got X true (sl 2 h) c) (gch (G c)) := by unfold fv; rw [hz]; rfl
theorem fv3 (h : Fin 2) (c : Dev nD) (hz : zz c = 3) :
    fv X G h c = k0_pay43 (xch (X c) 3 h) (got X false (sl 3 h) c) (gch (G c)) := by unfold fv; rw [hz]; rfl

/-! ## Contents of whole buffers -/

/-- The place inside a slot of an element of the slot buffer. -/
noncomputable def inSlot (i : S8x128x1024.Idx) : S1x128x1024.Idx
  | ⟨0, _⟩ => ⟨0, Nat.one_pos⟩
  | ⟨1, _⟩ => ⟨(i 1).val, (i 1).isLt⟩
  | ⟨2, _⟩ => ⟨(i 2).val, (i 2).isLt⟩
/-- The slot buffer with the one value in every slot. -/
noncomputable def spread (w : Vec F S1x128x1024 .bf16) : Vec F S8x128x1024 .bf16 := fun i => w (inSlot i)

/-- The place inside a half block of an element of the result. -/
noncomputable def inHalf (i : S1024x1024.Idx) : S128x1024.Idx
  | ⟨0, _⟩ => ⟨(i 0).val % 128, Nat.mod_lt _ (by decide)⟩
  | ⟨1, _⟩ => ⟨(i 1).val, (i 1).isLt⟩
/-- The whole result at the place `z`. -/
noncomputable def out (z : ℕ) : Vec F S1024x1024 .bf16 := fun i =>
  fv X G ⟨(i 0).val % 256 / 128, by omega⟩ (dv ((i 0).val / 256) z) (inHalf i)

/-! ## Element sets -/

/-- The elements of slot `s`. -/
noncomputable def slotSet (s : Fin 8) : Finset S8x128x1024.Idx := Finset.univ.filter fun i => (i 0).val = s.val
/-- The rows from `o` on, `n` of them. -/
noncomputable def rows (o n : ℕ) : Finset S1024x1024.Idx := Finset.univ.filter fun i => o ≤ (i 0).val ∧ (i 0).val < o + n
theorem mem_slotSet {s : Fin 8} {i : S8x128x1024.Idx} : i ∈ slotSet s ↔ (i 0).val = s.val := by
  unfold slotSet; rw [Finset.mem_filter]; exact ⟨fun h => h.2, fun h => ⟨Finset.mem_univ _, h⟩⟩
theorem mem_rows {o n : ℕ} {i : S1024x1024.Idx} : i ∈ rows o n ↔ o ≤ (i 0).val ∧ (i 0).val < o + n := by
  unfold rows; rw [Finset.mem_filter]; exact ⟨fun h => h.2, fun h => ⟨Finset.mem_univ _, h⟩⟩

theorem sInb (s : Fin 8) (a : Fin 3) : (![s.val, 0, 0] : Fin 3 → ℕ) a + S1x128x1024.size a ≤ S8x128x1024.size a := by
  revert s a; decide
abbrev slotRect (s : Fin 8) : Rect S8x128x1024 := Rect.unit (s := S8x128x1024) ![s.val, 0, 0] S1x128x1024.size (sInb s)

theorem slotRect_set (s : Fin 8) : (slotRect s).set = slotSet s := by
  ext i
  rw [Rect.mem_set_unit, mem_slotSet]
  constructor
  · intro h
    have h0 : s.val ≤ (i 0).val ∧ (i 0).val < s.val + 1 := h 0
    omega
  · intro h a
    match a with
    | 0 => show s.val ≤ (i 0).val ∧ (i 0).val < s.val + 1; omega
    | 1 => exact ⟨Nat.zero_le _, by have h1 : (i 1).val < 128 := (i 1).isLt; show (i 1).val < 0 + 128; omega⟩
    | 2 => exact ⟨Nat.zero_le _, by have h1 : (i 2).val < 1024 := (i 2).isLt; show (i 2).val < 0 + 1024; omega⟩

theorem rows_set (o n : ℕ) (inb) : (Rect.unit (s := S1024x1024) ![o, 0] ![n, 1024] inb).set = rows o n := by
  ext i
  rw [Rect.mem_set_unit, mem_rows]
  constructor
  · intro h; exact h 0
  · intro h a
    match a with
    | 0 => exact h
    | 1 => exact ⟨Nat.zero_le _, by have h1 : (i 1).val < 1024 := (i 1).isLt; show (i 1).val < 0 + 1024; omega⟩

theorem inSlot_emb (s : Fin 8) (j : S1x128x1024.Idx) : inSlot ((slotRect s).emb j) = j := by
  funext a
  apply Fin.ext
  match a with
  | 0 => show 0 = (j 0).val; have h : (j 0).val < 1 := (j 0).isLt; omega
  | 1 => show 0 + 1 * (j 1).val = (j 1).val; omega
  | 2 => show 0 + 1 * (j 2).val = (j 2).val; omega

theorem spread_emb (w : Vec F S1x128x1024 .bf16) (s : Fin 8) (j : S1x128x1024.Idx) :
    spread w ((slotRect s).emb j) = w j := by unfold spread; rw [inSlot_emb]

theorem out_emb (c : Dev nD) (h : Fin 2) (inb) (j : S128x1024.Idx) :
    out X G (zz c) ((Rect.unit (s := S1024x1024) ![512 * (c.val / 8) + 256 * ((c.val / 4) % 2) + 128 * h.val, 0] S128x1024.size inb).emb j)
      = fv X G h c j := by
  have hj : (j 0).val < 128 := (j 0).isLt
  have hh := h.isLt
  have hc : c.val < 16 := c.isLt
  have e0 : ((Rect.unit (s := S1024x1024) ![512 * (c.val / 8) + 256 * ((c.val / 4) % 2) + 128 * h.val, 0] S128x1024.size inb).emb j 0).val
      = 512 * (c.val / 8) + 256 * ((c.val / 4) % 2) + 128 * h.val + 1 * (j 0).val := rfl
  unfold out
  have e1 : (⟨((Rect.unit (s := S1024x1024) ![512 * (c.val / 8) + 256 * ((c.val / 4) % 2) + 128 * h.val, 0] S128x1024.size inb).emb j 0).val % 256 / 128, by omega⟩ : Fin 2) = h :=
    Fin.ext (by
      show ((Rect.unit (s := S1024x1024) ![512 * (c.val / 8) + 256 * ((c.val / 4) % 2) + 128 * h.val, 0] S128x1024.size inb).emb j 0).val % 256 / 128 = h.val
      rw [e0]; omega)
  have e2 : dv (((Rect.unit (s := S1024x1024) ![512 * (c.val / 8) + 256 * ((c.val / 4) % 2) + 128 * h.val, 0] S128x1024.size inb).emb j 0).val / 256) (zz c) = c :=
    Fin.ext (by rw [e0]; show (4 * (_ / 256 % 4) + c.val % 4 % 4) % 16 = c.val; omega)
  have e3 : inHalf ((Rect.unit (s := S1024x1024) ![512 * (c.val / 8) + 256 * ((c.val / 4) % 2) + 128 * h.val, 0] S128x1024.size inb).emb j) = j := by
    funext a
    apply Fin.ext
    match a with
    | 0 => show _ % 128 = (j 0).val; rw [e0]; omega
    | 1 => show 0 + 1 * (j 1).val = (j 1).val; omega
  rw [e1, e2, e3]

end Cert.Talk

end
-- ==== Proof.Sched.lean ====
/- The schedule of the protocol: the duties of every cell, their units and what they hand over. -/
module

public import proofs.«01_k».proof.Proof.Vals

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 4)) (MT nD τ sig Unit (Elt F) ℕ UU ℕ) := embR

/-! ## Points-tos -/

/-- Slot `s` of the slot buffer of chain `b` of device `c`, at `f`. -/
noncomputable def slotPt (b : Bool) (s : Fin 8) (c : Dev nD) (f : Vec F S8x128x1024 .bf16) : sProp 𝕄 :=
  match b with
  | false => (c : Thread nD τ).loc cc0_scratch0 ↦[slotSet s]{fullShare} f
  | true => (c : Thread nD τ).loc cc0_scratch1 ↦[slotSet s]{fullShare} f
/-- Elements of the result's staging buffer of device `c`, at `f`. -/
noncomputable def outPt (c : Dev nD) (S : Finset S1024x1024.Idx) (q : PosShare TreeShare) (f : Vec F S1024x1024 .bf16) : sProp 𝕄 :=
  (c : Thread nD τ).loc cc0_stg2_0 ↦[S]{q} f

/-- The rows copy `q` moves when device `c` sends it. -/
noncomputable def reg (q : Fin 8) (c : Dev nD) : Finset S1024x1024.Idx := rows (ro q c) (rn q)
/-- The share of its source a row copy holds: the own rows go out twice. -/
noncomputable def shr (q : Fin 8) : PosShare TreeShare :=
  if q.val < 2 then fullShare.left else if q.val < 4 then fullShare.right else fullShare

instance slotPt_storable (b : Bool) (s : Fin 8) (c : Dev nD) (f : Vec F S8x128x1024 .bf16) :
    BI.Storable (upEmb : UEmb _ 𝕄) (slotPt b s c f) := by cases b <;> (unfold slotPt; infer_instance)
instance outPt_storable (c : Dev nD) (S : Finset S1024x1024.Idx) (q : PosShare TreeShare) (f : Vec F S1024x1024 .bf16) :
    BI.Storable (upEmb : UEmb _ 𝕄) (outPt c S q f) := by unfold outPt; infer_instance

/-! ## Payloads -/

/-- What lets device `c` send slot `s` on: the slot of the next device, and that its semaphore stands open. -/
noncomputable def slotOpen (b : Bool) (s : Fin 8) (c : Dev nD) : sProp 𝕄 :=
  bif snd b s c then iprop((∃ f, slotPt b s (nx b c) f) ∗ reached ER (dcell (aR b) s (nx b c)) 0) else iprop(emp)
/-- What lets device `c` send row copy `q`: the rows of the other device, and that its semaphore stands open. -/
noncomputable def rowOpen (q : Fin 8) (c : Dev nD) : sProp 𝕄 :=
  iprop((∃ f, outPt (pd q c) (reg q c) fullShare f) ∗ reached ER (dcell 5 q (pd q c)) 0)

/-- All slots of chain `b`. -/
noncomputable def slotsOpen (b : Bool) (c : Dev nD) : sProp 𝕄 :=
  iprop(slotOpen b 0 c ∗ slotOpen b 1 c ∗ slotOpen b 2 c ∗ slotOpen b 3 c ∗ slotOpen b 4 c ∗ slotOpen b 5 c ∗ slotOpen b 6 c ∗ slotOpen b 7 c)

/-- What the barrier units of device `c` bring. -/
noncomputable def barPay (c : Dev nD) (i : Fin 4) : sProp 𝕄 :=
  match i with
  | 0 => iprop(rowOpen 0 c ∗ rowOpen 1 c ∗ rowOpen 4 c ∗ rowOpen 5 c)
  | 1 => iprop(rowOpen 2 c ∗ rowOpen 3 c ∗ rowOpen 6 c ∗ rowOpen 7 c)
  | 2 => slotsOpen false c
  | 3 => slotsOpen true c

variable (X : Dev nD → Vec F S4x256x1024 .bf16) (G : Dev nD → Vec F S1x1024 .bf16)

/-- What the DMA semaphores of device `c` bring: a slot at its partial sum, rows of the result at their values. -/
noncomputable def dmaPay (c : Dev nD) (a : Fin 6) (s : Fin 8) : sProp 𝕄 :=
  match a with
  | 0 => slotPt false s c (spread (sent X false s c))
  | 1 => slotPt false s c (spread (got X false s c))
  | 2 => slotPt true s c (spread (sent X true s c))
  | 3 => slotPt true s c (spread (got X true s c))
  | 4 => outPt c (reg s c) (shr s) (out X G (zz c))
  | 5 => outPt c (reg s (pd s c)) fullShare (out X G (zz c))

/-- The payload of a cell. -/
noncomputable def payOf (c : Dev nD) (sm : SemLoc sig) (i : Fin 4) : sProp 𝕄 :=
  match sm with
  | .reg _ => barPay c i
  | .dma n => dmaPay X G c (aOf n.val) (sOf n.val)
/-- The duties of a cell. -/
noncomputable def dutOf (c : Dev nD) (sm : SemLoc sig) : Finset (Fin 4) :=
  match sm with
  | .reg _ => Finset.univ.filter fun i => inOk i c = true
  | .dma n => if 3 ≤ n.val ∧ used (aOf n.val) (sOf n.val) c = true then {0} else ∅
/-- The units of a duty. -/
noncomputable def amtOf (sm : SemLoc sig) : ℕ :=
  match sm with
  | .reg _ => 1
  | .dma n => uD (aOf n.val) (sOf n.val)

instance slotOpen_storable (b : Bool) (s : Fin 8) (c : Dev nD) : BI.Storable (upEmb : UEmb _ 𝕄) (slotOpen (F := F) b s c) := by
  unfold slotOpen; cases snd b s c <;> (simp only [cond_true, cond_false]; infer_instance)
instance rowOpen_storable (q : Fin 8) (c : Dev nD) : BI.Storable (upEmb : UEmb _ 𝕄) (rowOpen (F := F) q c) := by
  unfold rowOpen; infer_instance
instance barPay_storable (c : Dev nD) (i : Fin 4) : BI.Storable (upEmb : UEmb _ 𝕄) (barPay (F := F) c i) := by
  unfold barPay slotsOpen; split <;> infer_instance
instance dmaPay_storable (c : Dev nD) (a : Fin 6) (s : Fin 8) : BI.Storable (upEmb : UEmb _ 𝕄) (dmaPay X G c a s) := by
  unfold dmaPay; split <;> infer_instance

/-- The schedule: one round; the barrier cell of a device has a duty of every neighbour, a DMA cell at most one. -/
noncomputable def Rd : Rounds.Schedule (GSem nD τ sig) (Fin 4) 𝕄 where
  duties g r := if g.1.2 = .tc ∧ r = 0 then dutOf g.1.1 g.2 else ∅
  unitless _ := False
  amount g _ _ := amtOf g.2
  payload g _ i := payOf X G g.1.1 g.2 i
  amount_pos g _ _ _ := by
    show 0 < amtOf g.2
    unfold amtOf; split
    · exact Nat.one_pos
    · exact uD_pos _ _

instance Rd_payload_storable (g : GSem nD τ sig) (r : ℕ) (i : Fin 4) :
    BI.Storable (upEmb : UEmb _ 𝕄) ((Rd X G).payload g r i) := by
  show BI.Storable upEmb (payOf X G g.1.1 g.2 i)
  unfold payOf; split <;> infer_instance

theorem duties_tc (c : Dev nD) (sm : SemLoc sig) : (Rd X G).duties ((c : Thread nD τ), sm) 0 = dutOf c sm := by
  show (if ((c : Thread nD τ).2 = .tc ∧ 0 = 0) then dutOf c sm else ∅) = _
  exact if_pos ⟨rfl, rfl⟩
theorem dutOf_d (a : Fin 6) (s : Fin 8) (c : Dev nD) : dutOf c (.dma (ix a s)) = if used a s c = true then {0} else ∅ := by
  show (if 3 ≤ (ix a s).val ∧ used (aOf (ix a s).val) (sOf (ix a s).val) c = true then {0} else ∅) = _
  have h3 : 3 ≤ (ix a s).val := by show 3 ≤ 3 + 8 * a.val + s.val; omega
  rw [aOf_ix, sOf_ix]
  exact if_congr ⟨fun h => h.2, fun h => ⟨h3, h⟩⟩ rfl rfl
theorem duties_bar (c : Dev nD) : (Rd X G).duties (bcell c) 0 = Finset.univ.filter fun i => inOk i c = true := duties_tc X G c _
theorem duties_d (a : Fin 6) (s : Fin 8) (c : Dev nD) (h : used a s c = true) : (Rd X G).duties (dcell a s c) 0 = {0} := by
  rw [duties_tc, dutOf_d, if_pos h]
theorem duties_d_unused (a : Fin 6) (s : Fin 8) (c : Dev nD) (h : used a s c = false) : (Rd X G).duties (dcell a s c) 0 = ∅ := by
  rw [duties_tc, dutOf_d, if_neg (by rw [h]; simp)]
theorem duties_later (g : GSem nD τ sig) : ∀ r, 1 ≤ r → (Rd X G).duties g r = ∅ :=
  fun r hr => if_neg fun h => by omega
theorem amount_bar (c : Dev nD) (i : Fin 4) : (Rd X G).amount (bcell c) 0 i = 1 := rfl
theorem amount_d (a : Fin 6) (s : Fin 8) (c : Dev nD) (i : Fin 4) : (Rd X G).amount (dcell a s c) 0 i = uD a s := by
  show uD (aOf (ix a s).val) (sOf (ix a s).val) = _; rw [aOf_ix, sOf_ix]
theorem payload_bar (c : Dev nD) (i : Fin 4) : (Rd X G).payload (bcell c) 0 i = barPay c i := rfl
theorem payload_d (a : Fin 6) (s : Fin 8) (c : Dev nD) (i : Fin 4) : (Rd X G).payload (dcell a s c) 0 i = dmaPay X G c a s := by
  show dmaPay X G c (aOf (ix a s).val) (sOf (ix a s).val) = _; rw [aOf_ix, sOf_ix]
theorem expect_d (a : Fin 6) (s : Fin 8) (c : Dev nD) (h : used a s c = true) : (Rd X G).expect (dcell a s c) 0 = uD a s := by
  unfold Schedule.expect Schedule.amountOf; rw [duties_d X G a s c h, Finset.sum_singleton, amount_d]
theorem rest_d (a : Fin 6) (s : Fin 8) (c : Dev nD) (h : used a s c = true) :
    bigSep ((Rd X G).duties (dcell a s c) 0 \ ∅) (fun i => (Rd X G).payload (dcell a s c) 0 i) = dmaPay X G c a s := by
  rw [Finset.sdiff_empty, duties_d X G a s c h, bigSep_singleton, payload_d]

theorem dmaPay_sent (b : Bool) (s : Fin 8) (c : Dev nD) : dmaPay X G c (aS b) s = slotPt b s c (spread (sent X b s c)) := by cases b <;> rfl
theorem dmaPay_got (b : Bool) (s : Fin 8) (c : Dev nD) : dmaPay X G c (aR b) s = slotPt b s c (spread (got X b s c)) := by cases b <;> rfl
theorem used_sent (b : Bool) (s : Fin 8) (c : Dev nD) : used (aS b) s c = snd b s c := by cases b <;> rfl
theorem used_got (b : Bool) (s : Fin 8) (c : Dev nD) : used (aR b) s c = rcv b s c := by cases b <;> rfl
theorem uD_sent (b : Bool) (s : Fin 8) : uD (aS b) s = u128 := by cases b <;> rfl
theorem uD_got (b : Bool) (s : Fin 8) : uD (aR b) s = u128 := by cases b <;> rfl

/-! ## Waiting -/

theorem mayWait (c : Dev nD) (sm : SemLoc sig) (n : ℕ) (h : okWait c sm n = true) :
    (levAts L lv : sProp 𝕄) ⊢ MayWait (c : Thread nD τ) sm () (OW c n) := by
  unfold okWait at h
  rw [List.all_eq_true] at h
  refine MayOwe.of_cut (L := L) (lev := lv) (lvS sm (zz c)) (fun p hp => ?_) (fun g u hg => ?_) (fun p hp => ?_) (fun g u hg => ?_)
  · rw [Finset.mem_singleton.mp hp, L_tc]; exact Finset.mem_singleton_self _
  · obtain ⟨d, -, -, rfl⟩ := sum_pos c g u hg
    unfold L; rw [if_pos (cell_tc c d)]; exact Finset.mem_singleton_self _
  · rw [Finset.mem_singleton.mp hp]
    exact le_refl _
  · obtain ⟨d, hd, ha, rfl⟩ := sum_pos c g u hg
    have := h d hd
    rw [ha] at this
    simpa using this

end Cert.Talk

end
-- ==== Proof.Steps.lean ====
/- The single operations of the kernel on the resources of the protocol: loads, stores, copies, waits. -/
module

public import proofs.«01_k».proof.Proof.Sched

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-! ## The kernel's operands -/

abbrev A0 : Memref sig .tc .vmem S4x256x1024 .bf16 := Memref.whole cc0_stg0_0
abbrev A1 : Memref sig .tc .vmem S1x1024 .bf16 := Memref.whole cc0_stg1_0
abbrev A2 : Memref sig .tc .vmem S1024x1024 .bf16 := Memref.whole cc0_stg2_0
/-- The slot buffer of a chain. -/
abbrev sM (b : Bool) : Memref sig .tc .vmem S8x128x1024 .bf16 :=
  match b with
  | false => Memref.whole cc0_scratch0
  | true => Memref.whole cc0_scratch1
/-- The kernel's semaphore arrays. -/
abbrev scr (a : Fin 6) : DmaSems sig S8 :=
  match a with
  | 0 => cc0_scratch2
  | 1 => cc0_scratch3
  | 2 => cc0_scratch4
  | 3 => cc0_scratch5
  | 4 => cc0_scratch6
  | 5 => cc0_scratch7

theorem semInb (s : Fin 8) (a : Fin 1) : (![s.val] : Fin 1 → ℕ) a + S1.size a ≤ S8.size a := by revert s a; decide
/-- One entry of a semaphore array, as the kernel names it. -/
abbrev semAt (D : DmaSems sig S8) (s : Fin 8) : DmaSem sig :=
  ((D.slice (Rect.unit (s := S8) ![s.val] S1.size (semInb s))).squeeze S_ squeezes_S1_S_).sem

theorem semAt_eq (a : Fin 6) (s : Fin 8) : semAt (scr a) s = ix a s := by
  revert a s; decide

/-- The view of one slot. -/
abbrev slotM (b : Bool) (s : Fin 8) : Memref sig .tc .vmem S128x1024 .bf16 :=
  ((sM b).slice (slotRect s) (fun _ => rfl)).squeeze S128x1024 squeezes_S1x128x1024_S128x1024

variable (X : Dev nD → Vec F S4x256x1024 .bf16) (G : Dev nD → Vec F S1x1024 .bf16)

/-- The staged operand and the staged scale of a device. -/
noncomputable def xPt (c : Dev nD) : sProp 𝕄 := (c : Thread nD τ).loc cc0_stg0_0 ↦{fullShare} X c
noncomputable def gPt (c : Dev nD) : sProp 𝕄 := (c : Thread nD τ).loc cc0_stg1_0 ↦{fullShare} G c
/-- What is owed after `n` duties, at some record of waits. -/
noncomputable def ow (c : Dev nD) (n : ℕ) : sProp 𝕄 := iprop(∃ W, owes (c : Thread nD τ) (OW c n) W)

theorem ret_intro {α : Type} (c : Dev nD) (Φ : α → sProp 𝕄) (v : α) :
    Φ v ⊢ wp frame (wpE (defs₀ (F := F)) 𝒱₀ (c : Thread nD τ) none) Set.univ (.ret v) Φ := by
  rw [wp_ret]
  iintro H; imodintro; iexact H

/-! ## Loads and stores -/

theorem lift_load_x (c : Dev nD) (j : Fin 4) (h : Fin 2) {hl} (Φ : Vec F S1x128x1024 .bf16 → sProp 𝕄) :
    iprop(xPt X c ∗ (xPt X c -∗ Φ (xch (X c) j h)))
      ⊢ wp frame (wpE (defs₀ (F := F)) 𝒱₀ (c : Thread nD τ) none) Set.univ
        (Prog.lift (.load A0 (xRect j h).toLoadRect hl)) Φ := by
  rw [show xch (X c) j h = A0.view.readAt (Elt F) (xRect j h).toLoadRect (X c) from rfl]
  unfold xPt
  iintro ⟨Hx, HK⟩
  iapply (wp_load 𝒱₀ (c : Thread nD τ) none Set.univ (m := A0) (r := (xRect j h).toLoadRect) (S := Finset.univ) (f := X c)
    (Finset.subset_univ _)) $$ [Hx]
  · iexact Hx
  iintro Hx
  iapply ret_intro
  iapply HK
  iexact Hx

theorem lift_load_g (c : Dev nD) {hl} (Φ : Vec F S1x1024 .bf16 → sProp 𝕄) :
    iprop(gPt G c ∗ (gPt G c -∗ Φ (gch (G c))))
      ⊢ wp frame (wpE (defs₀ (F := F)) 𝒱₀ (c : Thread nD τ) none) Set.univ
        (Prog.lift (.load A1 gRect.toLoadRect hl)) Φ := by
  rw [show gch (G c) = A1.view.readAt (Elt F) gRect.toLoadRect (G c) from rfl]
  unfold gPt
  iintro ⟨Hx, HK⟩
  iapply (wp_load 𝒱₀ (c : Thread nD τ) none Set.univ (m := A1) (r := gRect.toLoadRect) (S := Finset.univ) (f := G c)
    (Finset.subset_univ _)) $$ [Hx]
  · iexact Hx
  iintro Hx
  iapply ret_intro
  iapply HK
  iexact Hx

/-- What slot `s` of the contents `f` holds. -/
noncomputable def slAt (f : Vec F S8x128x1024 .bf16) (s : Fin 8) : Vec F S1x128x1024 .bf16 := fun i => f ((slotRect s).emb i)
theorem slAt_spread (w : Vec F S1x128x1024 .bf16) (s : Fin 8) : slAt (spread w) s = w := by
  funext i; exact spread_emb w s i

theorem slot_sub (s : Fin 8) : (slotRect s).set ⊆ slotSet s := by rw [slotRect_set]

theorem lift_load_slot (c : Dev nD) (b : Bool) (s : Fin 8) (f : Vec F S8x128x1024 .bf16) {hl} (Φ : Vec F S1x128x1024 .bf16 → sProp 𝕄) :
    iprop(slotPt b s c f ∗ (slotPt b s c f -∗ Φ (slAt f s)))
      ⊢ wp frame (wpE (defs₀ (F := F)) 𝒱₀ (c : Thread nD τ) none) Set.univ
        (Prog.lift (.load (sM b) (slotRect s).toLoadRect hl)) Φ := by
  cases b with
  | false =>
    rw [show slAt f s = (Memref.whole cc0_scratch0).view.readAt (Elt F) (slotRect s).toLoadRect f from rfl]
    unfold slotPt
    iintro ⟨Hx, HK⟩
    iapply (wp_load 𝒱₀ (c : Thread nD τ) none Set.univ (m := Memref.whole cc0_scratch0) (r := (slotRect s).toLoadRect) (S := slotSet s) (f := f)
      (by show Finset.map (Function.Embedding.refl _) _ ⊆ _; rw [Finset.map_refl]; exact slot_sub s)) $$ [Hx]
    · iexact Hx
    iintro Hx
    iapply ret_intro
    iapply HK
    iexact Hx
  | true =>
    rw [show slAt f s = (Memref.whole cc0_scratch1).view.readAt (Elt F) (slotRect s).toLoadRect f from rfl]
    unfold slotPt
    iintro ⟨Hx, HK⟩
    iapply (wp_load 𝒱₀ (c : Thread nD τ) none Set.univ (m := Memref.whole cc0_scratch1) (r := (slotRect s).toLoadRect) (S := slotSet s) (f := f)
      (by show Finset.map (Function.Embedding.refl _) _ ⊆ _; rw [Finset.map_refl]; exact slot_sub s)) $$ [Hx]
    · iexact Hx
    iintro Hx
    iapply ret_intro
    iapply HK
    iexact Hx

theorem slot_wrote (b : Bool) (s : Fin 8) (f : Vec F S8x128x1024 .bf16) (w : Vec F S1x128x1024 .bf16) (i : S8x128x1024.Idx)
    (hi : i ∈ slotSet s) : ∃ j, (slotRect s).emb j = i ∧ j = inSlot i := by
  rw [← slotRect_set, ← Rect.map_emb_univ, Finset.mem_map] at hi
  obtain ⟨j, -, rfl⟩ := hi
  exact ⟨j, rfl, (inSlot_emb s j).symm⟩

theorem lift_store_slot (c : Dev nD) (b : Bool) (s : Fin 8) (f : Vec F S8x128x1024 .bf16) (w : Vec F S1x128x1024 .bf16) {h1 h2}
    (Φ : PUnit → sProp 𝕄) :
    iprop(slotPt b s c f ∗ (slotPt b s c (spread w) -∗ Φ ⟨⟩))
      ⊢ wp frame (wpE (defs₀ (F := F)) 𝒱₀ (c : Thread nD τ) none) Set.univ
        (Prog.lift (.store (sM b) (slotRect s) w Finset.univ h1 h2)) Φ := by
  cases b with
  | false =>
    unfold slotPt
    iintro ⟨Hx, HK⟩
    iapply (wp_store 𝒱₀ (c : Thread nD τ) none Set.univ (m := Memref.whole cc0_scratch0) (r := slotRect s) (S := slotSet s) (f := f)
      (by rw [View.setOn_univ]; exact (View.set_slice_whole _ _).trans_subset (slot_sub s))) $$ [Hx]
    · iexact Hx
    iintro Hx
    iapply ret_intro
    iapply HK
    refine Entails.of_eq (pointsTo_congr fun i hi => ?_)
    obtain ⟨j, rfl, -⟩ := slot_wrote false s f w i hi
    exact (View.write_emb_of_mem (Val := Elt F) (v := (Memref.whole cc0_scratch0 : Memref sig .tc .vmem S8x128x1024 .bf16).access (slotRect s)) f w (Finset.mem_univ j)).trans (spread_emb w s j).symm
  | true =>
    unfold slotPt
    iintro ⟨Hx, HK⟩
    iapply (wp_store 𝒱₀ (c : Thread nD τ) none Set.univ (m := Memref.whole cc0_scratch1) (r := slotRect s) (S := slotSet s) (f := f)
      (by rw [View.setOn_univ]; exact (View.set_slice_whole _ _).trans_subset (slot_sub s))) $$ [Hx]
    · iexact Hx
    iintro Hx
    iapply ret_intro
    iapply HK
    refine Entails.of_eq (pointsTo_congr fun i hi => ?_)
    obtain ⟨j, rfl, -⟩ := slot_wrote true s f w i hi
    exact (View.write_emb_of_mem (Val := Elt F) (v := (Memref.whole cc0_scratch1 : Memref sig .tc .vmem S8x128x1024 .bf16).access (slotRect s)) f w (Finset.mem_univ j)).trans (spread_emb w s j).symm

/-! ## The rows of the result -/

theorem outR_sub (c : Dev nD) (h : Fin 2) {off : Fin 2 → ℕ} {inb} (hoff : off = ![512 * (c.val / 8) + 256 * ((c.val / 4) % 2) + 128 * h.val, 0]) :
    (Rect.unit (s := S1024x1024) off S128x1024.size inb).set ⊆ rows (512 * (c.val / 8) + 256 * ((c.val / 4) % 2) + 128 * h.val) 128 := by
  subst hoff
  exact (rows_set _ 128 inb).subset

/-- The own rows of half `h`. -/
noncomputable def own (h : Fin 2) (c : Dev nD) : Finset S1024x1024.Idx := rows (512 * (c.val / 8) + 256 * ((c.val / 4) % 2) + 128 * h.val) 128

theorem lift_load_out (c : Dev nD) (h : Fin 2) {off : Fin 2 → ℕ} {inb} (hoff : off = ![512 * (c.val / 8) + 256 * ((c.val / 4) % 2) + 128 * h.val, 0])
    (f : Vec F S1024x1024 .bf16) {hl} (Φ : Vec F S128x1024 .bf16 → sProp 𝕄) :
    iprop(outPt c (own h c) fullShare f ∗ (∀ v, outPt c (own h c) fullShare f -∗ Φ v))
      ⊢ wp frame (wpE (defs₀ (F := F)) 𝒱₀ (c : Thread nD τ) none) Set.univ
        (Prog.lift (.load A2 (Rect.unit (s := S1024x1024) off S128x1024.size inb).toLoadRect hl)) Φ := by
  unfold outPt
  iintro ⟨Hx, HK⟩
  iapply (wp_load 𝒱₀ (c : Thread nD τ) none Set.univ (m := A2) (r := (Rect.unit (s := S1024x1024) off S128x1024.size inb).toLoadRect) (S := own h c) (f := f)
    (by show Finset.map (Function.Embedding.refl _) _ ⊆ _; rw [Finset.map_refl]; exact outR_sub c h hoff)) $$ [Hx]
  · iexact Hx
  iintro Hx
  iapply ret_intro
  iapply HK
  iexact Hx

theorem lift_store_out (c : Dev nD) (h : Fin 2) {off : Fin 2 → ℕ} {inb} (hoff : off = ![512 * (c.val / 8) + 256 * ((c.val / 4) % 2) + 128 * h.val, 0])
    (f : Vec F S1024x1024 .bf16) {w : Vec F S128x1024 .bf16} (hw : w = fv X G h c) {h1 h2} (Φ : PUnit → sProp 𝕄) :
    iprop(outPt c (own h c) fullShare f ∗ (outPt c (own h c) fullShare (out X G (zz c)) -∗ Φ ⟨⟩))
      ⊢ wp frame (wpE (defs₀ (F := F)) 𝒱₀ (c : Thread nD τ) none) Set.univ
        (Prog.lift (.store A2 (Rect.unit (s := S1024x1024) off S128x1024.size inb) w Finset.univ h1 h2)) Φ := by
  subst hw hoff
  unfold outPt
  iintro ⟨Hx, HK⟩
  iapply (wp_store 𝒱₀ (c : Thread nD τ) none Set.univ (m := A2) (r := Rect.unit (s := S1024x1024) _ S128x1024.size inb) (S := own h c) (f := f)
    (by rw [View.setOn_univ]; exact (View.set_slice_whole _ _).trans_subset (outR_sub c h rfl))) $$ [Hx]
  · iexact Hx
  iintro Hx
  iapply ret_intro
  iapply HK
  refine Entails.of_eq (pointsTo_congr fun i hi => ?_)
  rw [own, ← rows_set _ 128 inb, ← Rect.map_emb_univ, Finset.mem_map] at hi
  obtain ⟨j, -, rfl⟩ := hi
  exact (View.write_emb_of_mem (Val := Elt F) (v := A2.access (Rect.unit (s := S1024x1024) _ S128x1024.size inb)) f _ (Finset.mem_univ j)).trans
    (out_emb X G c h inb j).symm

/-! ## What all steps may use -/

theorem big_take {ι : Type} [DecidableEq ι] [Fintype ι] (Φ : ι → sProp 𝕄) (i : ι) : (bigSep Finset.univ Φ : sProp 𝕄) ⊢ Φ i := bigSep_elim (Finset.mem_univ i)

/-- The levels of all cells. -/
noncomputable def levs : sProp 𝕄 := levAts L lv
instance levs_persistent : BI.Persistent (levs : sProp 𝕄) := by unfold levs; infer_instance
theorem levs_mayWait (c : Dev nD) (sm : SemLoc sig) (n : ℕ) (h : okWait c sm n = true) :
    (levs : sProp 𝕄) ⊢ MayWait (c : Thread nD τ) sm () (OW c n) := mayWait c sm n h

/-- The cells' invariants, the levels, and that the own cells stand open. -/
noncomputable def ctx (K : GSem nD τ sig → ℕ) (c : Dev nD) : sProp 𝕄 :=
  iprop((bigSep Finset.univ fun p : Dev nD × Fin 6 × Fin 8 => cellInv ER (Rd X G) (K (dcell p.2.1 p.2.2 p.1)) (dcell p.2.1 p.2.2 p.1))
    ∗ (bigSep Finset.univ fun d : Dev nD => cellInv ER (Rd X G) (K (bcell d)) (bcell d))
    ∗ levs
    ∗ (bigSep Finset.univ fun d : Dev nD => reached ER (bcell d) 0)
    ∗ bigSep Finset.univ fun p : Fin 6 × Fin 8 => reached ER (dcell p.1 p.2 c) 0)

instance ctx_persistent (K : GSem nD τ sig → ℕ) (c : Dev nD) : BI.Persistent (ctx X G K c) := by unfold ctx; infer_instance

theorem ctx_inv (K : GSem nD τ sig → ℕ) (c d : Dev nD) (a : Fin 6) (s : Fin 8) :
    ctx X G K c ⊢ cellInv ER (Rd X G) (K (dcell a s d)) (dcell a s d) := by
  unfold ctx
  iintro ⟨H, -⟩
  iapply (big_take (fun p : Dev nD × Fin 6 × Fin 8 => cellInv ER (Rd X G) (K (dcell p.2.1 p.2.2 p.1)) (dcell p.2.1 p.2.2 p.1)) (d, a, s))
  iexact H
theorem ctx_bar (K : GSem nD τ sig → ℕ) (c d : Dev nD) : ctx X G K c ⊢ cellInv ER (Rd X G) (K (bcell d)) (bcell d) := by
  unfold ctx
  iintro ⟨-, H, -⟩
  iapply (big_take (fun d : Dev nD => cellInv ER (Rd X G) (K (bcell d)) (bcell d)) d)
  iexact H
theorem ctx_lev (K : GSem nD τ sig → ℕ) (c : Dev nD) : (ctx X G K c : sProp 𝕄) ⊢ (levs : sProp 𝕄) := by
  unfold ctx
  iintro ⟨-, -, H, -⟩
  iexact H
theorem ctx_barR (K : GSem nD τ sig → ℕ) (c d : Dev nD) : ctx X G K c ⊢ reached ER (bcell d) 0 := by
  unfold ctx
  iintro ⟨-, -, -, H, -⟩
  iapply (big_take (fun d : Dev nD => reached ER (bcell d) 0) d)
  iexact H
theorem ctx_own (K : GSem nD τ sig → ℕ) (c : Dev nD) (a : Fin 6) (s : Fin 8) : ctx X G K c ⊢ reached ER (dcell a s c) 0 := by
  unfold ctx
  iintro ⟨-, -, -, -, H⟩
  iapply (big_take (fun p : Fin 6 × Fin 8 => reached ER (dcell p.1 p.2 c) 0) (a, s))
  iexact H

end Cert.Talk

end
-- ==== Proof.Moves.lean ====
/- The operations of the kernel that other devices take part in: copies, waits, signals. -/
module

public import proofs.«01_k».proof.Proof.Steps

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .bf16) (G : Dev nD → Vec F S1x1024 .bf16)

attribute [local irreducible] OW okWait ord

theorem slotM_false_set (s : Fin 8) : (slotM false s).view.set = slotSet s := by
  show (((View.whole cc0_scratch0).slice (slotRect s)).reshape _ _).set = _
  rw [View.set_reshape, View.set_slice_whole, slotRect_set]
theorem slotM_true_set (s : Fin 8) : (slotM true s).view.set = slotSet s := by
  show (((View.whole cc0_scratch1).slice (slotRect s)).reshape _ _).set = _
  rw [View.set_reshape, View.set_slice_whole, slotRect_set]

theorem write_read {κ : Kind} {sp : Space} {s : Shape} {e : EltTy} (v : View sig κ sp s e) (fd fs : v.ty.Contents (Elt F)) :
    ∀ i ∈ v.set, v.write (Elt F) fd (v.read (Elt F) fs) Finset.univ i = fs i := by
  intro i hi
  obtain ⟨j, -, rfl⟩ := Finset.mem_map.mp hi
  rw [View.write_emb_of_mem _ _ (Finset.mem_univ j)]
  show cast _ (cast _ _) = _
  rw [cast_cast, cast_eq]

/-- The copy of a slot to the next device of its chain. -/
theorem lift_send_slot (K : GSem nD τ sig → ℕ) (c : Dev nD) (b : Bool) (s : Fin 8) (n : ℕ) (d : Duty)
    (hn : (ord c)[n]? = some d) (ha : d.act c = true) (hcell : d.cell c = dcell (aR b) s (nx b c)) (hamt : d.amt = u128)
    (hs : snd b s c = true) {dev : Dev nD} (hdev : dev = nx b c) {sm1 sm2 : DmaSem sig} (h1 : sm1 = ix (aS b) s) (h2 : sm2 = ix (aR b) s)
    {hsc a1 a2 a3} (Φ : PUnit → sProp 𝕄) :
    iprop(ctx X G K c ∗ slotPt b s c (spread (sent X b s c)) ∗ (∃ f, slotPt b s (nx b c) f) ∗ reached ER (dcell (aR b) s (nx b c)) 0
        ∗ ow c n ∗ dutyTok ER (dcell (aS b) s c) 0 0 ∗ dutyTok ER (dcell (aR b) s (nx b c)) 0 0
        ∗ ((cred (tallyAt (dcell (aS b) s c) () u128) ∗ ow c (n + 1)) -∗ Φ ⟨⟩))
      ⊢ wp frame (wpE (defs₀ (F := F)) 𝒱₀ (c : Thread nD τ) none) Set.univ
        (Prog.lift (.enqueueDma (slotM b s) (.remote (Dev.tc dev) (slotM b s) (.dma sm1) hsc) (.dma sm2) a1 a2 a3)) Φ := by
  subst hdev h1 h2
  have hS : (0 : Fin 4) ∈ (Rd X G).duties (dcell (aS b) s c) 0 := by
    rw [duties_d X G _ _ _ ((used_sent b s c).trans hs)]; exact Finset.mem_singleton_self _
  have hR : (0 : Fin 4) ∈ (Rd X G).duties (dcell (aR b) s (nx b c)) 0 := by
    rw [duties_d X G _ _ _ ((used_got b s (nx b c)).trans ((rcv_nx b s c).trans hs))]; exact Finset.mem_singleton_self _
  have hgot : got X b s (nx b c) = sent X b s c := by unfold got; rw [pv_nx]
  have hO : OW c n = OW c (n + 1) + tallyAt (dcell (aR b) s (nx b c)) () u128 := by
    rw [← hcell, ← hamt]; exact OW_pay c n d hn ha
  unfold ow
  cases b with
  | false =>
    unfold slotPt
    iintro ⟨#Hctx, Hs, ⟨%fd, Hd⟩, #HrV, ⟨%W, HO⟩, HtS, HtR, HK⟩
    iapply (Rounds.wp_send_pointsTo 𝒱₀ ER (Rd X G) (c : Thread nD τ) none (c' := (nx false c : Thread nD τ)) (src := slotM false s) (dst := slotM false s)
      (sS := .dma (ix 0 s)) (sem := .dma (ix 1 s)) (q := fullShare) (fs := spread (sent X false s c)) (κ₁ := K (dcell 0 s c)) (κ₂ := K (dcell 1 s (nx false c)))
      (r₁ := 0) (r₂ := 0) (d₁ := 0) (d₂ := 0) (fd := fd) hS hR () () u128 rfl
      (amount_d X G _ _ _ _) (amount_d X G _ _ _ _) (OW c (n + 1)) hO (W := W)
      (by rw [slotM_false_set]; exact Entails.of_eq ((payload_d X G 0 s c 0).trans (dmaPay_sent X G false s c)).symm)
      (by rw [pointsTo_congr (write_read (slotM false s).view fd _), slotM_false_set]
          exact Entails.of_eq (((payload_d X G 1 s (nx false c) 0).trans (dmaPay_got X G false s _)).trans (by rw [hgot]; rfl)).symm)) $$ [Hs Hd HO HtS HtR]
    · isplitr; · iapply (ctx_inv X G K c c 0 s); iexact Hctx
      isplitr; · iapply (ctx_inv X G K c (nx false c) 1 s); iexact Hctx
      isplitl [Hs]; · rw [slotM_false_set]; iexact Hs
      isplitl [Hd]; · rw [slotM_false_set]; iexact Hd
      isplitl [HO]; · iexact HO
      isplitl [HtS]; · iexact HtS
      isplitr; · iapply (ctx_own X G K c 0 s); iexact Hctx
      isplitl [HtR]; · iexact HtR
      iexact HrV
    iintro ⟨Hc, HO⟩
    iapply ret_intro
    iapply HK
    isplitl [Hc]; · iexact Hc
    iexists W; iexact HO
  | true =>
    unfold slotPt
    iintro ⟨#Hctx, Hs, ⟨%fd, Hd⟩, #HrV, ⟨%W, HO⟩, HtS, HtR, HK⟩
    iapply (Rounds.wp_send_pointsTo 𝒱₀ ER (Rd X G) (c : Thread nD τ) none (c' := (nx true c : Thread nD τ)) (src := slotM true s) (dst := slotM true s)
      (sS := .dma (ix 2 s)) (sem := .dma (ix 3 s)) (q := fullShare) (fs := spread (sent X true s c)) (κ₁ := K (dcell 2 s c)) (κ₂ := K (dcell 3 s (nx true c)))
      (r₁ := 0) (r₂ := 0) (d₁ := 0) (d₂ := 0) (fd := fd) hS hR () () u128 rfl
      (amount_d X G _ _ _ _) (amount_d X G _ _ _ _) (OW c (n + 1)) hO (W := W)
      (by rw [slotM_true_set]; exact Entails.of_eq ((payload_d X G 2 s c 0).trans (dmaPay_sent X G true s c)).symm)
      (by rw [pointsTo_congr (write_read (slotM true s).view fd _), slotM_true_set]
          exact Entails.of_eq (((payload_d X G 3 s (nx true c) 0).trans (dmaPay_got X G true s _)).trans (by rw [hgot]; rfl)).symm)) $$ [Hs Hd HO HtS HtR]
    · isplitr; · iapply (ctx_inv X G K c c 2 s); iexact Hctx
      isplitr; · iapply (ctx_inv X G K c (nx true c) 3 s); iexact Hctx
      isplitl [Hs]; · rw [slotM_true_set]; iexact Hs
      isplitl [Hd]; · rw [slotM_true_set]; iexact Hd
      isplitl [HO]; · iexact HO
      isplitl [HtS]; · iexact HtS
      isplitr; · iapply (ctx_own X G K c 2 s); iexact Hctx
      isplitl [HtR]; · iexact HtR
      iexact HrV
    iintro ⟨Hc, HO⟩
    iapply ret_intro
    iapply HK
    isplitl [Hc]; · iexact Hc
    iexists W; iexact HO

/-- A wait on one of the own DMA semaphores. -/
theorem lift_wait (K : GSem nD τ sig → ℕ) (c : Dev nD) (a : Fin 6) (s : Fin 8) (n : ℕ) (hu : used a s c = true)
    (hok : okWait c (.dma (ix a s)) n = true) {sm : DmaSem sig} (h : sm = ix a s) {sp sp' : Space} {sh sh' : Shape} {e e' : EltTy}
    {src : Memref sig .tc sp' sh' e'} {dst : Memref sig .tc sp sh e} (hcr : dst.view.dmaCredit = uD a s) {h1 h2} (Φ : PUnit → sProp 𝕄) :
    iprop(ctx X G K c ∗ cred (tallyAt (dcell a s c) () (uD a s)) ∗ ow c n ∗ atPos ER (dcell a s c) 0 ∅ 0
        ∗ ((ow c n ∗ atPos ER (dcell a s c) 1 ∅ 0 ∗ dmaPay X G c a s) -∗ Φ ⟨⟩))
      ⊢ wp frame (wpE (defs₀ (F := F)) 𝒱₀ (c : Thread nD τ) none) Set.univ
        (Prog.lift (.waitDma2 sm src dst h1 h2)) Φ := by
  subst h
  have hk : 0 + dst.view.dmaCredit = (Rd X G).expect (dcell a s c) 0 := by rw [Nat.zero_add, hcr, expect_d X G a s c hu]
  have hm : (ctx X G K c : sProp 𝕄) ⊢ MayWait (c : Thread nD τ) (.dma (ix a s)) () (OW c n) :=
    (@ctx_lev F _ X G K c).trans (levs_mayWait c (.dma (ix a s)) n hok)
  unfold ow
  rw [← hcr]
  iintro ⟨#Hctx, Hc, ⟨%W, HO⟩, Hat, HK⟩
  iapply (Rounds.wp_wait_rest_token 𝒱₀ ER (Rd X G) (c : Thread nD τ) none (κ := K (dcell a s c)) (w := .waitDma2 (ix a s) src dst h1 h2)
      (wpE_waitDma2_eq (src := src) (dst := dst) 𝒱₀ (c : Thread nD τ) none Set.univ) (Set.mem_univ _) () (O := OW c n) (W := W) (R := 0) (m := 0) (T := ∅)
      (k' := dst.view.dmaCredit) hk) $$ [Hc HO Hat]
  · isplitr; · iapply (ctx_inv X G K c c a s); iexact Hctx
    isplitl [Hc]; · iexact Hc
    isplitl [HO]; · iexact HO
    isplitr; · iapply hm; iexact Hctx
    iexact Hat
  iintro ⟨HO, Hat, -, Hpay⟩
  ihave Hp := (Entails.of_eq (rest_d X G a s c hu)) $$ Hpay
  iapply ret_intro
  iapply HK
  isplitl [HO]; · iexists _; iexact HO
  isplitl [Hat]; · iexact Hat
  iexact Hp

/-- The copy of finished rows to another device. -/
theorem lift_send_row (K : GSem nD τ sig → ℕ) (c : Dev nD) (q : Fin 8) (n : ℕ)
    (hn : (ord c)[n]? = some (.pb q)) {dev : Dev nD} (hdev : dev = pd q c) {sm1 sm2 : DmaSem sig} (h1 : sm1 = ix 4 q) (h2 : sm2 = ix 5 q)
    {off sz : Fin 2 → ℕ} {inb} (hoff : off = ![ro q c, 0]) (hsz : sz = ![rn q, 1024]) (hcr : RefSig.tileCredit ⟨2, sz⟩ .bf16 = uD 5 q)
    (hzz : zz (pd q c) = zz c)
    {hu hsc a1 a2 a3} (Φ : PUnit → sProp 𝕄) :
    iprop(ctx X G K c ∗ outPt c (reg q c) (shr q) (out X G (zz c)) ∗ rowOpen q c
        ∗ ow c n ∗ dutyTok ER (dcell 4 q c) 0 0 ∗ dutyTok ER (dcell 5 q (pd q c)) 0 0
        ∗ ((cred (tallyAt (dcell 4 q c) () (uD 4 q)) ∗ ow c (n + 1)) -∗ Φ ⟨⟩))
      ⊢ wp frame (wpE (defs₀ (F := F)) 𝒱₀ (c : Thread nD τ) none) Set.univ
        (Prog.lift (.enqueueDma (A2.slice (Rect.unit (s := S1024x1024) off sz inb) hu)
          (.remote (Dev.tc dev) (A2.slice (Rect.unit (s := S1024x1024) off sz inb) hu) (.dma sm1) hsc) (.dma sm2) a1 a2 a3)) Φ := by
  subst hdev h1 h2 hoff hsz
  have hset : (A2.slice (Rect.unit (s := S1024x1024) ![ro q c, 0] ![rn q, 1024] inb) hu).view.set = reg q c :=
    (View.set_slice_whole _ _).trans (rows_set _ _ inb)
  have hO : OW c n = OW c (n + 1) + tallyAt (dcell 5 q (pd q c)) () (uD 5 q) := OW_pay c n (.pb q) hn rfl
  have h45 : uD 4 q = uD 5 q := rfl
  unfold ow rowOpen outPt
  iintro ⟨#Hctx, Hs, ⟨⟨%fd, Hd⟩, #HrV⟩, ⟨%W, HO⟩, HtS, HtR, HK⟩
  iapply (Rounds.wp_send_pointsTo 𝒱₀ ER (Rd X G) (c : Thread nD τ) none (c' := (pd q c : Thread nD τ))
      (src := A2.slice (Rect.unit (s := S1024x1024) ![ro q c, 0] ![rn q, 1024] inb) hu)
      (dst := A2.slice (Rect.unit (s := S1024x1024) ![ro q c, 0] ![rn q, 1024] inb) hu)
      (sS := .dma (ix 4 q)) (sem := .dma (ix 5 q)) (q := shr q) (fs := out X G (zz c)) (κ₁ := K (dcell 4 q c)) (κ₂ := K (dcell 5 q (pd q c)))
      (r₁ := 0) (r₂ := 0) (d₁ := 0) (d₂ := 0) (fd := fd)
      (by rw [duties_d X G _ _ _ rfl]; exact Finset.mem_singleton_self _) (by rw [duties_d X G _ _ _ rfl]; exact Finset.mem_singleton_self _)
      () () (uD 5 q) hcr (amount_d X G _ _ _ _) (amount_d X G _ _ _ _) (OW c (n + 1)) hO (W := W)
      (by rw [hset]; exact Entails.of_eq (payload_d X G 4 q c 0).symm)
      (by rw [pointsTo_congr (write_read (A2.slice (Rect.unit (s := S1024x1024) ![ro q c, 0] ![rn q, 1024] inb) hu).view fd _), hset]
          refine Entails.of_eq ((payload_d X G 5 q (pd q c) 0).trans ?_).symm
          show outPt (pd q c) (reg q (pd q (pd q c))) fullShare (out X G (zz (pd q c))) = _
          rw [pd_pd, hzz]; rfl)) $$ [Hs Hd HO HtS HtR]
  · isplitr; · iapply (ctx_inv X G K c c 4 q); iexact Hctx
    isplitr; · iapply (ctx_inv X G K c (pd q c) 5 q); iexact Hctx
    isplitl [Hs]; · rw [hset]; iexact Hs
    isplitl [Hd]; · rw [hset]; iexact Hd
    isplitl [HO]; · iexact HO
    isplitl [HtS]; · iexact HtS
    isplitr; · iapply (ctx_own X G K c 4 q); iexact Hctx
    isplitl [HtR]; · iexact HtR
    iexact HrV
  iintro ⟨Hc, HO⟩
  iapply ret_intro
  iapply HK
  isplitl [Hc]; · iexact Hc
  iexists W; iexact HO

/-- A barrier signal. -/
theorem signal_step (K : GSem nD τ sig → ℕ) (c : Dev nD) (i : Fin 4) (n : ℕ) (hn : (ord c)[n]? = some (.bar i)) (hk : nbOk i c = true)
    {dev : Dev nD} (hdev : dev = nb i c) (Φ : PUnit → sProp 𝕄) :
    iprop(ctx X G K c ∗ ow c n ∗ dutyTok ER (bcell (nb i c)) 0 i ∗ barPay (nb i c) i ∗ (ow c (n + 1) -∗ Φ ⟨⟩))
      ⊢ wp frame (wpE (defs₀ (F := F)) 𝒱₀ (c : Thread nD τ) none) Set.univ (semSignalWord dev barS 1#32) Φ := by
  subst hdev
  unfold ow
  iintro ⟨#Hctx, ⟨%W, HO⟩, Ht, Hp, HK⟩
  iapply (Rounds.wp_signal 𝒱₀ ER (Rd X G) (c : Thread nD τ) none (dst := (nb i c : Thread nD τ)) (sem := barS) (r := 0) (d := i) (κ := K (bcell (nb i c)))
      (by rw [duties_bar, Finset.mem_filter]; exact ⟨Finset.mem_univ _, (inOk_nb i c).trans hk⟩)
      (amount_bar X G (nb i c) i) () (OW c (n + 1)) (OW_pay c n (.bar i) hn hk) (W := W)) $$ [HO Ht Hp]
  · isplitr; · iapply (ctx_bar X G K c (nb i c)); iexact Hctx
    isplitl [HO]; · iexact HO
    isplitl [Ht]; · iexact Ht
    isplitl [Hp]; · rw [payload_bar]; iexact Hp
    iapply (ctx_barR X G K c (nb i c)); iexact Hctx
  iintro HO
  iapply ret_intro
  iapply HK
  iexists W; iexact HO

end Cert.Talk

end
-- ==== Proof.Comp.lean ====
/- What a device holds between two operations, as one resource per slot and per row copy, and how a step changes it. -/
module

public import proofs.«01_k».proof.Proof.Moves

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .bf16) (G : Dev nD → Vec F S1x1024 .bf16)

/-! ## A slot -/

/-- The right to pay the two duties of a slot copy, of a row copy. -/
noncomputable def slotTok (b : Bool) (s : Fin 8) (c : Dev nD) : sProp 𝕄 :=
  bif snd b s c then iprop(dutyTok ER (dcell (aS b) s c) 0 0 ∗ dutyTok ER (dcell (aR b) s (nx b c)) 0 0) else iprop(emp)
noncomputable def rowTok (q : Fin 8) (c : Dev nD) : sProp 𝕄 :=
  iprop(dutyTok ER (dcell 4 q c) 0 0 ∗ dutyTok ER (dcell 5 q (pd q c)) 0 0)
/-- The slot itself, or the units that will bring it. -/
noncomputable def slotIn (b : Bool) (s : Fin 8) (c : Dev nD) : sProp 𝕄 :=
  bif rcv b s c then cred (tallyAt (dcell (aR b) s c) () u128) else iprop(∃ f, slotPt b s c f)
/-- A slot before the device has used it. -/
noncomputable def slotA (b : Bool) (s : Fin 8) (c : Dev nD) : sProp 𝕄 :=
  iprop(slotOpen b s c ∗ slotTok b s c ∗ atPos ER (dcell (aS b) s c) 0 ∅ 0 ∗ atPos ER (dcell (aR b) s c) 0 ∅ 0 ∗ slotIn b s c)
/-- A slot on its way to the next device. -/
noncomputable def slotGone (b : Bool) (s : Fin 8) (c : Dev nD) : sProp 𝕄 :=
  iprop(cred (tallyAt (dcell (aS b) s c) () u128) ∗ atPos ER (dcell (aS b) s c) 0 ∅ 0 ∗ atPos ER (dcell (aR b) s c) (bif rcv b s c then 1 else 0) ∅ 0)
/-- A slot that has arrived at its end. -/
noncomputable def slotHere (b : Bool) (s : Fin 8) (c : Dev nD) : sProp 𝕄 :=
  iprop(slotPt b s c (spread (got X b s c)) ∗ atPos ER (dcell (aS b) s c) 0 ∅ 0 ∗ atPos ER (dcell (aR b) s c) 1 ∅ 0)
/-- A slot at the end of the kernel. -/
noncomputable def slotEnd (b : Bool) (s : Fin 8) (c : Dev nD) : sProp 𝕄 :=
  iprop((∃ f, slotPt b s c f) ∗ atPos ER (dcell (aS b) s c) (bif snd b s c then 1 else 0) ∅ 0
    ∗ atPos ER (dcell (aR b) s c) (bif rcv b s c then 1 else 0) ∅ 0)
/-- The slot after the stages: edge, middle, arrival, return. -/
noncomputable def slotC (b : Bool) (s : Fin 8) (c : Dev nD) (t : ℕ) : sProp 𝕄 :=
  match t with
  | 0 => slotA b s c
  | 1 => bif decide (pos b c = 0) && snd b s c then slotGone b s c else slotA b s c
  | 2 => bif snd b s c then slotGone b s c else slotA b s c
  | 3 => bif snd b s c then slotGone b s c else bif rcv b s c then slotHere X b s c else slotA b s c
  | _ => slotEnd b s c

/-! ## Rows -/

/-- The row copy that forwards what `q` brought. -/
noncomputable def fw (q : Fin 8) : Fin 8 := if q.val < 2 then ⟨(q.val + 6) % 8, by omega⟩ else ⟨(q.val + 2) % 8, by omega⟩
/-- The rows that `q` brought and that are not forwarded. -/
noncomputable def rem (q : Fin 8) (c : Dev nD) : Finset S1024x1024.Idx :=
  if q.val < 4 then reg q (pd q c) \ reg (fw q) c else reg q (pd q c)

/-- A row copy to another device: what it needs, what it moves, the units that bring the rows back, the rows. -/
noncomputable def rowS (q : Fin 8) (c : Dev nD) (t : ℕ) : sProp 𝕄 :=
  match t with
  | 0 => iprop((rowOpen q c ∗ rowTok q c) ∗ atPos ER (dcell 4 q c) 0 ∅ 0)
  | 1 => iprop((rowOpen q c ∗ rowTok q c) ∗ atPos ER (dcell 4 q c) 0 ∅ 0 ∗ outPt c (reg q c) (shr q) (out X G (zz c)))
  | 2 => iprop(cred (tallyAt (dcell 4 q c) () (uD 4 q)) ∗ atPos ER (dcell 4 q c) 0 ∅ 0)
  | _ => iprop(atPos ER (dcell 4 q c) 1 ∅ 0 ∗ outPt c (reg q c) (shr q) (out X G (zz c)))
/-- A row copy from another device: the units that bring it, the rows, the rows not forwarded. -/
noncomputable def rowR (q : Fin 8) (c : Dev nD) (t : ℕ) : sProp 𝕄 :=
  match t with
  | 0 => iprop(cred (tallyAt (dcell 5 q c) () (uD 5 q)) ∗ atPos ER (dcell 5 q c) 0 ∅ 0)
  | 1 => iprop(atPos ER (dcell 5 q c) 1 ∅ 0 ∗ outPt c (reg q (pd q c)) fullShare (out X G (zz c)))
  | _ => iprop(atPos ER (dcell 5 q c) 1 ∅ 0 ∗ outPt c (rem q c) fullShare (out X G (zz c)))
/-- The own rows: their values are there once the device's place is below `t`. -/
noncomputable def rowO (h : Fin 2) (c : Dev nD) (t : ℕ) : sProp 𝕄 :=
  if t = 5 then iprop(emp) else if zz c < t then outPt c (own h c) fullShare (out X G (zz c)) else iprop(∃ f, outPt c (own h c) fullShare f)

/-! ## All of it -/

abbrev Cp : Type := (Bool × Fin 8) ⊕ (Fin 8 ⊕ (Fin 8 ⊕ Fin 2))
abbrev kC (b : Bool) (s : Fin 8) : Cp := .inl (b, s)
abbrev kS (q : Fin 8) : Cp := .inr (.inl q)
abbrev kR (q : Fin 8) : Cp := .inr (.inr (.inl q))
abbrev kO (h : Fin 2) : Cp := .inr (.inr (.inr h))

noncomputable def comp (c : Dev nD) (k : Cp) (t : ℕ) : sProp 𝕄 :=
  match k with
  | .inl p => slotC X p.1 p.2 c t
  | .inr (.inl q) => rowS X G q c t
  | .inr (.inr (.inl q)) => rowR X G q c t
  | .inr (.inr (.inr h)) => rowO X G h c t

/-- The stages of all slots and row copies. -/
noncomputable def comps (c : Dev nD) (σ : Cp → ℕ) : sProp 𝕄 := bigSep Finset.univ fun k => comp X G c k (σ k)
/-- What a device holds after `n` duties at the stages `σ`. -/
noncomputable def State (K : GSem nD τ sig → ℕ) (c : Dev nD) (σ : Cp → ℕ) (n : ℕ) : sProp 𝕄 :=
  iprop(ctx X G K c ∗ ow c n ∗ xPt X c ∗ gPt G c ∗ comps X G c σ)

/-- One changed stage. -/
abbrev upd (σ : Cp → ℕ) (k : Cp) (t : ℕ) : Cp → ℕ := Function.update σ k t

/-- The stages of some of them. -/
noncomputable def compsOn (S : Finset Cp) (c : Dev nD) (σ : Cp → ℕ) : sProp 𝕄 := bigSep S fun k => comp X G c k (σ k)

theorem on_take (S : Finset Cp) (c : Dev nD) (σ : Cp → ℕ) (k : Cp) (t : ℕ) (hk : k ∈ S) (h : σ k = t) :
    compsOn X G S c σ = iprop(comp X G c k t ∗ compsOn X G (S.erase k) c σ) := by
  subst h; exact bigSep_erase hk
theorem on_put (S : Finset Cp) (c : Dev nD) (σ : Cp → ℕ) (k : Cp) (t : ℕ) (hk : k ∈ S) :
    iprop(comp X G c k t ∗ compsOn X G (S.erase k) c σ) = compsOn X G S c (upd σ k t) := by
  rw [on_take X G S c (upd σ k t) k t hk (Function.update_self k t σ)]
  congr 1
  refine bigSep_congr fun i hi => ?_
  rw [show upd σ k t i = σ i from Function.update_of_ne (Finset.ne_of_mem_erase hi) t σ]

theorem comps_one (c : Dev nD) (σ : Cp → ℕ) (k : Cp) (t t' : ℕ) (h : σ k = t) :
    (comps X G c σ : sProp 𝕄) ⊢ iprop(comp X G c k t ∗ (comp X G c k t' -∗ comps X G c (upd σ k t'))) := by
  show compsOn X G Finset.univ c σ ⊢ iprop(comp X G c k t ∗ (comp X G c k t' -∗ compsOn X G Finset.univ c (upd σ k t')))
  rw [on_take X G _ c σ k t (Finset.mem_univ k) h, ← on_put X G _ c σ k t' (Finset.mem_univ k)]
  iintro ⟨H, HR⟩
  isplitl [H]; · iexact H
  iintro H
  isplitl [H]; · iexact H
  iexact HR

theorem comps_two (c : Dev nD) (σ : Cp → ℕ) (k l : Cp) (hkl : l ≠ k) (t t' u u' : ℕ) (h : σ k = t) (hl : σ l = u) :
    (comps X G c σ : sProp 𝕄) ⊢ iprop(comp X G c k t ∗ comp X G c l u
      ∗ ((comp X G c k t' ∗ comp X G c l u') -∗ comps X G c (upd (upd σ l u') k t'))) := by
  show compsOn X G Finset.univ c σ ⊢ iprop(comp X G c k t ∗ comp X G c l u ∗ (_ -∗ compsOn X G Finset.univ c (upd (upd σ l u') k t')))
  have hm : l ∈ Finset.univ.erase k := Finset.mem_erase.mpr ⟨hkl, Finset.mem_univ l⟩
  rw [on_take X G _ c σ k t (Finset.mem_univ k) h, on_take X G _ c σ l u hm hl,
    ← on_put X G _ c _ k t' (Finset.mem_univ k), ← on_put X G _ c σ l u' hm]
  iintro ⟨H, H2, HR⟩
  isplitl [H]; · iexact H
  isplitl [H2]; · iexact H2
  iintro ⟨H, H2⟩
  isplitl [H]; · iexact H
  isplitl [H2]; · iexact H2
  iexact HR

theorem comps_three (c : Dev nD) (σ : Cp → ℕ) (k l m : Cp) (hkl : l ≠ k) (hkm : m ≠ k) (hlm : m ≠ l) (t t' u u' v v' : ℕ)
    (h : σ k = t) (hl : σ l = u) (hm' : σ m = v) :
    (comps X G c σ : sProp 𝕄) ⊢ iprop(comp X G c k t ∗ comp X G c l u ∗ comp X G c m v
      ∗ ((comp X G c k t' ∗ comp X G c l u' ∗ comp X G c m v') -∗ comps X G c (upd (upd (upd σ m v') l u') k t'))) := by
  show compsOn X G Finset.univ c σ ⊢ iprop(comp X G c k t ∗ comp X G c l u ∗ comp X G c m v
    ∗ (_ -∗ compsOn X G Finset.univ c (upd (upd (upd σ m v') l u') k t')))
  have hm : l ∈ Finset.univ.erase k := Finset.mem_erase.mpr ⟨hkl, Finset.mem_univ l⟩
  have hn : m ∈ (Finset.univ.erase k).erase l := Finset.mem_erase.mpr ⟨hlm, Finset.mem_erase.mpr ⟨hkm, Finset.mem_univ m⟩⟩
  rw [on_take X G _ c σ k t (Finset.mem_univ k) h, on_take X G _ c σ l u hm hl, on_take X G _ c σ m v hn hm',
    ← on_put X G _ c _ k t' (Finset.mem_univ k), ← on_put X G _ c _ l u' hm, ← on_put X G _ c σ m v' hn]
  iintro ⟨H, H2, H3, HR⟩
  isplitl [H]; · iexact H
  isplitl [H2]; · iexact H2
  isplitl [H3]; · iexact H3
  iintro ⟨H, H2, H3⟩
  isplitl [H]; · iexact H
  isplitl [H2]; · iexact H2
  isplitl [H3]; · iexact H3
  iexact HR

theorem State_step (K : GSem nD τ sig → ℕ) (c : Dev nD) {σ : Cp → ℕ} {n : ℕ} (k : Cp) (t t' n' : ℕ) (h : σ k = t)
    {α : Type} {p : Prog (TpuEff nD τ sig (Elt F) Λ₀ .tc) PUnit} {rest : PUnit → Prog (TpuEff nD τ sig (Elt F) Λ₀ .tc) α} {Q : α → sProp 𝕄}
    (hp : ∀ Φ : PUnit → sProp 𝕄, iprop(ctx X G K c ∗ ow c n ∗ xPt X c ∗ gPt G c ∗ comp X G c k t
        ∗ ((ow c n' ∗ xPt X c ∗ gPt G c ∗ comp X G c k t') -∗ Φ ⟨⟩))
      ⊢ wp frame (wpE (defs₀ (F := F)) 𝒱₀ (c : Thread nD τ) none) Set.univ p Φ)
    (hr : State X G K c (upd σ k t') n' ⊢ wp frame (wpE (defs₀ (F := F)) 𝒱₀ (c : Thread nD τ) none) Set.univ (rest ⟨⟩) Q) :
    State X G K c σ n ⊢ wp frame (wpE (defs₀ (F := F)) 𝒱₀ (c : Thread nD τ) none) Set.univ (p >>= rest) Q := by
  rw [wp_bind]
  refine BIBase.Entails.trans ?_ (hp _)
  unfold State
  iintro ⟨#Hctx, HO, Hx, Hg, HC⟩
  ihave HC := (comps_one X G c σ k t t' h) $$ HC
  icases HC with ⟨Hk, HC⟩
  isplitr; · iexact Hctx
  isplitl [HO]; · iexact HO
  isplitl [Hx]; · iexact Hx
  isplitl [Hg]; · iexact Hg
  isplitl [Hk]; · iexact Hk
  iintro ⟨HO, Hx, Hg, Hk⟩
  iapply hr
  unfold State
  isplitr; · iexact Hctx
  isplitl [HO]; · iexact HO
  isplitl [Hx]; · iexact Hx
  isplitl [Hg]; · iexact Hg
  iapply HC; iexact Hk

/-- A step that touches a slot or row copy and leaves two others as they are. -/
theorem State_step3 (K : GSem nD τ sig → ℕ) (c : Dev nD) {σ : Cp → ℕ} {n : ℕ} (k l m : Cp) (t t' u v : ℕ)
    (hkl : l ≠ k) (hkm : m ≠ k) (hlm : m ≠ l) (h : σ k = t) (hl : σ l = u) (hm : σ m = v)
    {α : Type} {p : Prog (TpuEff nD τ sig (Elt F) Λ₀ .tc) PUnit} {rest : PUnit → Prog (TpuEff nD τ sig (Elt F) Λ₀ .tc) α} {Q : α → sProp 𝕄}
    (hp : ∀ Φ : PUnit → sProp 𝕄, iprop(xPt X c ∗ gPt G c ∗ comp X G c k t ∗ comp X G c l u ∗ comp X G c m v
        ∗ ((xPt X c ∗ gPt G c ∗ comp X G c k t' ∗ comp X G c l u ∗ comp X G c m v) -∗ Φ ⟨⟩))
      ⊢ wp frame (wpE (defs₀ (F := F)) 𝒱₀ (c : Thread nD τ) none) Set.univ p Φ)
    (hr : State X G K c (upd σ k t') n ⊢ wp frame (wpE (defs₀ (F := F)) 𝒱₀ (c : Thread nD τ) none) Set.univ (rest ⟨⟩) Q) :
    State X G K c σ n ⊢ wp frame (wpE (defs₀ (F := F)) 𝒱₀ (c : Thread nD τ) none) Set.univ (p >>= rest) Q := by
  rw [wp_bind]
  refine BIBase.Entails.trans ?_ (hp _)
  have e : upd (upd σ m v) l u = σ := by rw [← hm, ← hl, upd, upd, Function.update_eq_self m σ, Function.update_eq_self l σ]
  have h3 := comps_three X G c σ k l m hkl hkm hlm t t' u u v v h hl hm
  rw [e] at h3
  unfold State
  iintro ⟨#Hctx, HO, Hx, Hg, HC⟩
  ihave HC := h3 $$ HC
  icases HC with ⟨Hk, Hl, Hm, HC⟩
  isplitl [Hx]; · iexact Hx
  isplitl [Hg]; · iexact Hg
  isplitl [Hk]; · iexact Hk
  isplitl [Hl]; · iexact Hl
  isplitl [Hm]; · iexact Hm
  iintro ⟨Hx, Hg, Hk, Hl, Hm⟩
  iapply hr
  unfold State
  isplitr; · iexact Hctx
  isplitl [HO]; · iexact HO
  isplitl [Hx]; · iexact Hx
  isplitl [Hg]; · iexact Hg
  iapply HC
  isplitl [Hk]; · iexact Hk
  isplitl [Hl]; · iexact Hl
  iexact Hm

/-- Moving resources between three of them. -/
theorem State_move3 (K : GSem nD τ sig → ℕ) (c : Dev nD) {σ : Cp → ℕ} {n : ℕ} (k l m : Cp) (t t' u u' v v' : ℕ)
    (hkl : l ≠ k) (hkm : m ≠ k) (hlm : m ≠ l) (h : σ k = t) (hl : σ l = u) (hm : σ m = v) {R : sProp 𝕄}
    (hp : iprop(comp X G c k t ∗ comp X G c l u ∗ comp X G c m v) ⊢ iprop(comp X G c k t' ∗ comp X G c l u' ∗ comp X G c m v'))
    (hr : State X G K c (upd (upd (upd σ m v') l u') k t') n ⊢ R) : State X G K c σ n ⊢ R := by
  refine BIBase.Entails.trans ?_ hr
  unfold State
  iintro ⟨#Hctx, HO, Hx, Hg, HC⟩
  ihave HC := (comps_three X G c σ k l m hkl hkm hlm t t' u u' v v' h hl hm) $$ HC
  icases HC with ⟨Hk, Hl, Hm, HC⟩
  isplitr; · iexact Hctx
  isplitl [HO]; · iexact HO
  isplitl [Hx]; · iexact Hx
  isplitl [Hg]; · iexact Hg
  iapply HC
  iapply hp
  isplitl [Hk]; · iexact Hk
  isplitl [Hl]; · iexact Hl
  iexact Hm
theorem State_move2 (K : GSem nD τ sig → ℕ) (c : Dev nD) {σ : Cp → ℕ} {n : ℕ} (k l : Cp) (t t' u u' : ℕ)
    (hkl : l ≠ k) (h : σ k = t) (hl : σ l = u) {R : sProp 𝕄}
    (hp : iprop(comp X G c k t ∗ comp X G c l u) ⊢ iprop(comp X G c k t' ∗ comp X G c l u'))
    (hr : State X G K c (upd (upd σ l u') k t') n ⊢ R) : State X G K c σ n ⊢ R := by
  refine BIBase.Entails.trans ?_ hr
  unfold State
  iintro ⟨#Hctx, HO, Hx, Hg, HC⟩
  ihave HC := (comps_two X G c σ k l hkl t t' u u' h hl) $$ HC
  icases HC with ⟨Hk, Hl, HC⟩
  isplitr; · iexact Hctx
  isplitl [HO]; · iexact HO
  isplitl [Hx]; · iexact Hx
  isplitl [Hg]; · iexact Hg
  iapply HC
  iapply hp
  isplitl [Hk]; · iexact Hk
  iexact Hl

theorem State_congr (K : GSem nD τ sig → ℕ) (c : Dev nD) {σ : Cp → ℕ} {n : ℕ} (σ' : Cp → ℕ) (h : ∀ k, σ k = σ' k) {R : sProp 𝕄}
    (hr : State X G K c σ' n ⊢ R) : State X G K c σ n ⊢ R := by
  rw [show σ = σ' from funext h]; exact hr

end Cert.Talk

end
-- ==== Proof.Blocks.lean ====
/- The blocks of the kernel that handle the slots: the first copy, the copies on the way, the arrival, the return. -/
module

public import proofs.«01_k».proof.Proof.Comp

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .bf16) (G : Dev nD → Vec F S1x1024 .bf16)

theorem edge_fill (b : Bool) (s : Fin 8) (c : Dev nD) (h0 : pos b c = 0) : rcv b s c = false := by
  unfold rcv; rw [h0]; rfl
theorem mid_rcv (b : Bool) (s : Fin 8) (c : Dev nD) (h0 : 1 ≤ pos b c) (h1 : snd b s c = true) : rcv b s c = true := by
  unfold rcv snd at *; rw [decide_eq_true_eq] at *; omega

theorem ow_skip (c : Dev nD) (n : ℕ) (d : Duty) (h : (ord c)[n]? = some d) (hd : d.act c = false) :
    (ow c n : sProp 𝕄) = ow c (n + 1) := by unfold ow; rw [OW_skip c n d h hd]

/-- The head of a chain fills its slot and sends it. -/
theorem edge_ok (K : GSem nD τ sig → ℕ) (c : Dev nD) (b : Bool) (s : Fin 8) (n : ℕ) (hn : (ord c)[n]? = some (.edge b s))
    {w : BitVec 1} (hw : w = 1#1 ↔ (pos b c = 0 ∧ snd b s c = true)) {dev : w = 1#1 → Dev nD} (hdev : ∀ h, dev h = nx b c)
    {sm1 sm2 : DmaSem sig} (h1 : sm1 = ix (aS b) s) (h2 : sm2 = ix (aR b) s) {pay : Vec F S1x128x1024 .bf16 → Vec F S1x128x1024 .bf16}
    (hpay : ∀ v, pay v = k0_pay7 v) {hl hl' st1 st2} {hsc : (slotM b s).view.ref.isScScratch = false} {a1} (Φ : PUnit → sProp 𝕄) :
    iprop(ctx X G K c ∗ ow c n ∗ xPt X c ∗ gPt G c ∗ comp X G c (kC b s) 0
        ∗ ((ow c (n + 1) ∗ xPt X c ∗ gPt G c ∗ comp X G c (kC b s) 1) -∗ Φ ⟨⟩))
      ⊢ wp frame (wpE (defs₀ (F := F)) 𝒱₀ (c : Thread nD τ) none) Set.univ
        (if h : w = 1#1 then do
          let v ← Prog.lift (.load A0 (xRect (jS s) (hS s)).toLoadRect hl)
          let _ ← Prog.lift (.load (sM b) (slotRect s).toLoadRect hl')
          Prog.lift (.store (sM b) (slotRect s) (pay v) Finset.univ st1 st2)
          Prog.lift (.enqueueDma (slotM b s) (.remote (Dev.tc (dev h)) (slotM b s) (.dma sm1) hsc) (.dma sm2) a1 a1 ⟨⟨rfl, Or.inl rfl⟩, trivial⟩)
          pure ⟨⟩
        else do pure ⟨⟩) Φ := by
  obtain rfl : pay = k0_pay7 := funext hpay
  show iprop(ctx X G K c ∗ ow c n ∗ xPt X c ∗ gPt G c ∗ slotA b s c
        ∗ ((ow c (n + 1) ∗ xPt X c ∗ gPt G c ∗ (bif decide (pos b c = 0) && snd b s c then slotGone b s c else slotA b s c)) -∗ Φ ⟨⟩)) ⊢ _
  by_cases h : w = 1#1
  · obtain ⟨hp, hs⟩ := hw.mp h
    have hact : (Duty.edge b s).act c = true := by show (decide (pos b c = 0) && snd b s c) = true; rw [hs, decide_eq_true hp]; rfl
    rw [dif_pos h, hs, decide_eq_true hp]
    simp only [Bool.and_self, cond_true, wp_bind]
    unfold slotA slotIn slotOpen slotTok slotGone
    rw [hs, edge_fill b s c hp]
    simp only [cond_true, cond_false]
    iintro ⟨#Hctx, HO, Hx, Hg, ⟨⟨Hn, #HrV⟩, ⟨Ht1, Ht2⟩, HaS, HaR, ⟨%f, Hs⟩⟩, HK⟩
    iapply (lift_load_x X c (jS s) (hS s))
    isplitl [Hx]; · iexact Hx
    iintro Hx
    iapply (lift_load_slot c b s f)
    isplitl [Hs]; · iexact Hs
    iintro Hs
    iapply (lift_store_slot c b s f (k0_pay7 (xch (X c) (jS s) (hS s))))
    isplitl [Hs]; · iexact Hs
    iintro Hs
    rw [← sent_edge X b s c hp]
    iapply (lift_send_slot X G K c b s n (.edge b s) hn hact rfl rfl hs (hdev h) h1 h2)
    isplitr; · iexact Hctx
    isplitl [Hs]; · iexact Hs
    isplitl [Hn]; · iexact Hn
    isplitr; · iexact HrV
    isplitl [HO]; · iexact HO
    isplitl [Ht1]; · iexact Ht1
    isplitl [Ht2]; · iexact Ht2
    iintro ⟨Hc, HO⟩
    iapply ret_intro
    iapply HK
    isplitl [HO]; · iexact HO
    isplitl [Hx]; · iexact Hx
    isplitl [Hg]; · iexact Hg
    isplitl [Hc]; · iexact Hc
    isplitl [HaS]; · iexact HaS
    iexact HaR
  · have hact : (Duty.edge b s).act c = false := by
      show (decide (pos b c = 0) && snd b s c) = false
      rw [Bool.eq_false_iff]; intro hc; rw [Bool.and_eq_true, decide_eq_true_eq] at hc; exact h (hw.mpr hc)
    rw [dif_neg h, show (decide (pos b c = 0) && snd b s c) = false from hact, cond_false, ow_skip c n _ hn hact]
    iintro ⟨-, HO, Hx, Hg, Hs, HK⟩
    iapply ret_intro
    iapply HK
    isplitl [HO]; · iexact HO
    isplitl [Hx]; · iexact Hx
    isplitl [Hg]; · iexact Hg
    iexact Hs

/-- A device on the way of a chain waits for its slot, adds its part and sends the slot on. -/
theorem mid_ok (K : GSem nD τ sig → ℕ) (c : Dev nD) (b : Bool) (s : Fin 8) (n t : ℕ) (ht : t = 0 ∨ t = 1) (hn : (ord c)[n]? = some (.mid b s))
    {w : BitVec 1} (hw : w = 1#1 ↔ (1 ≤ pos b c ∧ snd b s c = true)) (hedge : t = 0 → pos b c = 0 → snd b s c = true → False)
    (hok : w = 1#1 → okWait c (.dma (ix (aR b) s)) n = true)
    {dev : w = 1#1 → Dev nD} (hdev : ∀ h, dev h = nx b c)
    {sm0 sm1 sm2 : DmaSem sig} (h0 : sm0 = ix (aR b) s) (h1 : sm1 = ix (aS b) s) (h2 : sm2 = ix (aR b) s)
    {pay : Vec F S1x128x1024 .bf16 → Vec F S1x128x1024 .bf16 → Vec F S1x128x1024 .bf16}
    (hpay : ∀ v v', pay v v' = k0_pay1 v v') {hl hl' hl'' st1 st2 w1 w2} {hsc : (slotM b s).view.ref.isScScratch = false} {a1} {part : Prog (TpuEff nD τ sig (Elt F) Λ₀ .tc) PUnit}
    (hpart : part = (do
        Prog.lift (.waitDma2 sm0 (slotM b s) (slotM b s) w1 w2)
        let v ← Prog.lift (.load (sM b) (slotRect s).toLoadRect hl)
        let v' ← Prog.lift (.load A0 (xRect (jS s) (hS s)).toLoadRect hl')
        let _ ← Prog.lift (.load (sM b) (slotRect s).toLoadRect hl'')
        Prog.lift (.store (sM b) (slotRect s) (pay v v') Finset.univ st1 st2)
        pure ⟨⟩))
    (Φ : PUnit → sProp 𝕄) :
    iprop(ctx X G K c ∗ ow c n ∗ xPt X c ∗ gPt G c ∗ comp X G c (kC b s) t
        ∗ ((ow c (n + 1) ∗ xPt X c ∗ gPt G c ∗ comp X G c (kC b s) 2) -∗ Φ ⟨⟩))
      ⊢ wp frame (wpE (defs₀ (F := F)) 𝒱₀ (c : Thread nD τ) none) Set.univ
        (if h : w = 1#1 then do
          part
          Prog.lift (.enqueueDma (slotM b s) (.remote (Dev.tc (dev h)) (slotM b s) (.dma sm1) hsc) (.dma sm2) a1 a1 ⟨⟨rfl, Or.inl rfl⟩, trivial⟩)
          pure ⟨⟩
        else do pure ⟨⟩) Φ := by
  subst hpart h0
  obtain rfl : pay = k0_pay1 := funext fun v => funext fun v' => hpay v v'
  have e2 : comp X G c (kC b s) 2 = bif snd b s c then slotGone b s c else slotA b s c := rfl
  by_cases h : w = 1#1
  · obtain ⟨hp, hs⟩ := hw.mp h
    have hact : (Duty.mid b s).act c = true := by show (decide (1 ≤ pos b c) && snd b s c) = true; rw [hs, decide_eq_true hp]; rfl
    have hr := mid_rcv b s c hp hs
    have e1 : comp X G c (kC b s) t = slotA b s c := by
      rcases ht with rfl | rfl
      · rfl
      · show (bif decide (pos b c = 0) && snd b s c then slotGone b s c else slotA b s c) = _
        rw [decide_eq_false (by omega)]; rfl
    have hcr : (slotM b s).view.dmaCredit = uD (aR b) s := by rw [uD_got]; cases b <;> rfl
    rw [dif_pos h, e1, e2, hs, cond_true]
    simp only [wp_bind]
    unfold slotA slotIn slotOpen slotTok slotGone
    rw [hs, hr]
    simp only [cond_true, cond_false]
    iintro ⟨#Hctx, HO, Hx, Hg, ⟨⟨Hn, #HrV⟩, ⟨Ht1, Ht2⟩, HaS, HaR, Hc⟩, HK⟩
    iapply (lift_wait X G K c (aR b) s n ((used_got b s c).trans hr) (hok h) rfl hcr)
    isplitr; · iexact Hctx
    isplitl [Hc]; · rw [uD_got]; iexact Hc
    isplitl [HO]; · iexact HO
    isplitl [HaR]; · iexact HaR
    iintro ⟨HO, HaR, Hs⟩
    ihave Hs := (Entails.of_eq (dmaPay_got X G b s c)) $$ Hs
    iapply (lift_load_slot c b s (spread (got X b s c)))
    isplitl [Hs]; · iexact Hs
    iintro Hs
    iapply (lift_load_x X c (jS s) (hS s))
    isplitl [Hx]; · iexact Hx
    iintro Hx
    iapply (lift_load_slot c b s (spread (got X b s c)))
    isplitl [Hs]; · iexact Hs
    iintro Hs
    iapply (lift_store_slot c b s (spread (got X b s c)) (k0_pay1 (slAt (spread (got X b s c)) s) (xch (X c) (jS s) (hS s))))
    isplitl [Hs]; · iexact Hs
    iintro Hs
    rw [slAt_spread, ← sent_mid X b s c hp]
    iapply ret_intro
    iapply (lift_send_slot X G K c b s n (.mid b s) hn hact rfl rfl hs (hdev h) h1 h2)
    isplitr; · iexact Hctx
    isplitl [Hs]; · iexact Hs
    isplitl [Hn]; · iexact Hn
    isplitr; · iexact HrV
    isplitl [HO]; · iexact HO
    isplitl [Ht1]; · iexact Ht1
    isplitl [Ht2]; · iexact Ht2
    iintro ⟨Hc, HO⟩
    iapply ret_intro
    iapply HK
    isplitl [HO]; · iexact HO
    isplitl [Hx]; · iexact Hx
    isplitl [Hg]; · iexact Hg
    isplitl [Hc]; · iexact Hc
    isplitl [HaS]; · iexact HaS
    iexact HaR
  · have hact : (Duty.mid b s).act c = false := by
      show (decide (1 ≤ pos b c) && snd b s c) = false
      rw [Bool.eq_false_iff]; intro hc; rw [Bool.and_eq_true, decide_eq_true_eq] at hc; exact h (hw.mpr hc)
    have e1 : comp X G c (kC b s) t = comp X G c (kC b s) 2 := by
      rw [e2]
      rcases ht with rfl | rfl
      · have : snd b s c = false := by
          rw [Bool.eq_false_iff]; intro hc
          by_cases hp : pos b c = 0
          · exact hedge rfl hp hc
          · exact h (hw.mpr ⟨by omega, hc⟩)
        rw [this]; rfl
      · show (bif decide (pos b c = 0) && snd b s c then slotGone b s c else slotA b s c) = _
        cases hs : snd b s c with
        | false => rw [Bool.and_false]
        | true =>
          have : pos b c = 0 := by by_contra hc; exact h (hw.mpr ⟨by omega, hs⟩)
          rw [decide_eq_true this]; rfl
    rw [dif_neg h, e1, ow_skip c n _ hn hact]
    iintro ⟨-, HO, Hx, Hg, Hs, HK⟩
    iapply ret_intro
    iapply HK
    isplitl [HO]; · iexact HO
    isplitl [Hx]; · iexact Hx
    isplitl [Hg]; · iexact Hg
    iexact Hs

/-- The end of a chain waits for its slot. -/
theorem arrive_ok (K : GSem nD τ sig → ℕ) (c : Dev nD) (b : Bool) (s : Fin 8) (n : ℕ)
    {w : BitVec 1} (hw : w = 1#1 ↔ (rcv b s c = true ∧ snd b s c = false))
    (hok : w = 1#1 → okWait c (.dma (ix (aR b) s)) n = true)
    {sm0 : DmaSem sig} (h0 : sm0 = ix (aR b) s) {w1 w2} (Φ : PUnit → sProp 𝕄) :
    iprop(ctx X G K c ∗ ow c n ∗ xPt X c ∗ gPt G c ∗ comp X G c (kC b s) 2
        ∗ ((ow c n ∗ xPt X c ∗ gPt G c ∗ comp X G c (kC b s) 3) -∗ Φ ⟨⟩))
      ⊢ wp frame (wpE (defs₀ (F := F)) 𝒱₀ (c : Thread nD τ) none) Set.univ
        (if h : w = 1#1 then do
          Prog.lift (.waitDma2 sm0 (slotM b s) (slotM b s) w1 w2)
          pure ⟨⟩
        else do pure ⟨⟩) Φ := by
  subst h0
  have e2 : comp X G c (kC b s) 2 = bif snd b s c then slotGone b s c else slotA b s c := rfl
  have e3 : comp X G c (kC b s) 3 = bif snd b s c then slotGone b s c else bif rcv b s c then slotHere X b s c else slotA b s c := rfl
  by_cases h : w = 1#1
  · obtain ⟨hr, hs⟩ := hw.mp h
    have hcr : (slotM b s).view.dmaCredit = uD (aR b) s := by rw [uD_got]; cases b <;> rfl
    rw [dif_pos h, e2, e3, hs, hr, cond_false, cond_false, cond_true]
    simp only [wp_bind]
    unfold slotA slotIn slotHere
    rw [hr]
    simp only [cond_true, cond_false]
    iintro ⟨#Hctx, HO, Hx, Hg, ⟨-, -, HaS, HaR, Hc⟩, HK⟩
    iapply (lift_wait X G K c (aR b) s n ((used_got b s c).trans hr) (hok h) rfl hcr)
    isplitr; · iexact Hctx
    isplitl [Hc]; · rw [uD_got]; iexact Hc
    isplitl [HO]; · iexact HO
    isplitl [HaR]; · iexact HaR
    iintro ⟨HO, HaR, Hs⟩
    ihave Hs := (Entails.of_eq (dmaPay_got X G b s c)) $$ Hs
    iapply ret_intro
    iapply HK
    isplitl [HO]; · iexact HO
    isplitl [Hx]; · iexact Hx
    isplitl [Hg]; · iexact Hg
    isplitl [Hs]; · iexact Hs
    isplitl [HaS]; · iexact HaS
    iexact HaR
  · have e1 : comp X G c (kC b s) 2 = comp X G c (kC b s) 3 := by
      rw [e2, e3]
      cases hs : snd b s c with
      | true => rfl
      | false =>
        have : rcv b s c = false := by rw [Bool.eq_false_iff]; intro hc; exact h (hw.mpr ⟨hc, hs⟩)
        rw [this]; rfl
    rw [dif_neg h, e1]
    iintro ⟨-, HO, Hx, Hg, Hs, HK⟩
    iapply ret_intro
    iapply HK
    isplitl [HO]; · iexact HO
    isplitl [Hx]; · iexact Hx
    isplitl [Hg]; · iexact Hg
    iexact Hs

/-- The wait for a slot's copy to the next device to end. -/
theorem back_ok (K : GSem nD τ sig → ℕ) (c : Dev nD) (b : Bool) (s : Fin 8) (n : ℕ)
    {w : BitVec 1} (hw : w = 1#1 ↔ snd b s c = true)
    (hok : w = 1#1 → okWait c (.dma (ix (aS b) s)) n = true)
    {sm0 : DmaSem sig} (h0 : sm0 = ix (aS b) s) {w1 w2} (Φ : PUnit → sProp 𝕄) :
    iprop(ctx X G K c ∗ ow c n ∗ xPt X c ∗ gPt G c ∗ comp X G c (kC b s) 3
        ∗ ((ow c n ∗ xPt X c ∗ gPt G c ∗ comp X G c (kC b s) 4) -∗ Φ ⟨⟩))
      ⊢ wp frame (wpE (defs₀ (F := F)) 𝒱₀ (c : Thread nD τ) none) Set.univ
        (if h : w = 1#1 then do
          Prog.lift (.waitDma2 sm0 (slotM b s) (slotM b s) w1 w2)
          pure ⟨⟩
        else do pure ⟨⟩) Φ := by
  subst h0
  have e2 : comp X G c (kC b s) 3 = bif snd b s c then slotGone b s c else bif rcv b s c then slotHere X b s c else slotA b s c := rfl
  have e3 : comp X G c (kC b s) 4 = slotEnd b s c := rfl
  by_cases h : w = 1#1
  · have hs := hw.mp h
    have hcr : (slotM b s).view.dmaCredit = uD (aS b) s := by rw [uD_sent]; cases b <;> rfl
    rw [dif_pos h, e2, e3, hs, cond_true]
    simp only [wp_bind]
    unfold slotGone slotEnd
    rw [hs, cond_true]
    iintro ⟨#Hctx, HO, Hx, Hg, ⟨Hc, HaS, HaR⟩, HK⟩
    iapply (lift_wait X G K c (aS b) s n ((used_sent b s c).trans hs) (hok h) rfl hcr)
    isplitr; · iexact Hctx
    isplitl [Hc]; · rw [uD_sent]; iexact Hc
    isplitl [HO]; · iexact HO
    isplitl [HaS]; · iexact HaS
    iintro ⟨HO, HaS, Hs⟩
    ihave Hs := (Entails.of_eq (dmaPay_sent X G b s c)) $$ Hs
    iapply ret_intro
    iapply HK
    isplitl [HO]; · iexact HO
    isplitl [Hx]; · iexact Hx
    isplitl [Hg]; · iexact Hg
    isplitl [Hs]; · iexists _; iexact Hs
    isplitl [HaS]; · iexact HaS
    iexact HaR
  · have hs : snd b s c = false := by rw [Bool.eq_false_iff]; intro hc; exact h (hw.mpr hc)
    rw [dif_neg h, e2, e3, hs, cond_false]
    unfold slotEnd
    rw [hs, cond_false]
    cases hr : rcv b s c with
    | true =>
      rw [cond_true, cond_true]
      unfold slotHere
      iintro ⟨-, HO, Hx, Hg, ⟨Hs, HaS, HaR⟩, HK⟩
      iapply ret_intro
      iapply HK
      isplitl [HO]; · iexact HO
      isplitl [Hx]; · iexact Hx
      isplitl [Hg]; · iexact Hg
      isplitl [Hs]; · iexists _; iexact Hs
      isplitl [HaS]; · iexact HaS
      iexact HaR
    | false =>
      rw [cond_false, cond_false]
      unfold slotA slotIn
      rw [hr, cond_false]
      iintro ⟨-, HO, Hx, Hg, ⟨-, -, HaS, HaR, Hs⟩, HK⟩
      iapply ret_intro
      iapply HK
      isplitl [HO]; · iexact HO
      isplitl [Hx]; · iexact Hx
      isplitl [Hg]; · iexact Hg
      isplitl [Hs]; · iexact Hs
      isplitl [HaS]; · iexact HaS
      iexact HaR

end Cert.Talk

end
-- ==== Proof.Rows.lean ====
/- The blocks of the kernel that handle the rows of the result: their making, their copies, the waits for them. -/
module

public import proofs.«01_k».proof.Proof.Blocks

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .bf16) (G : Dev nD → Vec F S1x1024 .bf16)

theorem zz_pd : ∀ (q : Fin 8) (c : Dev nD), zz (pd q c) = zz c := by decide
theorem shr_fw : ∀ q : Fin 8, q.val < 4 → shr (fw q) = fullShare := by decide

/-- Sending finished rows. -/
theorem rowsend_ok (K : GSem nD τ sig → ℕ) (c : Dev nD) (q : Fin 8) (n : ℕ)
    (hn : (ord c)[n]? = some (.pb q)) {dev : Dev nD} (hdev : dev = pd q c) {sm1 sm2 : DmaSem sig} (h1 : sm1 = ix 4 q) (h2 : sm2 = ix 5 q)
    {off sz : Fin 2 → ℕ} {inb} (hoff : off = ![ro q c, 0]) (hsz : sz = ![rn q, 1024]) (hcr : RefSig.tileCredit ⟨2, sz⟩ .bf16 = uD 5 q)
    {hu hsc a1 a2 a3} (Φ : PUnit → sProp 𝕄) :
    iprop(ctx X G K c ∗ ow c n ∗ xPt X c ∗ gPt G c ∗ comp X G c (kS q) 1
        ∗ ((ow c (n + 1) ∗ xPt X c ∗ gPt G c ∗ comp X G c (kS q) 2) -∗ Φ ⟨⟩))
      ⊢ wp frame (wpE (defs₀ (F := F)) 𝒱₀ (c : Thread nD τ) none) Set.univ
        (Prog.lift (.enqueueDma (A2.slice (Rect.unit (s := S1024x1024) off sz inb) hu)
          (.remote (Dev.tc dev) (A2.slice (Rect.unit (s := S1024x1024) off sz inb) hu) (.dma sm1) hsc) (.dma sm2) a1 a2 a3)) Φ := by
  have hzz : zz (pd q c) = zz c := zz_pd q c
  have e1 : comp X G c (kS q) 1 = iprop((rowOpen q c ∗ rowTok q c) ∗ atPos ER (dcell 4 q c) 0 ∅ 0 ∗ outPt c (reg q c) (shr q) (out X G (zz c))) := rfl
  have e2 : comp X G c (kS q) 2 = iprop(cred (tallyAt (dcell 4 q c) () (uD 4 q)) ∗ atPos ER (dcell 4 q c) 0 ∅ 0) := rfl
  rw [e1, e2]
  unfold rowTok
  iintro ⟨#Hctx, HO, Hx, Hg, ⟨⟨Ho, ⟨Ht1, Ht2⟩⟩, Ha, Hr⟩, HK⟩
  iapply (lift_send_row X G K c q n hn hdev h1 h2 hoff hsz hcr hzz)
  isplitr; · iexact Hctx
  isplitl [Hr]; · iexact Hr
  isplitl [Ho]; · iexact Ho
  isplitl [HO]; · iexact HO
  isplitl [Ht1]; · iexact Ht1
  isplitl [Ht2]; · iexact Ht2
  iintro ⟨Hc, HO⟩
  iapply HK
  isplitl [HO]; · iexact HO
  isplitl [Hx]; · iexact Hx
  isplitl [Hg]; · iexact Hg
  isplitl [Hc]; · iexact Hc
  iexact Ha

/-- Waiting for rows of another device. -/
theorem rowrecv_ok (K : GSem nD τ sig → ℕ) (c : Dev nD) (q : Fin 8) (n : ℕ) (hok : okWait c (.dma (ix 5 q)) n = true)
    {sm : DmaSem sig} (h : sm = ix 5 q) {sp sp' : Space} {sh sh' : Shape} {e e' : EltTy}
    {src : Memref sig .tc sp' sh' e'} {dst : Memref sig .tc sp sh e} (hcr : dst.view.dmaCredit = uD 5 q) {h1 h2} (Φ : PUnit → sProp 𝕄) :
    iprop(ctx X G K c ∗ ow c n ∗ xPt X c ∗ gPt G c ∗ comp X G c (kR q) 0
        ∗ ((ow c n ∗ xPt X c ∗ gPt G c ∗ comp X G c (kR q) 1) -∗ Φ ⟨⟩))
      ⊢ wp frame (wpE (defs₀ (F := F)) 𝒱₀ (c : Thread nD τ) none) Set.univ
        (Prog.lift (.waitDma2 sm src dst h1 h2)) Φ := by
  have e1 : comp X G c (kR q) 0 = iprop(cred (tallyAt (dcell 5 q c) () (uD 5 q)) ∗ atPos ER (dcell 5 q c) 0 ∅ 0) := rfl
  have e2 : comp X G c (kR q) 1 = iprop(atPos ER (dcell 5 q c) 1 ∅ 0 ∗ outPt c (reg q (pd q c)) fullShare (out X G (zz c))) := rfl
  rw [e1, e2]
  iintro ⟨#Hctx, HO, Hx, Hg, ⟨Hc, Ha⟩, HK⟩
  have e : dmaPay X G c 5 q = outPt c (reg q (pd q c)) fullShare (out X G (zz c)) := rfl
  rw [← e]
  iapply (lift_wait X G K c 5 q n rfl hok h hcr)
  isplitr; · iexact Hctx
  isplitl [Hc]; · iexact Hc
  isplitl [HO]; · iexact HO
  isplitl [Ha]; · iexact Ha
  iintro ⟨HO, Ha, Hr⟩
  iapply HK
  isplitl [HO]; · iexact HO
  isplitl [Hx]; · iexact Hx
  isplitl [Hg]; · iexact Hg
  isplitl [Ha]; · iexact Ha
  iexact Hr

/-- Waiting for the copy of rows to another device to end. -/
theorem rowback_ok (K : GSem nD τ sig → ℕ) (c : Dev nD) (q : Fin 8) (n : ℕ) (hok : okWait c (.dma (ix 4 q)) n = true)
    {sm : DmaSem sig} (h : sm = ix 4 q) {sp sp' : Space} {sh sh' : Shape} {e e' : EltTy}
    {src : Memref sig .tc sp' sh' e'} {dst : Memref sig .tc sp sh e} (hcr : dst.view.dmaCredit = uD 4 q) {h1 h2} (Φ : PUnit → sProp 𝕄) :
    iprop(ctx X G K c ∗ ow c n ∗ xPt X c ∗ gPt G c ∗ comp X G c (kS q) 2
        ∗ ((ow c n ∗ xPt X c ∗ gPt G c ∗ comp X G c (kS q) 3) -∗ Φ ⟨⟩))
      ⊢ wp frame (wpE (defs₀ (F := F)) 𝒱₀ (c : Thread nD τ) none) Set.univ
        (Prog.lift (.waitDma2 sm src dst h1 h2)) Φ := by
  have e1 : comp X G c (kS q) 2 = iprop(cred (tallyAt (dcell 4 q c) () (uD 4 q)) ∗ atPos ER (dcell 4 q c) 0 ∅ 0) := rfl
  have e2 : comp X G c (kS q) 3 = iprop(atPos ER (dcell 4 q c) 1 ∅ 0 ∗ outPt c (reg q c) (shr q) (out X G (zz c))) := rfl
  rw [e1, e2]
  iintro ⟨#Hctx, HO, Hx, Hg, ⟨Hc, Ha⟩, HK⟩
  have e : dmaPay X G c 4 q = outPt c (reg q c) (shr q) (out X G (zz c)) := rfl
  rw [← e]
  iapply (lift_wait X G K c 4 q n rfl hok h hcr)
  isplitr; · iexact Hctx
  isplitl [Hc]; · iexact Hc
  isplitl [HO]; · iexact HO
  isplitl [Ha]; · iexact Ha
  iintro ⟨HO, Ha, Hr⟩
  iapply HK
  isplitl [HO]; · iexact HO
  isplitl [Hx]; · iexact Hx
  isplitl [Hg]; · iexact Hg
  isplitl [Ha]; · iexact Ha
  iexact Hr

/-! ## Making the own rows -/

theorem slotC_here (b : Bool) (s : Fin 8) (c : Dev nD) (hs : snd b s c = false) (hr : rcv b s c = true) :
    comp X G c (kC b s) 3 = slotHere X b s c := by
  show (bif snd b s c then slotGone b s c else bif rcv b s c then slotHere X b s c else slotA b s c) = _
  rw [hs, hr]; rfl
theorem rowO_before (h : Fin 2) (c : Dev nD) (t : ℕ) (ht : t < 5) (hz : t ≤ zz c) :
    comp X G c (kO h) t = iprop(∃ f, outPt c (own h c) fullShare f) := by
  show (if t = 5 then iprop(emp) else if zz c < t then outPt c (own h c) fullShare (out X G (zz c)) else iprop(∃ f, outPt c (own h c) fullShare f)) = _
  rw [if_neg (by omega), if_neg (by omega)]
theorem rowO_after (h : Fin 2) (c : Dev nD) (t : ℕ) (ht : t < 5) (hz : zz c < t) :
    comp X G c (kO h) t = outPt c (own h c) fullShare (out X G (zz c)) := by
  show (if t = 5 then iprop(emp) else if zz c < t then outPt c (own h c) fullShare (out X G (zz c)) else iprop(∃ f, outPt c (own h c) fullShare f)) = _
  rw [if_neg (by omega), if_pos hz]
theorem rowO_skip (h : Fin 2) (c : Dev nD) (t : ℕ) (ht : t < 4) (hz : zz c ≠ t) :
    comp X G c (kO h) t = comp X G c (kO h) (t + 1) := by
  rcases Nat.lt_or_ge (zz c) t with h1 | h1
  · rw [rowO_after X G h c t (by omega) h1, rowO_after X G h c (t + 1) (by omega) (by omega)]
  · rw [rowO_before X G h c t (by omega) h1, rowO_before X G h c (t + 1) (by omega) (by omega)]

/-- The own rows from the device's own part and what both chains brought. -/
theorem make3_ok (c : Dev nD) (j : Fin 4) (h : Fin 2) (s : Fin 8) {w : BitVec 1} (hw : w = 1#1 ↔ zz c = j.val)
    (hA : zz c = j.val → snd false s c = false ∧ rcv false s c = true) (hB : zz c = j.val → snd true s c = false ∧ rcv true s c = true)
    {pay : Vec F S1x128x1024 .bf16 → Vec F S1x128x1024 .bf16 → Vec F S1x128x1024 .bf16 → Vec F S1x1024 .bf16 → FVec F S128x1024 .bf16}
    (hfv : zz c = j.val → pay (xch (X c) j h) (got X false s c) (got X true s c) (gch (G c)) = fv X G h c)
    {off : Fin 2 → ℕ} {inb : w = 1#1 → _} (hoff : off = ![512 * (c.val / 8) + 256 * ((c.val / 4) % 2) + 128 * h.val, 0])
    {l1 l2 l3 l4} {l5 : ∀ h : w = 1#1, A2.view.LoadsAt (Rect.unit (s := S1024x1024) off S128x1024.size (inb h)).toLoadRect}
    {s1 : ∀ h : w = 1#1, (A2.access (Rect.unit (s := S1024x1024) off S128x1024.size (inb h))).Stores Finset.univ}
    {s2 : ∀ h : w = 1#1, Finset.univ = Finset.univ ∨ ∀ a, (Rect.unit (s := S1024x1024) off S128x1024.size (inb h)).stride a = 1} (Φ : PUnit → sProp 𝕄) :
    iprop(xPt X c ∗ gPt G c ∗ comp X G c (kO h) j.val ∗ comp X G c (kC false s) 3 ∗ comp X G c (kC true s) 3
        ∗ ((xPt X c ∗ gPt G c ∗ comp X G c (kO h) (j.val + 1) ∗ comp X G c (kC false s) 3 ∗ comp X G c (kC true s) 3) -∗ Φ ⟨⟩))
      ⊢ wp frame (wpE (defs₀ (F := F)) 𝒱₀ (c : Thread nD τ) none) Set.univ
        (if hh : w = 1#1 then do
          let v ← Prog.lift (.load A0 (xRect j h).toLoadRect l1)
          let a ← Prog.lift (.load (sM false) (slotRect s).toLoadRect l2)
          let b ← Prog.lift (.load (sM true) (slotRect s).toLoadRect l3)
          let g ← Prog.lift (.load A1 gRect.toLoadRect l4)
          let _ ← Prog.lift (.load A2 (Rect.unit (s := S1024x1024) off S128x1024.size (inb hh)).toLoadRect (l5 hh))
          Prog.lift (.store A2 (Rect.unit (s := S1024x1024) off S128x1024.size (inb hh)) (pay v a b g) Finset.univ (s1 hh) (s2 hh))
          pure ⟨⟩
        else do pure ⟨⟩) Φ := by
  have hj := j.isLt
  by_cases hh : w = 1#1
  · have hz := hw.mp hh
    rw [dif_pos hh, slotC_here X G false s c (hA hz).1 (hA hz).2, slotC_here X G true s c (hB hz).1 (hB hz).2,
      rowO_before X G h c j.val (by omega) (by omega), rowO_after X G h c (j.val + 1) (by omega) (by omega)]
    simp only [wp_bind]
    unfold slotHere
    iintro ⟨Hx, Hg, ⟨%f, Hr⟩, ⟨Ha, HA⟩, ⟨Hb, HB⟩, HK⟩
    iapply (lift_load_x X c j h)
    isplitl [Hx]; · iexact Hx
    iintro Hx
    iapply (lift_load_slot c false s (spread (got X false s c)))
    isplitl [Ha]; · iexact Ha
    iintro Ha
    iapply (lift_load_slot c true s (spread (got X true s c)))
    isplitl [Hb]; · iexact Hb
    iintro Hb
    iapply (lift_load_g G c)
    isplitl [Hg]; · iexact Hg
    iintro Hg
    iapply (lift_load_out c h hoff f)
    isplitl [Hr]; · iexact Hr
    iintro %v Hr
    iapply (lift_store_out X G c h hoff f (by rw [slAt_spread, slAt_spread]; exact hfv hz))
    isplitl [Hr]; · iexact Hr
    iintro Hr
    iapply ret_intro
    iapply HK
    isplitl [Hx]; · iexact Hx
    isplitl [Hg]; · iexact Hg
    isplitl [Hr]; · iexact Hr
    isplitl [Ha HA]
    · isplitl [Ha]; · iexact Ha
      iexact HA
    isplitl [Hb]; · iexact Hb
    iexact HB
  · rw [dif_neg hh, rowO_skip X G h c j.val hj (fun hz => hh (hw.mpr hz))]
    iintro ⟨Hx, Hg, Hr, Ha, Hb, HK⟩
    iapply ret_intro
    iapply HK
    isplitl [Hx]; · iexact Hx
    isplitl [Hg]; · iexact Hg
    isplitl [Hr]; · iexact Hr
    isplitl [Ha]; · iexact Ha
    iexact Hb

/-- The own rows from the device's own part and what one chain brought. -/
theorem make2_ok (c : Dev nD) (b : Bool) (j : Fin 4) (h : Fin 2) (s : Fin 8) {w : BitVec 1} (hw : w = 1#1 ↔ zz c = j.val)
    (hA : zz c = j.val → snd b s c = false ∧ rcv b s c = true)
    {pay : Vec F S1x128x1024 .bf16 → Vec F S1x128x1024 .bf16 → Vec F S1x1024 .bf16 → FVec F S128x1024 .bf16}
    (hfv : zz c = j.val → pay (xch (X c) j h) (got X b s c) (gch (G c)) = fv X G h c)
    {off : Fin 2 → ℕ} {inb : w = 1#1 → _} (hoff : off = ![512 * (c.val / 8) + 256 * ((c.val / 4) % 2) + 128 * h.val, 0])
    {l1 l2 l4} {l5 : ∀ h : w = 1#1, A2.view.LoadsAt (Rect.unit (s := S1024x1024) off S128x1024.size (inb h)).toLoadRect}
    {s1 : ∀ h : w = 1#1, (A2.access (Rect.unit (s := S1024x1024) off S128x1024.size (inb h))).Stores Finset.univ}
    {s2 : ∀ h : w = 1#1, Finset.univ = Finset.univ ∨ ∀ a, (Rect.unit (s := S1024x1024) off S128x1024.size (inb h)).stride a = 1} {R : sProp 𝕄} (Φ : PUnit → sProp 𝕄) :
    iprop(xPt X c ∗ gPt G c ∗ comp X G c (kO h) j.val ∗ comp X G c (kC b s) 3 ∗ R
        ∗ ((xPt X c ∗ gPt G c ∗ comp X G c (kO h) (j.val + 1) ∗ comp X G c (kC b s) 3 ∗ R) -∗ Φ ⟨⟩))
      ⊢ wp frame (wpE (defs₀ (F := F)) 𝒱₀ (c : Thread nD τ) none) Set.univ
        (if hh : w = 1#1 then do
          let v ← Prog.lift (.load A0 (xRect j h).toLoadRect l1)
          let a ← Prog.lift (.load (sM b) (slotRect s).toLoadRect l2)
          let g ← Prog.lift (.load A1 gRect.toLoadRect l4)
          let _ ← Prog.lift (.load A2 (Rect.unit (s := S1024x1024) off S128x1024.size (inb hh)).toLoadRect (l5 hh))
          Prog.lift (.store A2 (Rect.unit (s := S1024x1024) off S128x1024.size (inb hh)) (pay v a g) Finset.univ (s1 hh) (s2 hh))
          pure ⟨⟩
        else do pure ⟨⟩) Φ := by
  have hj := j.isLt
  by_cases hh : w = 1#1
  · have hz := hw.mp hh
    rw [dif_pos hh, slotC_here X G b s c (hA hz).1 (hA hz).2,
      rowO_before X G h c j.val (by omega) (by omega), rowO_after X G h c (j.val + 1) (by omega) (by omega)]
    simp only [wp_bind]
    unfold slotHere
    iintro ⟨Hx, Hg, ⟨%f, Hr⟩, ⟨Ha, HA⟩, HR, HK⟩
    iapply (lift_load_x X c j h)
    isplitl [Hx]; · iexact Hx
    iintro Hx
    iapply (lift_load_slot c b s (spread (got X b s c)))
    isplitl [Ha]; · iexact Ha
    iintro Ha
    iapply (lift_load_g G c)
    isplitl [Hg]; · iexact Hg
    iintro Hg
    iapply (lift_load_out c h hoff f)
    isplitl [Hr]; · iexact Hr
    iintro %v Hr
    iapply (lift_store_out X G c h hoff f (by rw [slAt_spread]; exact hfv hz))
    isplitl [Hr]; · iexact Hr
    iintro Hr
    iapply ret_intro
    iapply HK
    isplitl [Hx]; · iexact Hx
    isplitl [Hg]; · iexact Hg
    isplitl [Hr]; · iexact Hr
    isplitl [Ha HA]
    · isplitl [Ha]; · iexact Ha
      iexact HA
    iexact HR
  · rw [dif_neg hh, rowO_skip X G h c j.val hj (fun hz => hh (hw.mpr hz))]
    iintro ⟨Hx, Hg, Hr, Ha, Hb, HK⟩
    iapply ret_intro
    iapply HK
    isplitl [Hx]; · iexact Hx
    isplitl [Hg]; · iexact Hg
    isplitl [Hr]; · iexact Hr
    isplitl [Ha]; · iexact Ha
    iexact Hb

/-! ## Where the rows go -/

theorem reg_own (h : Fin 2) (c : Dev nD) : reg (⟨h.val, by omega⟩ : Fin 8) c = own h c ∧ reg (⟨h.val + 2, by omega⟩ : Fin 8) c = own h c := by
  have : ∀ (h : Fin 2) (c : Dev nD), ro (⟨h.val, by omega⟩ : Fin 8) c = 512 * (c.val / 8) + 256 * ((c.val / 4) % 2) + 128 * h.val
      ∧ ro (⟨h.val + 2, by omega⟩ : Fin 8) c = 512 * (c.val / 8) + 256 * ((c.val / 4) % 2) + 128 * h.val
      ∧ rn (⟨h.val, by omega⟩ : Fin 8) = 128 ∧ rn (⟨h.val + 2, by omega⟩ : Fin 8) = 128 := by decide
  obtain ⟨h1, h2, h3, h4⟩ := this h c
  unfold reg own
  rw [h1, h2, h3, h4]; exact ⟨rfl, rfl⟩

/-- Finished own rows go to the two copies that move them, half a share each. -/
theorem own_move (c : Dev nD) (h : Fin 2) :
    (iprop(comp X G c (kO h) 4 ∗ comp X G c (kS ⟨h.val, by omega⟩) 0 ∗ comp X G c (kS ⟨h.val + 2, by omega⟩) 0) : sProp 𝕄)
      ⊢ iprop(comp X G c (kO h) 5 ∗ comp X G c (kS ⟨h.val, by omega⟩) 1 ∗ comp X G c (kS ⟨h.val + 2, by omega⟩) 1) := by
  have hz : zz c < 4 := Nat.mod_lt _ (by decide)
  have e5 : comp X G c (kO h) 5 = iprop(emp) := by
    show rowO X G h c 5 = _
    unfold rowO
    exact if_pos rfl
  have e0 (q : Fin 8) : comp X G c (kS q) 0 = iprop((rowOpen q c ∗ rowTok q c) ∗ atPos ER (dcell 4 q c) 0 ∅ 0) := rfl
  have e1 (q : Fin 8) : comp X G c (kS q) 1 = iprop((rowOpen q c ∗ rowTok q c) ∗ atPos ER (dcell 4 q c) 0 ∅ 0 ∗ outPt c (reg q c) (shr q) (out X G (zz c))) := rfl
  have s0 : shr (⟨h.val, by omega⟩ : Fin 8) = fullShare.left := if_pos h.isLt
  have s1 : shr (⟨h.val + 2, by omega⟩ : Fin 8) = fullShare.right := by
    unfold shr; rw [if_neg (by show ¬ h.val + 2 < 2; omega), if_pos (by show h.val + 2 < 4; omega)]
  rw [rowO_after X G h c 4 (by omega) hz, e5, e0, e0, e1, e1, s0, s1, (reg_own h c).1, (reg_own h c).2]
  unfold outPt
  iintro ⟨H, HA, HB⟩
  ihave H := (pointsTo_share (PosShare.mem_left_op_right fullShare)).1 $$ H
  icases H with ⟨H1, H2⟩
  isplitr; · iempintro
  isplitl [HA H1]
  · icases HA with ⟨HA, HA'⟩
    isplitl [HA]; · iexact HA
    isplitl [HA']; · iexact HA'
    iexact H1
  · icases HB with ⟨HB, HB'⟩
    isplitl [HB]; · iexact HB
    isplitl [HB']; · iexact HB'
    iexact H2

theorem fw_sub (q : Fin 8) (hq : q.val < 4) (c : Dev nD) : reg (fw q) c ⊆ reg q (pd q c) := by
  have : ∀ (q : Fin 8) (c : Dev nD), q.val < 4 → ro q (pd q c) ≤ ro (fw q) c ∧ ro (fw q) c + rn (fw q) ≤ ro q (pd q c) + rn q := by decide
  obtain ⟨h1, h2⟩ := this q c hq
  intro i hi
  unfold reg at *
  rw [mem_rows] at *
  omega

/-- Rows that arrived go to the copy that forwards half of them. -/
theorem fw_move (c : Dev nD) (q : Fin 8) (hq : q.val < 4) :
    (iprop(comp X G c (kR q) 1 ∗ comp X G c (kS (fw q)) 0) : sProp 𝕄)
      ⊢ iprop(comp X G c (kR q) 2 ∗ comp X G c (kS (fw q)) 1) := by
  have e1 : comp X G c (kR q) 1 = iprop(atPos ER (dcell 5 q c) 1 ∅ 0 ∗ outPt c (reg q (pd q c)) fullShare (out X G (zz c))) := rfl
  have e2 : comp X G c (kR q) 2 = iprop(atPos ER (dcell 5 q c) 1 ∅ 0 ∗ outPt c (rem q c) fullShare (out X G (zz c))) := rfl
  have e0' (q : Fin 8) : comp X G c (kS q) 0 = iprop((rowOpen q c ∗ rowTok q c) ∗ atPos ER (dcell 4 q c) 0 ∅ 0) := rfl
  have e1' (q : Fin 8) : comp X G c (kS q) 1 = iprop((rowOpen q c ∗ rowTok q c) ∗ atPos ER (dcell 4 q c) 0 ∅ 0 ∗ outPt c (reg q c) (shr q) (out X G (zz c))) := rfl
  have s0 : shr (fw q) = fullShare := shr_fw q hq
  rw [e1, e2, e0', e1', s0, show rem q c = reg q (pd q c) \ reg (fw q) c from if_pos hq]
  unfold outPt
  iintro ⟨⟨Ha, H⟩, ⟨HA, HA'⟩⟩
  ihave H := (pointsTo_split_subset (fw_sub q hq c)).1 $$ H
  icases H with ⟨H1, H2⟩
  isplitl [Ha H2]
  · isplitl [Ha]; · iexact Ha
    iexact H2
  · isplitl [HA]; · iexact HA
    isplitl [HA']; · iexact HA'
    iexact H1

end Cert.Talk

end
-- ==== Proof.Conds.lean ====
/- How a block under a condition is passed, and what the conditions of the kernel say. -/
module

public import proofs.«01_k».proof.Proof.Rows

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .bf16) (G : Dev nD → Vec F S1x1024 .bf16)

theorem if_seq {α : Type} {w : BitVec 1} {A : w = 1#1 → Prog (TpuEff nD τ sig (Elt F) Λ₀ .tc) α}
    {P : w = 1#1 → Prog (TpuEff nD τ sig (Elt F) Λ₀ .tc) PUnit} {R : PUnit → Prog (TpuEff nD τ sig (Elt F) Λ₀ .tc) α}
    (hA : ∀ h, A h = P h >>= R) :
    (dite (w = 1#1) A fun _ => R ⟨⟩) = (if h : w = 1#1 then P h else do pure ⟨⟩) >>= R := by
  by_cases h : w = 1#1
  · rw [dif_pos h, dif_pos h, hA]
  · rw [dif_neg h, dif_neg h]; rfl

theorem State_if (K : GSem nD τ sig → ℕ) (c : Dev nD) {σ : Cp → ℕ} {n : ℕ} (k : Cp) (t t' n' : ℕ) (h : σ k = t)
    {α : Type} {w : BitVec 1} {A : w = 1#1 → Prog (TpuEff nD τ sig (Elt F) Λ₀ .tc) α}
    {P : w = 1#1 → Prog (TpuEff nD τ sig (Elt F) Λ₀ .tc) PUnit} {R : PUnit → Prog (TpuEff nD τ sig (Elt F) Λ₀ .tc) α} {Q : α → sProp 𝕄}
    (hp : ∀ Φ : PUnit → sProp 𝕄, iprop(ctx X G K c ∗ ow c n ∗ xPt X c ∗ gPt G c ∗ comp X G c k t
        ∗ ((ow c n' ∗ xPt X c ∗ gPt G c ∗ comp X G c k t') -∗ Φ ⟨⟩))
      ⊢ wp frame (wpE (defs₀ (F := F)) 𝒱₀ (c : Thread nD τ) none) Set.univ (if h : w = 1#1 then P h else do pure ⟨⟩) Φ)
    (hA : ∀ h, A h = P h >>= R)
    (hr : State X G K c (upd σ k t') n' ⊢ wp frame (wpE (defs₀ (F := F)) 𝒱₀ (c : Thread nD τ) none) Set.univ (R ⟨⟩) Q) :
    State X G K c σ n ⊢ wp frame (wpE (defs₀ (F := F)) 𝒱₀ (c : Thread nD τ) none) Set.univ (dite (w = 1#1) A fun _ => R ⟨⟩) Q := by
  rw [if_seq hA]
  exact State_step X G K c k t t' n' h hp hr

theorem State_if3 (K : GSem nD τ sig → ℕ) (c : Dev nD) {σ : Cp → ℕ} {n : ℕ} (k l m : Cp) (t t' u v : ℕ)
    (hkl : l ≠ k) (hkm : m ≠ k) (hlm : m ≠ l) (h : σ k = t) (hl : σ l = u) (hm : σ m = v)
    {α : Type} {w : BitVec 1} {A : w = 1#1 → Prog (TpuEff nD τ sig (Elt F) Λ₀ .tc) α}
    {P : w = 1#1 → Prog (TpuEff nD τ sig (Elt F) Λ₀ .tc) PUnit} {R : PUnit → Prog (TpuEff nD τ sig (Elt F) Λ₀ .tc) α} {Q : α → sProp 𝕄}
    (hp : ∀ Φ : PUnit → sProp 𝕄, iprop(xPt X c ∗ gPt G c ∗ comp X G c k t ∗ comp X G c l u ∗ comp X G c m v
        ∗ ((xPt X c ∗ gPt G c ∗ comp X G c k t' ∗ comp X G c l u ∗ comp X G c m v) -∗ Φ ⟨⟩))
      ⊢ wp frame (wpE (defs₀ (F := F)) 𝒱₀ (c : Thread nD τ) none) Set.univ (if h : w = 1#1 then P h else do pure ⟨⟩) Φ)
    (hA : ∀ h, A h = P h >>= R)
    (hr : State X G K c (upd σ k t') n ⊢ wp frame (wpE (defs₀ (F := F)) 𝒱₀ (c : Thread nD τ) none) Set.univ (R ⟨⟩) Q) :
    State X G K c σ n ⊢ wp frame (wpE (defs₀ (F := F)) 𝒱₀ (c : Thread nD τ) none) Set.univ (dite (w = 1#1) A fun _ => R ⟨⟩) Q := by
  rw [if_seq hA]
  exact State_step3 X G K c k l m t t' u v hkl hkm hlm h hl hm hp hr

/-- The end of a part. -/
theorem State_ret (K : GSem nD τ sig → ℕ) (c : Dev nD) {σ : Cp → ℕ} (σ' : Cp → ℕ) {n : ℕ} (h : ∀ k, σ k = σ' k) {α : Type} (v : α) (R : α → Prop) (hR : R v) :
    State X G K c σ n ⊢ wp frame (wpE (defs₀ (F := F)) 𝒱₀ (c : Thread nD τ) none) Set.univ
      (pure v : Prog (TpuEff nD τ sig (Elt F) Λ₀ .tc) α) fun r => iprop(⌜R r⌝ ∗ State X G K c σ' n) := by
  obtain rfl : σ = σ' := funext h
  iintro H
  iapply ret_intro
  isplitr
  · ipureintro; exact hR
  iexact H

/-- The components' steps, listed. -/
noncomputable def st (rr lr : Fin 8 → ℕ) (s r : Fin 8 → ℕ) (o : Fin 2 → ℕ) : Cp → ℕ
  | .inl (false, q) => rr q
  | .inl (true, q) => lr q
  | .inr (.inl q) => s q
  | .inr (.inr (.inl q)) => r q
  | .inr (.inr (.inr h)) => o h

/-- The position in the chain, as the kernel computes it. -/
def vz (c : Dev nD) : BitVec 32 := Scalar.remsi (Scalar.divsi (Dev.word c) 1#32) 4#32
def isz (c : Dev nD) (k : BitVec 32) : BitVec 1 := Scalar.cmpi .ne (Scalar.extui (Scalar.cmpi .eq (vz c) k)) 0#32

theorem isz_iff : ∀ (c : Dev nD) (k : Fin 4), isz c (BitVec.ofNat 32 k.val) = 1#1 ↔ zz c = k.val := by decide +kernel

/-- The duties by the parity of the position in the chain. -/
noncomputable def ordB (p : Bool) : List Duty :=
  [.bar 0, .bar 1, .bar 2, .bar 3] ++ both (bif p then chO else chE)
    ++ [.edge false 7, .edge false 5, .edge false 3, .edge true 1, .edge true 3, .edge true 5, .pb 0, .pb 2]
    ++ (bif p then chO' else chE').map (fun p => .mid p.1 p.2)
    ++ [.pb 6, .pb 4, .pb 1, .pb 3, .pb 7, .pb 5]
theorem ord_par (c : Dev nD) (p : Bool) (hp : (c.val % 2 == 1) = p) (n : ℕ) (d : Duty) (h : (ordB p)[n]? = some d) : (ord c)[n]? = some d := by
  subst hp; exact h
theorem ord_all (c : Dev nD) (n : ℕ) (d : Duty) (h : ∀ p, (ordB p)[n]? = some d) : (ord c)[n]? = some d := h _

theorem chain_at : ∀ (b : Bool) (s : Fin 8), jS s ≠ (bif b then 3 else 0) → ∀ c : Dev nD, zz c = (jS s).val → snd b s c = false ∧ rcv b s c = true := by decide +kernel
theorem arr_iff : ∀ (b : Bool) (s : Fin 8), jS s ≠ (bif b then 3 else 0) → ∀ c : Dev nD, zz c = (jS s).val ↔ (rcv b s c = true ∧ snd b s c = false) := by decide +kernel

theorem sl_at : ∀ (b : Bool) (j : Fin 4) (h : Fin 2), j ≠ (bif b then 3 else 0) → ∀ c : Dev nD, zz c = j.val → snd b (sl j h) c = false ∧ rcv b (sl j h) c = true := by decide +kernel
theorem ends_ne : ∀ (b : Bool) (j : Fin 4), j = (bif b then 0 else 3) → j ≠ (bif b then 3 else 0) := by decide

theorem slotM_here (b : Bool) (s : Fin 8) : (slotM b s).view.ref.isScScratch = false := by cases b <;> rfl

theorem step_edge (K : GSem nD τ sig → ℕ) (c : Dev nD) {σ : Cp → ℕ} {n : ℕ} (b : Bool) (s : Fin 8) (h : σ (kC b s) = 0)
    (hn : (ord c)[n]? = some (.edge b s)) {cond : Dev nD → BitVec 1}
    {α : Type} {A : cond c = 1#1 → Prog (TpuEff nD τ sig (Elt F) Λ₀ .tc) α} {R : PUnit → Prog (TpuEff nD τ sig (Elt F) Λ₀ .tc) α} {Q : α → sProp 𝕄}
    {dv : Dev nD → ℕ} {hlt : cond c = 1#1 → dv c < nD}
    (hw : ∀ c, cond c = 1#1 ↔ (pos b c = 0 ∧ snd b s c = true)) (hdev : ∀ c, cond c = 1#1 → dv c = (nx b c).val)
    {sm1 sm2 : DmaSem sig} (h1 : sm1 = ix (aS b) s) (h2 : sm2 = ix (aR b) s) {pay : Vec F S1x128x1024 .bf16 → Vec F S1x128x1024 .bf16}
    (hpay : ∀ v, pay v = k0_pay7 v) {hl hl' st1 st2} {a1}
    (hA : ∀ h, A h = (do
          let v ← Prog.lift (.load A0 (xRect (jS s) (hS s)).toLoadRect hl)
          let _ ← Prog.lift (.load (sM b) (slotRect s).toLoadRect hl')
          Prog.lift (.store (sM b) (slotRect s) (pay v) Finset.univ st1 st2)
          Prog.lift (.enqueueDma (slotM b s) (.remote (Dev.tc (⟨dv c, hlt h⟩ : Dev nD)) (slotM b s) (.dma sm1) (slotM_here b s)) (.dma sm2) a1 a1 ⟨⟨rfl, Or.inl rfl⟩, trivial⟩)
          pure ⟨⟩) >>= R)
    (hr : State X G K c (upd σ (kC b s) 1) (n + 1) ⊢ wp frame (wpE (defs₀ (F := F)) 𝒱₀ (c : Thread nD τ) none) Set.univ (R ⟨⟩) Q) :
    State X G K c σ n ⊢ wp frame (wpE (defs₀ (F := F)) 𝒱₀ (c : Thread nD τ) none) Set.univ (dite (cond c = 1#1) A fun _ => R ⟨⟩) Q :=
  State_if X G K c (kC b s) 0 1 (n + 1) h
    (edge_ok X G K c b s n hn (hw c) (dev := fun h => ⟨dv c, hlt h⟩) (fun h => Fin.ext (hdev c h)) h1 h2 hpay) hA hr

theorem step_mid (K : GSem nD τ sig → ℕ) (c : Dev nD) {σ : Cp → ℕ} {n : ℕ} (b : Bool) (s : Fin 8) (h : σ (kC b s) = 1)
    (p : Bool) (hp : (c.val % 2 == 1) = p) (hn : (ordB p)[n]? = some (.mid b s)) {cond : Dev nD → BitVec 1}
    {α : Type} {A : cond c = 1#1 → Prog (TpuEff nD τ sig (Elt F) Λ₀ .tc) α} {R : PUnit → Prog (TpuEff nD τ sig (Elt F) Λ₀ .tc) α} {Q : α → sProp 𝕄}
    {dv : Dev nD → ℕ} {hlt : cond c = 1#1 → dv c < nD}
    (hw : ∀ c, cond c = 1#1 ↔ (1 ≤ pos b c ∧ snd b s c = true)) (hdev : ∀ c, cond c = 1#1 → dv c = (nx b c).val)
    (hok : ∀ c : Dev nD, (c.val % 2 == 1) = p → (1 ≤ pos b c ∧ snd b s c = true) → okWait c (.dma (ix (aR b) s)) n = true)
    {sm0 sm1 sm2 : DmaSem sig} (h0 : sm0 = ix (aR b) s) (h1 : sm1 = ix (aS b) s) (h2 : sm2 = ix (aR b) s)
    {pay : Vec F S1x128x1024 .bf16 → Vec F S1x128x1024 .bf16 → Vec F S1x128x1024 .bf16}
    (hpay : ∀ v v', pay v v' = k0_pay1 v v') {hl hl' hl'' st1 st2 w1 w2} {a1} {part : Prog (TpuEff nD τ sig (Elt F) Λ₀ .tc) PUnit}
    (hA : ∀ h, A h = (part >>= fun _ =>
          Prog.lift (.enqueueDma (slotM b s) (.remote (Dev.tc (⟨dv c, hlt h⟩ : Dev nD)) (slotM b s) (.dma sm1) (slotM_here b s)) (.dma sm2) a1 a1 ⟨⟨rfl, Or.inl rfl⟩, trivial⟩) >>= R))
    (hpart : part = (do
        Prog.lift (.waitDma2 sm0 (slotM b s) (slotM b s) w1 w2)
        let v ← Prog.lift (.load (sM b) (slotRect s).toLoadRect hl)
        let v' ← Prog.lift (.load A0 (xRect (jS s) (hS s)).toLoadRect hl')
        let _ ← Prog.lift (.load (sM b) (slotRect s).toLoadRect hl'')
        Prog.lift (.store (sM b) (slotRect s) (pay v v') Finset.univ st1 st2)
        pure ⟨⟩))
    (hr : State X G K c (upd σ (kC b s) 2) (n + 1) ⊢ wp frame (wpE (defs₀ (F := F)) 𝒱₀ (c : Thread nD τ) none) Set.univ (R ⟨⟩) Q) :
    State X G K c σ n ⊢ wp frame (wpE (defs₀ (F := F)) 𝒱₀ (c : Thread nD τ) none) Set.univ (dite (cond c = 1#1) A fun _ => R ⟨⟩) Q :=
  State_if X G K c (kC b s) 1 2 (n + 1) h
    (mid_ok X G K c b s n 1 (.inr rfl) (ord_par c p hp n _ hn) (hw c) (fun h => absurd h (by decide)) (fun h => hok c hp ((hw c).mp h))
      (dev := fun h => ⟨dv c, hlt h⟩) (fun h => Fin.ext (hdev c h)) h0 h1 h2 hpay hpart)
    (fun h => by subst hpart; rw [hA h]; rfl) hr

theorem step_arr (K : GSem nD τ sig → ℕ) (c : Dev nD) {σ : Cp → ℕ} {n : ℕ} (b : Bool) (s : Fin 8) (h : σ (kC b s) = 2)
    (hs : jS s ≠ (bif b then 3 else 0)) {cond : Dev nD → BitVec 1}
    {α : Type} {A : cond c = 1#1 → Prog (TpuEff nD τ sig (Elt F) Λ₀ .tc) α} {R : PUnit → Prog (TpuEff nD τ sig (Elt F) Λ₀ .tc) α} {Q : α → sProp 𝕄}
    (hw : ∀ c, cond c = 1#1 ↔ zz c = (jS s).val) (hok : ∀ c : Dev nD, zz c = (jS s).val → okWait c (.dma (ix (aR b) s)) n = true)
    {sm0 : DmaSem sig} (h0 : sm0 = ix (aR b) s) {w1 w2}
    (hA : ∀ h, A h = (do
          Prog.lift (.waitDma2 sm0 (slotM b s) (slotM b s) w1 w2)
          pure ⟨⟩) >>= R)
    (hr : State X G K c (upd σ (kC b s) 3) n ⊢ wp frame (wpE (defs₀ (F := F)) 𝒱₀ (c : Thread nD τ) none) Set.univ (R ⟨⟩) Q) :
    State X G K c σ n ⊢ wp frame (wpE (defs₀ (F := F)) 𝒱₀ (c : Thread nD τ) none) Set.univ (dite (cond c = 1#1) A fun _ => R ⟨⟩) Q :=
  State_if X G K c (kC b s) 2 3 n h
    (arrive_ok X G K c b s n ((hw c).trans (arr_iff b s hs c)) (fun h => hok c ((hw c).mp h)) h0) hA hr

theorem step_back (K : GSem nD τ sig → ℕ) (c : Dev nD) {σ : Cp → ℕ} {n : ℕ} (b : Bool) (s : Fin 8) (h : σ (kC b s) = 3)
    {cond : Dev nD → BitVec 1}
    {α : Type} {A : cond c = 1#1 → Prog (TpuEff nD τ sig (Elt F) Λ₀ .tc) α} {R : PUnit → Prog (TpuEff nD τ sig (Elt F) Λ₀ .tc) α} {Q : α → sProp 𝕄}
    (hw : ∀ c, cond c = 1#1 ↔ snd b s c = true) (hok : ∀ c : Dev nD, okWait c (.dma (ix (aS b) s)) n = true)
    {sm0 : DmaSem sig} (h0 : sm0 = ix (aS b) s) {w1 w2}
    (hA : ∀ h, A h = (do
          Prog.lift (.waitDma2 sm0 (slotM b s) (slotM b s) w1 w2)
          pure ⟨⟩) >>= R)
    (hr : State X G K c (upd σ (kC b s) 4) n ⊢ wp frame (wpE (defs₀ (F := F)) 𝒱₀ (c : Thread nD τ) none) Set.univ (R ⟨⟩) Q) :
    State X G K c σ n ⊢ wp frame (wpE (defs₀ (F := F)) 𝒱₀ (c : Thread nD τ) none) Set.univ (dite (cond c = 1#1) A fun _ => R ⟨⟩) Q :=
  State_if X G K c (kC b s) 3 4 n h
    (back_ok X G K c b s n (hw c) (fun _ => hok c) h0) hA hr

theorem step_make3 (K : GSem nD τ sig → ℕ) (c : Dev nD) {σ : Cp → ℕ} {n : ℕ} (j : Fin 4) (hh : Fin 2) (h : σ (kO hh) = j.val)
    (h' : σ (kC false (sl j hh)) = 3) (h'' : σ (kC true (sl j hh)) = 3) (hj : j ≠ 0 ∧ j ≠ 3) {cond : Dev nD → BitVec 1}
    {α : Type} {A : cond c = 1#1 → Prog (TpuEff nD τ sig (Elt F) Λ₀ .tc) α} {R : PUnit → Prog (TpuEff nD τ sig (Elt F) Λ₀ .tc) α} {Q : α → sProp 𝕄}
    (hw : ∀ c, cond c = 1#1 ↔ zz c = j.val)
    {pay : Vec F S1x128x1024 .bf16 → Vec F S1x128x1024 .bf16 → Vec F S1x128x1024 .bf16 → Vec F S1x1024 .bf16 → FVec F S128x1024 .bf16}
    (hfv : zz c = j.val → pay (xch (X c) j hh) (got X false (sl j hh) c) (got X true (sl j hh) c) (gch (G c)) = fv X G hh c)
    {off : Fin 2 → ℕ} {inb : cond c = 1#1 → _} (hoff : off = ![512 * (c.val / 8) + 256 * ((c.val / 4) % 2) + 128 * hh.val, 0])
    {l1 l2 l3 l4} {l5 : ∀ h : cond c = 1#1, A2.view.LoadsAt (Rect.unit (s := S1024x1024) off S128x1024.size (inb h)).toLoadRect}
    {s1 : ∀ h : cond c = 1#1, (A2.access (Rect.unit (s := S1024x1024) off S128x1024.size (inb h))).Stores Finset.univ}
    {s2 : ∀ h : cond c = 1#1, Finset.univ = Finset.univ ∨ ∀ a, (Rect.unit (s := S1024x1024) off S128x1024.size (inb h)).stride a = 1}
    (hA : ∀ h, A h = (do
          let v ← Prog.lift (.load A0 (xRect j hh).toLoadRect l1)
          let a ← Prog.lift (.load (sM false) (slotRect (sl j hh)).toLoadRect l2)
          let b ← Prog.lift (.load (sM true) (slotRect (sl j hh)).toLoadRect l3)
          let g ← Prog.lift (.load A1 gRect.toLoadRect l4)
          let _ ← Prog.lift (.load A2 (Rect.unit (s := S1024x1024) off S128x1024.size (inb h)).toLoadRect (l5 h))
          Prog.lift (.store A2 (Rect.unit (s := S1024x1024) off S128x1024.size (inb h)) (pay v a b g) Finset.univ (s1 h) (s2 h))
          pure ⟨⟩) >>= R)
    (hr : State X G K c (upd σ (kO hh) (j.val + 1)) n ⊢ wp frame (wpE (defs₀ (F := F)) 𝒱₀ (c : Thread nD τ) none) Set.univ (R ⟨⟩) Q) :
    State X G K c σ n ⊢ wp frame (wpE (defs₀ (F := F)) 𝒱₀ (c : Thread nD τ) none) Set.univ (dite (cond c = 1#1) A fun _ => R ⟨⟩) Q :=
  State_if3 X G K c (kO hh) (kC false (sl j hh)) (kC true (sl j hh)) j.val (j.val + 1) 3 3 (by rintro ⟨⟩) (by rintro ⟨⟩) (by intro h; injection h with h; injection h with h; exact absurd h (by decide)) h h' h''
    (make3_ok X G c j hh (sl j hh) (hw c) (sl_at false j hh hj.1 c) (sl_at true j hh hj.2 c) hfv hoff) hA hr

theorem step_make2 (K : GSem nD τ sig → ℕ) (c : Dev nD) {σ : Cp → ℕ} {n : ℕ} (b : Bool) (j : Fin 4) (hh : Fin 2) (h : σ (kO hh) = j.val)
    (h' : σ (kC b (sl j hh)) = 3) (hj : j = (bif b then 0 else 3)) {cond : Dev nD → BitVec 1}
    {α : Type} {A : cond c = 1#1 → Prog (TpuEff nD τ sig (Elt F) Λ₀ .tc) α} {R : PUnit → Prog (TpuEff nD τ sig (Elt F) Λ₀ .tc) α} {Q : α → sProp 𝕄}
    (hw : ∀ c, cond c = 1#1 ↔ zz c = j.val)
    {pay : Vec F S1x128x1024 .bf16 → Vec F S1x128x1024 .bf16 → Vec F S1x1024 .bf16 → FVec F S128x1024 .bf16}
    (hfv : zz c = j.val → pay (xch (X c) j hh) (got X b (sl j hh) c) (gch (G c)) = fv X G hh c)
    {off : Fin 2 → ℕ} {inb : cond c = 1#1 → _} (hoff : off = ![512 * (c.val / 8) + 256 * ((c.val / 4) % 2) + 128 * hh.val, 0])
    {l1 l2 l4} {l5 : ∀ h : cond c = 1#1, A2.view.LoadsAt (Rect.unit (s := S1024x1024) off S128x1024.size (inb h)).toLoadRect}
    {s1 : ∀ h : cond c = 1#1, (A2.access (Rect.unit (s := S1024x1024) off S128x1024.size (inb h))).Stores Finset.univ}
    {s2 : ∀ h : cond c = 1#1, Finset.univ = Finset.univ ∨ ∀ a, (Rect.unit (s := S1024x1024) off S128x1024.size (inb h)).stride a = 1}
    (hA : ∀ h, A h = (do
          let v ← Prog.lift (.load A0 (xRect j hh).toLoadRect l1)
          let a ← Prog.lift (.load (sM b) (slotRect (sl j hh)).toLoadRect l2)
          let g ← Prog.lift (.load A1 gRect.toLoadRect l4)
          let _ ← Prog.lift (.load A2 (Rect.unit (s := S1024x1024) off S128x1024.size (inb h)).toLoadRect (l5 h))
          Prog.lift (.store A2 (Rect.unit (s := S1024x1024) off S128x1024.size (inb h)) (pay v a g) Finset.univ (s1 h) (s2 h))
          pure ⟨⟩) >>= R)
    (hr : State X G K c (upd σ (kO hh) (j.val + 1)) n ⊢ wp frame (wpE (defs₀ (F := F)) 𝒱₀ (c : Thread nD τ) none) Set.univ (R ⟨⟩) Q) :
    State X G K c σ n ⊢ wp frame (wpE (defs₀ (F := F)) 𝒱₀ (c : Thread nD τ) none) Set.univ (dite (cond c = 1#1) A fun _ => R ⟨⟩) Q :=
  State_if3 X G K c (kO hh) (kC b (sl j hh)) (kR 0) j.val (j.val + 1) 3 (σ (kR 0)) (by rintro ⟨⟩) (by intro h; injection h with h; injection h with h; injection h) (by rintro ⟨⟩) h h' rfl
    (make2_ok X G c b j hh (sl j hh) (hw c) (sl_at b j hh (ends_ne b j hj) c) hfv hoff) hA hr

def lsz (c : Dev nD) (k : BitVec 32) : BitVec 1 := Scalar.cmpi .ne (Scalar.extui (Scalar.cmpi .slt (vz c) k)) 0#32
def gsz (c : Dev nD) (k : BitVec 32) : BitVec 1 := Scalar.cmpi .ne (Scalar.extui (Scalar.cmpi .sgt (vz c) k)) 0#32

/-- A program takes the state from `σ`, `n` to `σ'`, `n'`. -/
def Runs (K : GSem nD τ sig → ℕ) (c : Dev nD) (σ : Cp → ℕ) (n : ℕ) {α : Type} (p : Prog (TpuEff nD τ sig (Elt F) Λ₀ .tc) α) (R : α → Prop) (σ' : Cp → ℕ) (n' : ℕ) : Prop :=
  State X G K c σ n ⊢ wp frame (wpE (defs₀ (F := F)) 𝒱₀ (c : Thread nD τ) none) Set.univ p fun r => iprop(⌜R r⌝ ∗ State X G K c σ' n')

theorem Runs_bind (K : GSem nD τ sig → ℕ) (c : Dev nD) {σ σ' σ'' : Cp → ℕ} {n n' n'' : ℕ} {α β : Type} {p : Prog (TpuEff nD τ sig (Elt F) Λ₀ .tc) α} {f : α → Prog (TpuEff nD τ sig (Elt F) Λ₀ .tc) β} {R : α → Prop} {Q : β → Prop}
    (h : Runs X G K c σ n p R σ' n') (hf : ∀ r, R r → Runs X G K c σ' n' (f r) Q σ'' n'') : Runs X G K c σ n (p >>= f) Q σ'' n'' := by
  unfold Runs at *
  rw [wp_bind]
  refine h.trans (wp_mono _ _ _ fun r => ?_)
  iintro ⟨%hr, H⟩
  iapply (hf r hr)
  iexact H

theorem Runs_congr (K : GSem nD τ sig → ℕ) (c : Dev nD) {σ : Cp → ℕ} (σ' : Cp → ℕ) (h : ∀ k, σ k = σ' k) {n : ℕ} {α : Type} {p : Prog (TpuEff nD τ sig (Elt F) Λ₀ .tc) α} {Q : α → sProp 𝕄}
    (hr : State X G K c σ' n ⊢ wp frame (wpE (defs₀ (F := F)) 𝒱₀ (c : Thread nD τ) none) Set.univ p Q) : State X G K c σ n ⊢ wp frame (wpE (defs₀ (F := F)) 𝒱₀ (c : Thread nD τ) none) Set.univ p Q := by
  obtain rfl : σ = σ' := funext h
  exact hr

end Cert.Talk

end
-- ==== Proof.Part1.lean ====
/- The parts of the kernel. -/
module

public import proofs.«01_k».proof.Proof.Conds

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .bf16) (G : Dev nD → Vec F S1x1024 .bf16)

noncomputable def s0 : Cp → ℕ := st (fun _ => 0) (fun _ => 0) (fun _ => 0) (fun _ => 0) (fun _ => 0)
noncomputable def sO : Cp → ℕ := st ![0, 0, 0, 0, 2, 0, 2, 0] ![2, 0, 2, 0, 0, 0, 0, 0] (fun _ => 0) (fun _ => 0) (fun _ => 0)
noncomputable def s16 : Cp → ℕ := st ![0, 0, 2, 0, 2, 0, 2, 0] ![2, 0, 2, 0, 2, 0, 0, 0] (fun _ => 0) (fun _ => 0) (fun _ => 0)
noncomputable def s22 : Cp → ℕ := st ![0, 0, 2, 1, 2, 1, 2, 1] ![2, 1, 2, 1, 2, 1, 0, 0] (fun _ => 0) (fun _ => 0) (fun _ => 0)

attribute [local irreducible] Scalar.cmpi Scalar.divsi Scalar.remsi Scalar.extui instDecidableEqBitVec vz

/-- The copies between neighbours that an odd device sends first. -/
theorem part7_ok (K : GSem nD τ sig → ℕ) (c : Dev nD) (hp : (c.val % 2 == 1) = true) (h0 h1 h2 h3 h4 v2 v5 v8 v12 v14 hc) :
    Runs X G K c s0 4 (k0_part7 A0 h0 A1 h1 A2 h2 (Memref.whole cc0_scratch0) h3 (Memref.whole cc0_scratch1) h4 cc0_scratch2 cc0_scratch3 cc0_scratch4
      cc0_scratch5 cc0_scratch6 cc0_scratch7 c v2 v5 v8 v12 v14 hc) (fun _ => True) sO 12 := by
  rw [k0_part7_eq_skeleton]; unfold k0_part7_skel Runs
  extract_lets
  refine step_edge X G K c false 6 rfl (ord_par c true hp 4 _ rfl) (dv := k0_dev5) (hlt := k0_dev5_lt c hc) (by decide +kernel) (by decide +kernel) rfl rfl (fun _ => rfl) (fun _ => rfl) ?_
  refine step_mid X G K c false 6 rfl true hp rfl (dv := k0_dev6) (hlt := k0_dev6_lt c hc) (by decide +kernel) (by decide +kernel) (by decide +kernel) rfl rfl rfl (fun _ _ => rfl) (fun _ => rfl) (by rw [k0_part1_eq_skeleton]; rfl) ?_
  refine step_edge X G K c true 0 rfl (ord_par c true hp 6 _ rfl) (dv := k0_dev7) (hlt := k0_dev7_lt c hc) (by decide +kernel) (by decide +kernel) rfl rfl (fun _ => rfl) (fun _ => rfl) ?_
  refine step_mid X G K c true 0 rfl true hp rfl (dv := k0_dev8) (hlt := k0_dev8_lt c hc) (by decide +kernel) (by decide +kernel) (by decide +kernel) rfl rfl rfl (fun _ _ => rfl) (fun _ => rfl) (by rw [k0_part2_eq_skeleton]; rfl) ?_
  refine step_edge X G K c false 4 rfl (ord_par c true hp 8 _ rfl) (dv := k0_dev9) (hlt := k0_dev9_lt c hc) (by decide +kernel) (by decide +kernel) rfl rfl (fun _ => rfl) (fun _ => rfl) ?_
  refine step_mid X G K c false 4 rfl true hp rfl (dv := k0_dev10) (hlt := k0_dev10_lt c hc) (by decide +kernel) (by decide +kernel) (by decide +kernel) rfl rfl rfl (fun _ _ => rfl) (fun _ => rfl) (by rw [k0_part3_eq_skeleton]; rfl) ?_
  refine step_edge X G K c true 2 rfl (ord_par c true hp 10 _ rfl) (dv := k0_dev11) (hlt := k0_dev11_lt c hc) (by decide +kernel) (by decide +kernel) rfl rfl (fun _ => rfl) (fun _ => rfl) ?_
  refine step_mid X G K c true 2 rfl true hp rfl (dv := k0_dev12) (hlt := k0_dev12_lt c hc) (by decide +kernel) (by decide +kernel) (by decide +kernel) rfl rfl rfl (fun _ _ => rfl) (fun _ => rfl) (by rw [k0_part4_eq_skeleton]; rfl) ?_
  exact State_ret X G K c sO (by decide) _ _ trivial

/-- The copies between neighbours that an even device sends first. -/
theorem part14_ok (K : GSem nD τ sig → ℕ) (c : Dev nD) (hp : (c.val % 2 == 1) = false) (h0 h1 h2 h3 h4 v2 v5 v8 v12 v14 hc) :
    Runs X G K c s0 4 (k0_part14 A0 h0 A1 h1 A2 h2 (Memref.whole cc0_scratch0) h3 (Memref.whole cc0_scratch1) h4 cc0_scratch2 cc0_scratch3 cc0_scratch4
      cc0_scratch5 cc0_scratch6 cc0_scratch7 c v2 v5 v8 v12 v14 hc) (fun _ => True) sO 12 := by
  rw [k0_part14_eq_skeleton]; unfold k0_part14_skel Runs
  extract_lets
  refine step_edge X G K c true 0 rfl (ord_par c false hp 4 _ rfl) (dv := k0_dev17) (hlt := k0_dev17_lt c hc) (by decide +kernel) (by decide +kernel) rfl rfl (fun _ => rfl) (fun _ => rfl) ?_
  refine step_mid X G K c true 0 rfl false hp rfl (dv := k0_dev18) (hlt := k0_dev18_lt c hc) (by decide +kernel) (by decide +kernel) (by decide +kernel) rfl rfl rfl (fun _ _ => rfl) (fun _ => rfl) (by rw [k0_part8_eq_skeleton]; rfl) ?_
  refine step_edge X G K c false 6 rfl (ord_par c false hp 6 _ rfl) (dv := k0_dev19) (hlt := k0_dev19_lt c hc) (by decide +kernel) (by decide +kernel) rfl rfl (fun _ => rfl) (fun _ => rfl) ?_
  refine step_mid X G K c false 6 rfl false hp rfl (dv := k0_dev20) (hlt := k0_dev20_lt c hc) (by decide +kernel) (by decide +kernel) (by decide +kernel) rfl rfl rfl (fun _ _ => rfl) (fun _ => rfl) (by rw [k0_part9_eq_skeleton]; rfl) ?_
  refine step_edge X G K c true 2 rfl (ord_par c false hp 8 _ rfl) (dv := k0_dev21) (hlt := k0_dev21_lt c hc) (by decide +kernel) (by decide +kernel) rfl rfl (fun _ => rfl) (fun _ => rfl) ?_
  refine step_mid X G K c true 2 rfl false hp rfl (dv := k0_dev22) (hlt := k0_dev22_lt c hc) (by decide +kernel) (by decide +kernel) (by decide +kernel) rfl rfl rfl (fun _ _ => rfl) (fun _ => rfl) (by rw [k0_part10_eq_skeleton]; rfl) ?_
  refine step_edge X G K c false 4 rfl (ord_par c false hp 10 _ rfl) (dv := k0_dev23) (hlt := k0_dev23_lt c hc) (by decide +kernel) (by decide +kernel) rfl rfl (fun _ => rfl) (fun _ => rfl) ?_
  refine step_mid X G K c false 4 rfl false hp rfl (dv := k0_dev24) (hlt := k0_dev24_lt c hc) (by decide +kernel) (by decide +kernel) (by decide +kernel) rfl rfl rfl (fun _ _ => rfl) (fun _ => rfl) (by rw [k0_part11_eq_skeleton]; rfl) ?_
  exact State_ret X G K c sO (by decide) _ _ trivial

end Cert.Talk

end
-- ==== Proof.Bar.lean ====
/- The barrier at the head of the kernel. -/
module

public import proofs.«01_k».proof.Proof.Conds

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .bf16) (G : Dev nD → Vec F S1x1024 .bf16)

attribute [local irreducible] OW okWait ord

/-- What the signal `i` takes: its duty and what it brings. -/
noncomputable def sg (i : Fin 4) (c : Dev nD) : sProp 𝕄 :=
  bif nbOk i c then iprop(dutyTok ER (bcell (nb i c)) 0 i ∗ barPay (nb i c) i) else iprop(emp)
/-- Whether a device has two neighbours on the long axis. -/
noncomputable def inner (c : Dev nD) : Bool := decide (0 < zz c) && decide (zz c < 3)
/-- The units of the barrier. -/
noncomputable def bcr (c : Dev nD) : sProp 𝕄 :=
  iprop(cred (tallyAt (bcell c) () 3) ∗ (bif inner c then cred (tallyAt (bcell c) () 1) else iprop(emp)))
noncomputable def bars (c : Dev nD) : sProp 𝕄 := iprop(barPay c 0 ∗ barPay c 1 ∗ barPay c 2 ∗ barPay c 3)

theorem bar_expect (c : Dev nD) : (Rd X G).expect (bcell c) 0 = (Finset.univ.filter fun i => inOk i c = true).card := by
  show ∑ d ∈ (Rd X G).duties (bcell c) 0, (Rd X G).amount (bcell c) 0 d = _
  rw [duties_bar, Finset.card_eq_sum_ones]
  rfl
theorem inOk_card (c : Dev nD) : (Finset.univ.filter fun i => inOk i c = true).card = 3 + (bif inner c then 1 else 0) := by
  revert c; decide +kernel
theorem barOk (c : Dev nD) : okWait c (.reg barS) 4 = true := by revert c; decide +kernel

theorem snd_edge (b : Bool) (c : Dev nD) (s : Fin 8) (h : inOk (bif b then 3 else 2) c = false) : snd b s c = false := by
  revert b c s; decide +kernel

theorem barPay_out (c : Dev nD) (i : Fin 4) : (if inOk i c = true then barPay c i else emp : sProp 𝕄) ⊢ barPay c i := by
  by_cases h : inOk i c = true
  · rw [if_pos h]
  · rw [if_neg h]
    have h' : inOk i c = false := by simpa using h
    match i, h' with
    | 2, h' =>
      show emp ⊢ slotsOpen false c
      unfold slotsOpen slotOpen
      simp only [snd_edge false c _ h', cond_false]
      iintro -
      isplitr; · iempintro
      isplitr; · iempintro
      isplitr; · iempintro
      isplitr; · iempintro
      isplitr; · iempintro
      isplitr; · iempintro
      isplitr <;> iempintro
    | 3, h' =>
      show emp ⊢ slotsOpen true c
      unfold slotsOpen slotOpen
      simp only [snd_edge true c _ h', cond_false]
      iintro -
      isplitr; · iempintro
      isplitr; · iempintro
      isplitr; · iempintro
      isplitr; · iempintro
      isplitr; · iempintro
      isplitr; · iempintro
      isplitr <;> iempintro

theorem bars_of (c : Dev nD) : (bigSep (Finset.univ.filter fun i => inOk i c = true) fun i => barPay c i : sProp 𝕄) ⊢ bars c := by
  rw [bigSep_filter]
  refine (bigSep_mono fun i _ => barPay_out c i).trans ?_
  rw [show (Finset.univ : Finset (Fin 4)) = {0, 1, 2, 3} by decide, bigSep_insert (by decide), bigSep_insert (by decide), bigSep_insert (by decide), bigSep_singleton]
  show iprop(barPay c 0 ∗ barPay c 1 ∗ barPay c 2 ∗ barPay c 3) ⊢ bars c
  unfold bars
  iintro H
  iexact H

theorem big_sdiff {T U : Finset (Fin 4)} (h : T ⊆ U) (f : Fin 4 → sProp 𝕄) : iprop(bigSep T f ∗ bigSep (U \ T) f) ⊢ bigSep U f :=
  Entails.of_eq (bigSep_sdiff_split h).symm

/-- A signal of the barrier and what follows it. -/
theorem bar_sig (K : GSem nD τ sig → ℕ) (c : Dev nD) (i : Fin 4) (n : ℕ) (hn : (ord c)[n]? = some (.bar i)) (hk : nbOk i c = true)
    {dev : Dev nD} (hdev : dev = nb i c) {S : sProp 𝕄} {α : Type} {R : PUnit → Prog (TpuEff nD τ sig (Elt F) Λ₀ .tc) α} {Q : α → sProp 𝕄}
    (hr : iprop(ctx X G K c ∗ ow c (n + 1) ∗ S) ⊢ wp frame (wpE (defs₀ (F := F)) 𝒱₀ (c : Thread nD τ) none) Set.univ (R ⟨⟩) Q) :
    iprop(ctx X G K c ∗ ow c n ∗ sg i c ∗ S) ⊢ wp frame (wpE (defs₀ (F := F)) 𝒱₀ (c : Thread nD τ) none) Set.univ (semSignalWord dev barS 1#32 >>= R) Q := by
  rw [wp_bind]
  unfold sg
  rw [hk]
  simp only [cond_true]
  iintro ⟨#Hctx, HO, ⟨Ht, Hp⟩, HS⟩
  iapply (signal_step X G K c i n hn hk hdev)
  isplitr; · iexact Hctx
  isplitl [HO]; · iexact HO
  isplitl [Ht]; · iexact Ht
  isplitl [Hp]; · iexact Hp
  iintro HO
  iapply hr
  isplitr; · iexact Hctx
  isplitl [HO] <;> iassumption

/-- A signal that only some devices send. -/
theorem bar_sig_if (K : GSem nD τ sig → ℕ) (c : Dev nD) (i : Fin 4) (n : ℕ) (hn : (ord c)[n]? = some (.bar i)) {cond : Dev nD → BitVec 1}
    (hk : ∀ c, cond c = 1#1 ↔ nbOk i c = true) {dv : Dev nD → ℕ} {hlt : cond c = 1#1 → dv c < nD} (hdev : ∀ c, cond c = 1#1 → dv c = (nb i c).val)
    {S : sProp 𝕄} {α : Type} {A : cond c = 1#1 → Prog (TpuEff nD τ sig (Elt F) Λ₀ .tc) α} {R : PUnit → Prog (TpuEff nD τ sig (Elt F) Λ₀ .tc) α} {Q : α → sProp 𝕄}
    (hA : ∀ h, A h = semSignalWord (⟨dv c, hlt h⟩ : Dev nD) barS 1#32 >>= R)
    (hr : iprop(ctx X G K c ∗ ow c (n + 1) ∗ S) ⊢ wp frame (wpE (defs₀ (F := F)) 𝒱₀ (c : Thread nD τ) none) Set.univ (R ⟨⟩) Q) :
    iprop(ctx X G K c ∗ ow c n ∗ sg i c ∗ S) ⊢ wp frame (wpE (defs₀ (F := F)) 𝒱₀ (c : Thread nD τ) none) Set.univ (dite (cond c = 1#1) A fun _ => R ⟨⟩) Q := by
  by_cases h : cond c = 1#1
  · rw [dif_pos h, hA h]
    exact bar_sig X G K c i n hn ((hk c).mp h) (Fin.ext (hdev c h)) hr
  · rw [dif_neg h]
    have hk' : nbOk i c = false := by
      rcases hb : nbOk i c with _ | _
      · rfl
      · exact absurd ((hk c).mpr hb) h
    unfold sg
    rw [hk', ow_skip c n _ hn hk']
    simp only [cond_false]
    refine .trans ?_ hr
    iintro ⟨Hctx, HO, -, HS⟩
    isplitl [Hctx]; · iexact Hctx
    isplitl [HO] <;> iassumption

/-- The wait that takes all that is left. -/
theorem wait_all (K : GSem nD τ sig → ℕ) (c : Dev nD) (T : Finset (Fin 4)) (m k : ℕ)
    (hm : m + k = (Finset.univ.filter fun i => inOk i c = true).card) (Φ : PUnit → sProp 𝕄) :
    iprop(ctx X G K c ∗ ow c 4 ∗ cred (tallyAt (bcell c) () k) ∗ atPos ER (bcell c) 0 T m
        ∗ ((ow c 4 ∗ atPos ER (bcell c) 1 ∅ 0 ∗ bigSep ((Finset.univ.filter fun i => inOk i c = true) \ T) fun i => barPay c i) -∗ Φ ⟨⟩))
      ⊢ wp frame (wpE (defs₀ (F := F)) 𝒱₀ (c : Thread nD τ) none) Set.univ (.op (.semWait barS (k : ℤ)) .ret) Φ := by
  have hk : m + k = (Rd X G).expect (bcell c) 0 := hm.trans (bar_expect X G c).symm
  have hl : (ctx X G K c : sProp 𝕄) ⊢ MayWait (c : Thread nD τ) (.reg barS) () (OW c 4) :=
    (@ctx_lev F _ X G K c).trans (levs_mayWait c (.reg barS) 4 (barOk c))
  unfold ow
  iintro ⟨#Hctx, ⟨%W, HO⟩, Hc, Hat, HK⟩
  iapply (Rounds.wp_wait_rest_token 𝒱₀ ER (Rd X G) (c : Thread nD τ) none (κ := K (bcell c)) (sm := .reg barS)
      (wpE_semWait_eq 𝒱₀ (c : Thread nD τ) none Set.univ) (Set.mem_univ _) () (O := OW c 4) (W := W) (R := 0) (m := m) (T := T)
      (k' := k) hk) $$ [Hc HO Hat]
  · isplitr; · iapply (ctx_bar X G K c c); iexact Hctx
    isplitl [Hc]; · iexact Hc
    isplitl [HO]; · iexact HO
    isplitr; · iapply hl; iexact Hctx
    iexact Hat
  iintro ⟨HO, Hat, -, Hpay⟩
  iapply ret_intro
  iapply HK
  isplitl [HO]; · iexists _; iexact HO
  isplitl [Hat]; · iexact Hat
  rw [duties_bar]
  iexact Hpay

/-- The wait that takes three of four. -/
theorem wait_part (K : GSem nD τ sig → ℕ) (c : Dev nD) (k : ℕ) (Φ : PUnit → sProp 𝕄) :
    iprop(ctx X G K c ∗ ow c 4 ∗ cred (tallyAt (bcell c) () k) ∗ atPos ER (bcell c) 0 ∅ 0
        ∗ (∀ S : Finset (Fin 4), (⌜S ⊆ Finset.univ.filter fun i => inOk i c = true⌝ ∗ ow c 4 ∗ atPos ER (bcell c) 0 S k ∗ bigSep S fun i => barPay c i) -∗ Φ ⟨⟩))
      ⊢ wp frame (wpE (defs₀ (F := F)) 𝒱₀ (c : Thread nD τ) none) Set.univ (.op (.semWait barS (k : ℤ)) .ret) Φ := by
  have hl : (ctx X G K c : sProp 𝕄) ⊢ MayOwe (c : Thread nD τ) {(.reg barS, ())} (OW c 4) :=
    (@ctx_lev F _ X G K c).trans (levs_mayWait c (.reg barS) 4 (barOk c))
  unfold ow
  iintro ⟨#Hctx, ⟨%W, HO⟩, Hc, Hat, HK⟩
  iapply (Rounds.wp_wait 𝒱₀ ER (Rd X G) (c : Thread nD τ) none (κ := K (bcell c)) (sm := .reg barS)
      (wpE_semWait_eq 𝒱₀ (c : Thread nD τ) none Set.univ) (Set.mem_univ _) (cr := Finsupp.single () k) (O := OW c 4) (W := W) {(.reg barS, ())}
      (R := 0) (m := 0) (T := ∅) (k' := k) (by rw [Util.total_single]) (image_single_subset (.reg barS) () k)) $$ [Hc HO Hat]
  · isplitr; · iapply (ctx_bar X G K c c); iexact Hctx
    isplitl [Hc]; · iexact Hc
    isplitl [HO]; · iexact HO
    isplitr; · iapply hl; iexact Hctx
    iexact Hat
  iintro %S ⟨%hS, HO, Hat, Hpay⟩
  iapply ret_intro
  iapply HK $$ %S
  isplitr; · ipureintro; exact (duties_bar X G c) ▸ hS.2.1
  isplitl [HO]; · iexists _; iexact HO
  isplitl [Hat]; · rw [Nat.zero_add]; iexact Hat
  rw [Finset.sdiff_empty]
  iexact Hpay

/-- The waits of the barrier, one or two. -/
theorem bar_wait (K : GSem nD τ sig → ℕ) (c : Dev nD) {w : BitVec 1} (hw : w = 1#1 ↔ inner c = true)
    {S : sProp 𝕄} {α : Type} {A : w = 1#1 → Prog (TpuEff nD τ sig (Elt F) Λ₀ .tc) α} {R : PUnit → Prog (TpuEff nD τ sig (Elt F) Λ₀ .tc) α} {Q : α → sProp 𝕄}
    (hA : ∀ h, A h = semWaitWord barS 1#32 >>= R)
    (hr : iprop(ctx X G K c ∗ ow c 4 ∗ bars c ∗ atPos ER (bcell c) 1 ∅ 0 ∗ S) ⊢ wp frame (wpE (defs₀ (F := F)) 𝒱₀ (c : Thread nD τ) none) Set.univ (R ⟨⟩) Q) :
    iprop(ctx X G K c ∗ ow c 4 ∗ bcr c ∗ atPos ER (bcell c) 0 ∅ 0 ∗ S)
      ⊢ wp frame (wpE (defs₀ (F := F)) 𝒱₀ (c : Thread nD τ) none) Set.univ (semWaitWord barS 3#32 >>= fun _ => dite (w = 1#1) A fun _ => R ⟨⟩) Q := by
  have e3 : (semWaitWord barS 3#32 : Prog (TpuEff nD τ sig (Elt F) Λ₀ .tc) PUnit) = .op (.semWait barS ((3 : ℕ) : ℤ)) .ret := rfl
  have e1 : (semWaitWord barS 1#32 : Prog (TpuEff nD τ sig (Elt F) Λ₀ .tc) PUnit) = .op (.semWait barS ((1 : ℕ) : ℤ)) .ret := rfl
  have hc := inOk_card c
  rw [wp_bind, e3]
  unfold bcr
  by_cases h : w = 1#1
  · have hi := hw.mp h
    rw [hi] at hc
    rw [dif_pos h, hA h, wp_bind, e1, hi]
    simp only [cond_true]
    iintro ⟨#Hctx, HO, ⟨Hc, Hc1⟩, Hat, HS⟩
    iapply (wait_part X G K c 3)
    isplitr; · iexact Hctx
    isplitl [HO]; · iexact HO
    isplitl [Hc]; · iexact Hc
    isplitl [Hat]; · iexact Hat
    iintro %T ⟨%hT, HO, Hat, Hp⟩
    iapply (wait_all X G K c T 3 1 hc.symm)
    isplitr; · iexact Hctx
    isplitl [HO]; · iexact HO
    isplitl [Hc1]; · iexact Hc1
    isplitl [Hat]; · iexact Hat
    iintro ⟨HO, Hat, Hp'⟩
    iapply hr
    isplitr; · iexact Hctx
    isplitl [HO]; · iexact HO
    isplitl [Hp Hp']
    · iapply (bars_of c)
      iapply (big_sdiff hT _)
      isplitl [Hp] <;> iassumption
    isplitl [Hat] <;> iassumption
  · have hi : inner c = false := by
      rcases hb : inner c with _ | _
      · rfl
      · exact absurd (hw.mpr hb) h
    rw [hi] at hc
    rw [dif_neg h]
    iintro ⟨#Hctx, HO, ⟨Hc, -⟩, Hat, HS⟩
    iapply (wait_all X G K c ∅ 0 3 hc.symm)
    isplitr; · iexact Hctx
    isplitl [HO]; · iexact HO
    isplitl [Hc]; · iexact Hc
    isplitl [Hat]; · iexact Hat
    iintro ⟨HO, Hat, Hp⟩
    iapply hr
    isplitr; · iexact Hctx
    isplitl [HO]; · iexact HO
    isplitl [Hp]
    · iapply (bars_of c)
      rw [Finset.sdiff_empty]
      iexact Hp
    isplitl [Hat] <;> iassumption

end Cert.Talk

end
-- ==== Proof.Part2.lean ====
/- The parts of the kernel up to the first half of the copies between neighbours. -/
module

public import proofs.«01_k».proof.Proof.Part1
public import proofs.«01_k».proof.Proof.Bar

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .bf16) (G : Dev nD → Vec F S1x1024 .bf16)

attribute [local irreducible] OW okWait ord

/-! ## From the barrier to the first state -/

/-- What a device holds of a slot or a row copy before the barrier. -/
noncomputable def prepC (c : Dev nD) (k : Cp) : sProp 𝕄 :=
  match k with
  | .inl p => iprop(slotTok p.1 p.2 c ∗ atPos ER (dcell (aS p.1) p.2 c) 0 ∅ 0 ∗ atPos ER (dcell (aR p.1) p.2 c) 0 ∅ 0 ∗ slotIn p.1 p.2 c)
  | .inr (.inl q) => iprop(rowTok q c ∗ atPos ER (dcell 4 q c) 0 ∅ 0)
  | .inr (.inr r) => comp X G c (.inr (.inr r)) 0
/-- What the barrier brings of it. -/
noncomputable def barC (c : Dev nD) (k : Cp) : sProp 𝕄 :=
  match k with
  | .inl p => slotOpen p.1 p.2 c
  | .inr (.inl q) => rowOpen q c
  | .inr (.inr _) => iprop(emp)
noncomputable def prep (c : Dev nD) : sProp 𝕄 := bigSep Finset.univ fun k => prepC X G c k

theorem prep_comp (c : Dev nD) (k : Cp) : iprop(prepC X G c k ∗ barC c k) ⊢ comp X G c k (s0 k) := by
  rw [show s0 k = 0 by revert k; decide]
  match k with
  | .inl p =>
    show iprop((slotTok p.1 p.2 c ∗ atPos ER (dcell (aS p.1) p.2 c) 0 ∅ 0 ∗ atPos ER (dcell (aR p.1) p.2 c) 0 ∅ 0 ∗ slotIn p.1 p.2 c) ∗ slotOpen p.1 p.2 c)
      ⊢ slotA p.1 p.2 c
    unfold slotA
    iintro ⟨⟨H1, H2, H3, H4⟩, H0⟩
    isplitl [H0]; · iexact H0
    isplitl [H1]; · iexact H1
    isplitl [H2]; · iexact H2
    isplitl [H3] <;> iassumption
  | .inr (.inl q) =>
    show iprop((rowTok q c ∗ atPos ER (dcell 4 q c) 0 ∅ 0) ∗ rowOpen q c) ⊢ iprop((rowOpen q c ∗ rowTok q c) ∗ atPos ER (dcell 4 q c) 0 ∅ 0)
    iintro ⟨⟨H1, H2⟩, H0⟩
    isplitl [H0 H1]
    · isplitl [H0] <;> iassumption
    iexact H2
  | .inr (.inr r) =>
    show iprop(comp X G c (.inr (.inr r)) 0 ∗ emp) ⊢ comp X G c (.inr (.inr r)) 0
    iintro ⟨H, -⟩
    iexact H

theorem big_eight (f : Fin 8 → sProp 𝕄) : iprop(f 0 ∗ f 1 ∗ f 2 ∗ f 3 ∗ f 4 ∗ f 5 ∗ f 6 ∗ f 7) = bigSep Finset.univ f := by
  rw [show (Finset.univ : Finset (Fin 8)) = {0, 1, 2, 3, 4, 5, 6, 7} by decide, bigSep_insert (by decide), bigSep_insert (by decide), bigSep_insert (by decide),
    bigSep_insert (by decide), bigSep_insert (by decide), bigSep_insert (by decide), bigSep_insert (by decide), bigSep_singleton]
  rfl
theorem big_bool (f : Bool → sProp 𝕄) : iprop(f false ∗ f true) = bigSep Finset.univ f := by
  rw [show (Finset.univ : Finset Bool) = {false, true} by decide, bigSep_insert (by decide), bigSep_singleton]
  rfl
theorem big_cp (f : Cp → sProp 𝕄) : (iprop((bigSep Finset.univ fun s => f (kC false s)) ∗ (bigSep Finset.univ fun s => f (kC true s))
    ∗ (bigSep Finset.univ fun q => f (kS q)) ∗ (bigSep Finset.univ fun r => f (.inr (.inr r)))) : sProp 𝕄) = bigSep Finset.univ f := by
  rw [bigSep_univ_sum f, bigSep_univ_sum (fun b => f (.inr b)), bigSep_univ_prod (fun a => f (.inl a)), ← big_bool]
  exact (equiv_iff.mp ⟨BI.sep_assoc, BI.sep_assoc'⟩).symm

theorem bars_comps (c : Dev nD) : iprop(bars c ∗ prep X G c) ⊢ comps X G c s0 := by
  have h : (bars c : sProp 𝕄) ⊢ bigSep Finset.univ fun k => barC c k := by
    rw [← big_cp]
    show bars c ⊢ iprop((bigSep Finset.univ fun s => slotOpen false s c) ∗ (bigSep Finset.univ fun s => slotOpen true s c)
      ∗ (bigSep Finset.univ fun q => rowOpen q c) ∗ (bigSep Finset.univ fun _ => iprop(emp)))
    rw [← big_eight, ← big_eight, ← big_eight, show (bigSep Finset.univ fun _ : Fin 8 ⊕ Fin 2 => iprop(emp) : sProp 𝕄) = iprop(emp) from bigSep_emp_const _]
    show iprop((rowOpen 0 c ∗ rowOpen 1 c ∗ rowOpen 4 c ∗ rowOpen 5 c) ∗ (rowOpen 2 c ∗ rowOpen 3 c ∗ rowOpen 6 c ∗ rowOpen 7 c) ∗ slotsOpen false c ∗ slotsOpen true c) ⊢ _
    unfold slotsOpen
    iintro ⟨⟨H0, H1, H4, H5⟩, ⟨H2, H3, H6, H7⟩, HF, HT⟩
    isplitl [HF]; · iexact HF
    isplitl [HT]; · iexact HT
    isplitl
    · isplitl [H0]; · iexact H0
      isplitl [H1]; · iexact H1
      isplitl [H2]; · iexact H2
      isplitl [H3]; · iexact H3
      isplitl [H4]; · iexact H4
      isplitl [H5]; · iexact H5
      isplitl [H6] <;> iassumption
    iempintro
  have h2 : iprop((bigSep Finset.univ fun k => prepC X G c k) ∗ bigSep Finset.univ fun k => barC c k) ⊢ comps X G c s0 :=
    (Entails.of_eq (bigSep_sep Finset.univ _ _).symm).trans (bigSep_mono fun k _ => prep_comp X G c k)
  unfold prep
  iintro ⟨HB, HP⟩
  iapply h2
  isplitl [HP]; · iexact HP
  iapply h
  iexact HB

/-! ## The parts -/

attribute [local irreducible] Scalar.cmpi Scalar.divsi Scalar.remsi Scalar.extui instDecidableEqBitVec vz

/-- What a device holds when the kernel starts. -/
noncomputable def Pre (K : GSem nD τ sig → ℕ) (c : Dev nD) : sProp 𝕄 :=
  iprop(ctx X G K c ∗ ow c 0 ∗ sg 0 c ∗ sg 1 c ∗ sg 2 c ∗ sg 3 c ∗ bcr c ∗ atPos ER (bcell c) 0 ∅ 0 ∗ xPt X c ∗ gPt G c ∗ prep X G c)
/-- What it holds after the first two signals. -/
noncomputable def Pre2 (K : GSem nD τ sig → ℕ) (c : Dev nD) : sProp 𝕄 :=
  iprop(ctx X G K c ∗ ow c 2 ∗ sg 2 c ∗ sg 3 c ∗ bcr c ∗ atPos ER (bcell c) 0 ∅ 0 ∗ xPt X c ∗ gPt G c ∗ prep X G c)

/-- The stages after the first half of an odd device's first copies. -/
noncomputable def m28 (c : Dev nD) : Cp → ℕ := bif c.val % 2 == 1 then s16 else s0
noncomputable def n28 (c : Dev nD) : ℕ := bif c.val % 2 == 1 then 16 else 4

theorem dev1_px : ∀ c : Dev nD, k0_dev1 c = (px c).val := by decide +kernel
theorem dev2_py : ∀ c : Dev nD, k0_dev2 c = (py c).val := by decide +kernel

theorem part27_ok (K : GSem nD τ sig → ℕ) (c : Dev nD) (h0 h1 h2 h3 h4) :
    Pre X G K c ⊢ wp frame (wpE (defs₀ (F := F)) 𝒱₀ (c : Thread nD τ) none) Set.univ
      (k0_part27 A0 h0 A1 h1 A2 h2 (Memref.whole cc0_scratch0) h3 (Memref.whole cc0_scratch1) h4 cc0_scratch2 cc0_scratch3 cc0_scratch4
        cc0_scratch5 cc0_scratch6 cc0_scratch7)
      fun r => iprop(⌜r.1 = c ∧ r.2.2.2.1 = vz c ∧ r.2.2.2.2.2.2.2.1 = SemArray.scalar (sig.barrier 0 rfl)⌝ ∗ Pre2 X G K c) := by
  rw [k0_part27_eq_skeleton]; unfold k0_part27_skel Pre
  refine BIBase.Entails.trans ?_ (Entails.of_eq (wp_deviceId ..).symm)
  extract_lets
  refine bar_sig X G K c 0 0 (ord_all c 0 _ fun p => by cases p <;> rfl) rfl (Fin.ext (dev1_px c)) ?_
  refine bar_sig X G K c 1 1 (ord_all c 1 _ fun p => by cases p <;> rfl) rfl (Fin.ext (dev2_py c)) ?_
  unfold Pre2
  iintro H
  iapply ret_intro
  isplitr
  · ipureintro; exact ⟨rfl, by unfold vz; rfl, rfl⟩
  iexact H

/-- Whether a device has two neighbours, as the kernel computes it. -/
theorem inner_iff : ∀ c : Dev nD, Scalar.cmpi .ne (Scalar.extui (Scalar.andi (Scalar.cmpi .sgt (vz c) 0#32) (Scalar.cmpi .slt (vz c) 3#32))) 0#32 = 1#1 ↔
    inner c = true := by decide +kernel

theorem State_branch (K : GSem nD τ sig → ℕ) (c : Dev nD) (q : Bool) {σ σ' : Cp → ℕ} {n n' : ℕ} {cond : Dev nD → BitVec 1}
    (hw : ∀ c, cond c = 1#1 ↔ (c.val % 2 == 1) = q) {α : Type} {A : cond c = 1#1 → Prog (TpuEff nD τ sig (Elt F) Λ₀ .tc) α}
    {R : PUnit → Prog (TpuEff nD τ sig (Elt F) Λ₀ .tc) α} {Q : α → sProp 𝕄}
    (hF : (c.val % 2 == 1) = !q → σ = σ' ∧ n = n')
    (hT : ∀ h, (c.val % 2 == 1) = q → (State X G K c σ' n' ⊢ wp frame (wpE (defs₀ (F := F)) 𝒱₀ (c : Thread nD τ) none) Set.univ (R ⟨⟩) Q)
      → (State X G K c σ n ⊢ wp frame (wpE (defs₀ (F := F)) 𝒱₀ (c : Thread nD τ) none) Set.univ (A h) Q))
    (hr : State X G K c σ' n' ⊢ wp frame (wpE (defs₀ (F := F)) 𝒱₀ (c : Thread nD τ) none) Set.univ (R ⟨⟩) Q) :
    State X G K c σ n ⊢ wp frame (wpE (defs₀ (F := F)) 𝒱₀ (c : Thread nD τ) none) Set.univ (dite (cond c = 1#1) A fun _ => R ⟨⟩) Q := by
  by_cases h : cond c = 1#1
  · rw [dif_pos h]
    exact hT h ((hw c).mp h) hr
  · rw [dif_neg h]
    obtain ⟨rfl, rfl⟩ := hF (by
      have := fun e => h ((hw c).mpr e)
      revert this
      cases (c.val % 2 == 1) <;> cases q <;> simp)
    exact hr

theorem State_bind (K : GSem nD τ sig → ℕ) (c : Dev nD) {σ σ' : Cp → ℕ} {n n' : ℕ} {α β : Type} {p : Prog (TpuEff nD τ sig (Elt F) Λ₀ .tc) α}
    {f : α → Prog (TpuEff nD τ sig (Elt F) Λ₀ .tc) β} {R : α → Prop} {Q : β → sProp 𝕄} (h : Runs X G K c σ n p R σ' n')
    (hf : ∀ r, R r → State X G K c σ' n' ⊢ wp frame (wpE (defs₀ (F := F)) 𝒱₀ (c : Thread nD τ) none) Set.univ (f r) Q) :
    State X G K c σ n ⊢ wp frame (wpE (defs₀ (F := F)) 𝒱₀ (c : Thread nD τ) none) Set.univ (p >>= f) Q := by
  rw [wp_bind]
  refine BIBase.Entails.trans h (wp_mono _ _ _ fun r => ?_)
  iintro ⟨%hr, H⟩
  iapply (hf r hr)
  iexact H

theorem State_to (K : GSem nD τ sig → ℕ) (c : Dev nD) {σ : Cp → ℕ} (σ' : Cp → ℕ) {n : ℕ} (h : ∀ k, σ k = σ' k) {P : sProp 𝕄}
    (hr : State X G K c σ' n ⊢ P) : State X G K c σ n ⊢ P := by
  obtain rfl : σ = σ' := funext h
  exact hr

theorem State_frame (K : GSem nD τ sig → ℕ) (c : Dev nD) {σ : Cp → ℕ} {n : ℕ} {α : Type} {p : Prog (TpuEff nD τ sig (Elt F) Λ₀ .tc) α}
    {Q : α → sProp 𝕄} {R : sProp 𝕄} (h : State X G K c σ n ⊢ wp frame (wpE (defs₀ (F := F)) 𝒱₀ (c : Thread nD τ) none) Set.univ p Q) :
    iprop(State X G K c σ n ∗ R) ⊢ wp frame (wpE (defs₀ (F := F)) 𝒱₀ (c : Thread nD τ) none) Set.univ p fun r => iprop(Q r ∗ R) := by
  iintro ⟨H, HR⟩
  iapply wp_frame_r
  isplitl [H]
  · iapply h; iexact H
  iexact HR

/-- Past the barrier. -/
theorem start_state (K : GSem nD τ sig → ℕ) (c : Dev nD) :
    iprop(ctx X G K c ∗ ow c 4 ∗ bars c ∗ atPos ER (bcell c) 1 ∅ 0 ∗ xPt X c ∗ gPt G c ∗ prep X G c)
      ⊢ iprop(State X G K c s0 4 ∗ atPos ER (bcell c) 1 ∅ 0) := by
  unfold State
  iintro ⟨C, O, B, A, Hx, Hg, P⟩
  isplitr [A]
  · isplitl [C]
    · iexact C
    isplitl [O]
    · iexact O
    isplitl [Hx]
    · iexact Hx
    isplitl [Hg]
    · iexact Hg
    iapply (bars_comps X G c)
    isplitl [B]
    · iexact B
    iexact P
  iexact A

theorem part28_ok (K : GSem nD τ sig → ℕ) (c : Dev nD) (h0 h1 h2 h3 h4 v2 v5 v12 v14 v31 c0) :
    Pre2 X G K c ⊢ wp frame (wpE (defs₀ (F := F)) 𝒱₀ (c : Thread nD τ) none) Set.univ
      (k0_part28 A0 h0 A1 h1 A2 h2 (Memref.whole cc0_scratch0) h3 (Memref.whole cc0_scratch1) h4 cc0_scratch2 cc0_scratch3 cc0_scratch4
        cc0_scratch5 cc0_scratch6 cc0_scratch7 c v2 v5 (vz c) v12 v14 (SemArray.scalar (sig.barrier 0 rfl)) v31 c0)
      fun r => iprop((⌜True⌝ ∗ State X G K c (m28 c) (n28 c)) ∗ atPos ER (bcell c) 1 ∅ 0) := by
  rw [k0_part28_eq_skeleton]; unfold k0_part28_skel Pre2
  extract_lets
  refine bar_sig_if X G K c 2 2 (ord_all c 2 _ fun p => by cases p <;> rfl) (by decide +kernel) (dv := k0_dev3) (hlt := k0_dev3_lt c) (by decide +kernel) (fun _ => rfl) ?_
  refine bar_sig_if X G K c 3 3 (ord_all c 3 _ fun p => by cases p <;> rfl) (by decide +kernel) (dv := k0_dev4) (hlt := k0_dev4_lt c) (by decide +kernel) (fun _ => rfl) ?_
  refine bar_wait X G K c (inner_iff c) (fun _ => rfl) ?_
  refine BIBase.Entails.trans (start_state X G K c) (State_frame X G K c ?_)
  refine State_branch X G K c true (σ' := m28 c) (n' := n28 c) (cond := k0_cond4) (by decide +kernel) ?_ ?_ ?_
  · intro e; unfold m28 n28; rw [e]; exact ⟨rfl, rfl⟩
  · intro hc hp k
    have e : State X G K c (m28 c) (n28 c) = State X G K c s16 16 := by
      rw [show m28 c = s16 by unfold m28; rw [hp]; rfl, show n28 c = 16 by unfold n28; rw [hp]; rfl]
    refine State_bind X G K c (part7_ok X G K c hp _ _ _ _ _ _ _ _ _ _ hc) fun _ _ => ?_
    refine step_edge X G K c false 2 rfl (ord_par c true hp 12 _ rfl) (dv := k0_dev13) (hlt := k0_dev13_lt c hc) (by decide +kernel) (by decide +kernel) rfl rfl (fun _ => rfl) (fun _ => rfl) ?_
    refine step_mid X G K c false 2 rfl true hp rfl (dv := k0_dev14) (hlt := k0_dev14_lt c hc) (by decide +kernel) (by decide +kernel) (by decide +kernel) rfl rfl rfl (fun _ _ => rfl) (fun _ => rfl) (by rw [k0_part5_eq_skeleton]; rfl) ?_
    refine step_edge X G K c true 4 rfl (ord_par c true hp 14 _ rfl) (dv := k0_dev15) (hlt := k0_dev15_lt c hc) (by decide +kernel) (by decide +kernel) rfl rfl (fun _ => rfl) (fun _ => rfl) ?_
    refine step_mid X G K c true 4 rfl true hp rfl (dv := k0_dev16) (hlt := k0_dev16_lt c hc) (by decide +kernel) (by decide +kernel) (by decide +kernel) rfl rfl rfl (fun _ _ => rfl) (fun _ => rfl) (by rw [k0_part6_eq_skeleton]; rfl) ?_
    exact State_to X G K c s16 (by decide) (BIBase.Entails.trans (Entails.of_eq e.symm) k)
  exact State_ret X G K c _ (fun _ => rfl) _ _ trivial

noncomputable def s29 : Cp → ℕ := st ![0, 0, 2, 1, 2, 1, 2, 1] ![3, 1, 2, 1, 2, 1, 0, 0] (fun _ => 0) (fun _ => 0) (fun _ => 0)

/-- The rest of the first copies, and the start of the second ones. -/
theorem part29_ok (K : GSem nD τ sig → ℕ) (c : Dev nD) (h0 h1 h2 h3 h4 v2 v5 v12 v14 v64) :
    Runs X G K c (m28 c) (n28 c) (k0_part29 A0 h0 A1 h1 A2 h2 (Memref.whole cc0_scratch0) h3 (Memref.whole cc0_scratch1) h4 cc0_scratch2 cc0_scratch3 cc0_scratch4
      cc0_scratch5 cc0_scratch6 cc0_scratch7 c v2 v5 (vz c) v12 v14 v64) (fun _ => True) s29 22 := by
  rw [k0_part29_eq_skeleton]; unfold k0_part29_skel Runs
  extract_lets
  refine State_branch X G K c false (σ' := s16) (n' := 16) (cond := k0_cond17) (by decide +kernel) ?_ ?_ ?_
  · intro e; unfold m28 n28; rw [e]; exact ⟨rfl, rfl⟩
  · intro hc hp k
    rw [show m28 c = s0 by unfold m28; rw [hp]; rfl, show n28 c = 4 by unfold n28; rw [hp]; rfl]
    refine State_bind X G K c (part14_ok X G K c hp _ _ _ _ _ _ _ _ _ _ hc) fun _ _ => ?_
    refine step_edge X G K c true 4 rfl (ord_par c false hp 12 _ rfl) (dv := k0_dev25) (hlt := k0_dev25_lt c hc) (by decide +kernel) (by decide +kernel) rfl rfl (fun _ => rfl) (fun _ => rfl) ?_
    refine step_mid X G K c true 4 rfl false hp rfl (dv := k0_dev26) (hlt := k0_dev26_lt c hc) (by decide +kernel) (by decide +kernel) (by decide +kernel) rfl rfl rfl (fun _ _ => rfl) (fun _ => rfl) (by rw [k0_part12_eq_skeleton]; rfl) ?_
    refine step_edge X G K c false 2 rfl (ord_par c false hp 14 _ rfl) (dv := k0_dev27) (hlt := k0_dev27_lt c hc) (by decide +kernel) (by decide +kernel) rfl rfl (fun _ => rfl) (fun _ => rfl) ?_
    refine step_mid X G K c false 2 rfl false hp rfl (dv := k0_dev28) (hlt := k0_dev28_lt c hc) (by decide +kernel) (by decide +kernel) (by decide +kernel) rfl rfl rfl (fun _ _ => rfl) (fun _ => rfl) (by rw [k0_part13_eq_skeleton]; rfl) ?_
    exact State_to X G K c s16 (by decide) k
  refine step_edge X G K c false 7 rfl (ord_all c 16 _ fun p => by cases p <;> rfl) (dv := k0_dev29) (hlt := k0_dev29_lt c) (by decide +kernel) (by decide +kernel) rfl rfl (fun _ => rfl) (fun _ => rfl) ?_
  refine step_edge X G K c false 5 rfl (ord_all c 17 _ fun p => by cases p <;> rfl) (dv := k0_dev30) (hlt := k0_dev30_lt c) (by decide +kernel) (by decide +kernel) rfl rfl (fun _ => rfl) (fun _ => rfl) ?_
  refine step_edge X G K c false 3 rfl (ord_all c 18 _ fun p => by cases p <;> rfl) (dv := k0_dev31) (hlt := k0_dev31_lt c) (by decide +kernel) (by decide +kernel) rfl rfl (fun _ => rfl) (fun _ => rfl) ?_
  refine step_edge X G K c true 1 rfl (ord_all c 19 _ fun p => by cases p <;> rfl) (dv := k0_dev32) (hlt := k0_dev32_lt c) (by decide +kernel) (by decide +kernel) rfl rfl (fun _ => rfl) (fun _ => rfl) ?_
  refine step_edge X G K c true 3 rfl (ord_all c 20 _ fun p => by cases p <;> rfl) (dv := k0_dev33) (hlt := k0_dev33_lt c) (by decide +kernel) (by decide +kernel) rfl rfl (fun _ => rfl) (fun _ => rfl) ?_
  refine step_edge X G K c true 5 rfl (ord_all c 21 _ fun p => by cases p <;> rfl) (dv := k0_dev34) (hlt := k0_dev34_lt c) (by decide +kernel) (by decide +kernel) rfl rfl (fun _ => rfl) (fun _ => rfl) ?_
  refine step_arr X G K c true 0 rfl (by decide) (cond := fun c => isz c 0#32) (fun c => isz_iff c 0) (by decide +kernel) rfl (fun _ => rfl) ?_
  exact State_ret X G K c s29 (by decide) _ _ trivial
end Cert.Talk

end
-- ==== Proof.Part3.lean ====
/- The parts of the kernel from the first results to the last ones. -/
module

public import proofs.«01_k».proof.Proof.Part2

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .bf16) (G : Dev nD → Vec F S1x1024 .bf16)

/-- A copy of rows of the result is sent. -/
theorem step_send (K : GSem nD τ sig → ℕ) (c : Dev nD) {σ : Cp → ℕ} {n : ℕ} (q : Fin 8) (h : σ (kS q) = 1)
    (hn : ∀ p, (ordB p)[n]? = some (.pb q)) {dv : Dev nD → ℕ} {hlt : ∀ c, dv c < nD} (hdev : ∀ c, dv c = (pd q c).val)
    {sm1 sm2 : DmaSem sig} (h1 : sm1 = ix 4 q) (h2 : sm2 = ix 5 q) {off : Dev nD → Fin 2 → ℕ} {sz : Fin 2 → ℕ} {inb}
    (hoff : ∀ c, off c = ![ro q c, 0]) (hsz : sz = ![rn q, 1024]) (hcr : RefSig.tileCredit ⟨2, sz⟩ .bf16 = uD 5 q) {hu a1 a2}
    {α : Type} {R : PUnit → Prog (TpuEff nD τ sig (Elt F) Λ₀ .tc) α} {Q : α → sProp 𝕄}
    (hr : State X G K c (upd σ (kS q) 2) (n + 1) ⊢ wp frame (wpE (defs₀ (F := F)) 𝒱₀ (c : Thread nD τ) none) Set.univ (R ⟨⟩) Q) :
    State X G K c σ n ⊢ wp frame (wpE (defs₀ (F := F)) 𝒱₀ (c : Thread nD τ) none) Set.univ
      (Prog.lift (.enqueueDma (A2.slice (Rect.unit (s := S1024x1024) (off c) sz inb) hu)
          (.remote (Dev.tc (⟨dv c, hlt c⟩ : Dev nD)) (A2.slice (Rect.unit (s := S1024x1024) (off c) sz inb) hu) (.dma sm1) rfl) (.dma sm2) a1 a2
          ⟨⟨rfl, Or.inl rfl⟩, trivial⟩) >>= R) Q :=
  State_step X G K c (kS q) 1 2 (n + 1) h
    (rowsend_ok X G K c q n (ord_all c n _ hn) (Fin.ext (hdev c)) h1 h2 (hoff c) hsz hcr) hr

/-- The wait for rows of the result. -/
theorem step_recv (K : GSem nD τ sig → ℕ) (c : Dev nD) {σ : Cp → ℕ} {n : ℕ} (q : Fin 8) (h : σ (kR q) = 0)
    (hok : ∀ c, okWait c (.dma (ix 5 q)) n = true) {sm : DmaSem sig} (hs : sm = ix 5 q)
    {sp sp' : Space} {sh sh' : Shape} {e e' : EltTy} {src : Memref sig .tc sp' sh' e'} {dst : Memref sig .tc sp sh e} {h1 h2}
    {α : Type} {R : PUnit → Prog (TpuEff nD τ sig (Elt F) Λ₀ .tc) α} {Q : α → sProp 𝕄} (hcr : dst.view.dmaCredit = uD 5 q)
    (hr : State X G K c (upd σ (kR q) 1) n ⊢ wp frame (wpE (defs₀ (F := F)) 𝒱₀ (c : Thread nD τ) none) Set.univ (R ⟨⟩) Q) :
    State X G K c σ n ⊢ wp frame (wpE (defs₀ (F := F)) 𝒱₀ (c : Thread nD τ) none) Set.univ
      (Prog.lift (.waitDma2 sm src dst h1 h2) >>= R) Q :=
  State_step X G K c (kR q) 0 1 n h (rowrecv_ok X G K c q n (hok c) hs hcr) hr

/-- The wait for rows of the result to have left. -/
theorem step_sent (K : GSem nD τ sig → ℕ) (c : Dev nD) {σ : Cp → ℕ} {n : ℕ} (q : Fin 8) (h : σ (kS q) = 2)
    (hok : ∀ c, okWait c (.dma (ix 4 q)) n = true) {sm : DmaSem sig} (hs : sm = ix 4 q)
    {sp sp' : Space} {sh sh' : Shape} {e e' : EltTy} {src : Memref sig .tc sp' sh' e'} {dst : Memref sig .tc sp sh e} {h1 h2}
    {α : Type} {R : PUnit → Prog (TpuEff nD τ sig (Elt F) Λ₀ .tc) α} {Q : α → sProp 𝕄} (hcr : dst.view.dmaCredit = uD 4 q)
    (hr : State X G K c (upd σ (kS q) 3) n ⊢ wp frame (wpE (defs₀ (F := F)) 𝒱₀ (c : Thread nD τ) none) Set.univ (R ⟨⟩) Q) :
    State X G K c σ n ⊢ wp frame (wpE (defs₀ (F := F)) 𝒱₀ (c : Thread nD τ) none) Set.univ
      (Prog.lift (.waitDma2 sm src dst h1 h2) >>= R) Q :=
  State_step X G K c (kS q) 2 3 n h (rowback_ok X G K c q n (hok c) hs hcr) hr

/-- The rows a device computes are split between its two partners. -/
theorem step_own (K : GSem nD τ sig → ℕ) (c : Dev nD) {σ : Cp → ℕ} {n : ℕ} (h : Fin 2) (q q' : Fin 8) (hq : q.val = h.val) (hq' : q'.val = h.val + 2)
    (h0 : σ (kO h) = 4) (h1 : σ (kS q) = 0) (h2 : σ (kS q') = 0) {R : sProp 𝕄}
    (hr : State X G K c (upd (upd (upd σ (kS q') 1) (kS q) 1) (kO h) 5) n ⊢ R) : State X G K c σ n ⊢ R := by
  obtain rfl : q = ⟨h.val, Nat.lt_of_lt_of_le h.isLt (by decide)⟩ := Fin.ext hq
  obtain rfl : q' = ⟨h.val + 2, Nat.lt_of_lt_of_le (Nat.add_lt_add_right h.isLt 2) (by decide)⟩ := Fin.ext hq'
  exact State_move3 X G K c (kO h) _ _ 4 5 0 1 0 1 (by rintro ⟨⟩) (by rintro ⟨⟩)
    (by intro e; injection e with e; injection e with e; have := congrArg Fin.val e; simp at this) h0 h1 h2 (own_move X G c h) hr

/-- Rows that have come are passed on. -/
theorem step_fw (K : GSem nD τ sig → ℕ) (c : Dev nD) {σ : Cp → ℕ} {n : ℕ} (q q' : Fin 8) (hq : q.val < 4) (hq' : q' = fw q)
    (h0 : σ (kR q) = 1) (h1 : σ (kS q') = 0) {R : sProp 𝕄}
    (hr : State X G K c (upd (upd σ (kS q') 1) (kR q) 2) n ⊢ R) : State X G K c σ n ⊢ R := by
  subst hq'
  exact State_move2 X G K c (kR q) (kS (fw q)) 1 2 0 1 (by rintro ⟨⟩) h0 h1 (fw_move X G c q hq) hr

noncomputable def s30 : Cp → ℕ := st ![0, 0, 3, 1, 3, 1, 3, 1] ![3, 1, 3, 1, 3, 1, 0, 0] (fun _ => 0) (fun _ => 0) ![4, 0]
noncomputable def s31 : Cp → ℕ := st ![0, 0, 3, 1, 3, 1, 3, 1] ![3, 1, 3, 1, 3, 1, 0, 0] ![2, 0, 2, 0, 0, 0, 0, 0] (fun _ => 0) ![5, 0]

noncomputable def s32 : Cp → ℕ := st ![0, 0, 3, 2, 3, 2, 3, 2] ![3, 2, 3, 2, 3, 2, 0, 0] ![2, 0, 2, 0, 0, 0, 0, 0] ![1, 0, 0, 0, 0, 0, 0, 0] ![5, 0]
noncomputable def s32a : Cp → ℕ := st ![0, 0, 3, 2, 3, 2, 3, 2] ![3, 2, 3, 2, 3, 2, 0, 0] ![2, 0, 2, 0, 0, 0, 0, 0] (fun _ => 0) ![5, 0]
noncomputable def m32 (c : Dev nD) : Cp → ℕ := bif c.val % 2 == 1 then s32a else s31
noncomputable def n32 (c : Dev nD) : ℕ := bif c.val % 2 == 1 then 30 else 24
noncomputable def s33 : Cp → ℕ := st ![0, 0, 3, 2, 3, 2, 3, 2] ![3, 2, 3, 2, 3, 2, 0, 0] ![2, 0, 2, 0, 0, 0, 2, 0] ![2, 0, 1, 0, 0, 0, 0, 0] ![5, 0]
noncomputable def s34 : Cp → ℕ := st ![0, 0, 3, 3, 3, 3, 3, 2] ![3, 3, 3, 3, 3, 3, 0, 0] ![2, 0, 2, 0, 2, 0, 2, 0] ![2, 0, 2, 0, 0, 0, 0, 0] ![5, 2]
noncomputable def s35 : Cp → ℕ := st ![0, 0, 3, 3, 3, 3, 3, 3] ![3, 3, 3, 3, 3, 3, 0, 0] ![2, 2, 2, 1, 2, 0, 2, 0] ![2, 0, 2, 0, 0, 0, 0, 0] ![5, 5]

attribute [local irreducible] Scalar.cmpi Scalar.divsi Scalar.remsi Scalar.extui instDecidableEqBitVec vz

theorem part30_ok (K : GSem nD τ sig → ℕ) (c : Dev nD) (h0 h1 h2 h3 h4 v2 v5 v10 v12 v14 v95 c0) :
    Runs X G K c s29 22 (k0_part30 A0 h0 A1 h1 A2 h2 (Memref.whole cc0_scratch0) h3 (Memref.whole cc0_scratch1) h4 cc0_scratch2 cc0_scratch3 cc0_scratch4
      cc0_scratch5 cc0_scratch6 cc0_scratch7 c v2 v5 (vz c) v10 v12 v14 v95 c0) (fun _ => True) s30 22 := by
  rw [k0_part30_eq_skeleton]; unfold k0_part30_skel Runs
  extract_lets
  refine step_make2 X G K c true 0 0 rfl rfl rfl (by decide +kernel) (fun hz => (fv0 X G 0 c hz).symm) (k0_off1_eq c) (fun _ => rfl) ?_
  refine step_arr X G K c false 2 rfl (by decide) (cond := fun c => isz c 1#32) (fun c => isz_iff c 1) (by decide +kernel) rfl (fun _ => rfl) ?_
  refine step_arr X G K c true 2 rfl (by decide) (cond := fun c => isz c 1#32) (fun c => isz_iff c 1) (by decide +kernel) rfl (fun _ => rfl) ?_
  refine step_make3 X G K c 1 0 rfl rfl rfl (by decide) (by decide +kernel) (fun hz => (fv1 X G 0 c hz).symm) (k0_off2_eq c) (fun _ => rfl) ?_
  refine step_arr X G K c false 4 rfl (by decide) (cond := fun c => isz c 2#32) (fun c => isz_iff c 2) (by decide +kernel) rfl (fun _ => rfl) ?_
  refine step_arr X G K c true 4 rfl (by decide) (cond := fun c => isz c 2#32) (fun c => isz_iff c 2) (by decide +kernel) rfl (fun _ => rfl) ?_
  refine step_make3 X G K c 2 0 rfl rfl rfl (by decide) (by decide +kernel) (fun hz => (fv2 X G 0 c hz).symm) (k0_off3_eq c) (fun _ => rfl) ?_
  refine step_arr X G K c false 6 rfl (by decide) (cond := fun c => isz c 3#32) (fun c => isz_iff c 3) (by decide +kernel) rfl (fun _ => rfl) ?_
  refine step_make2 X G K c false 3 0 rfl rfl rfl (by decide +kernel) (fun hz => (fv3 X G 0 c hz).symm) (k0_off4_eq c) (fun _ => rfl) ?_
  exact State_ret X G K c s30 (by decide) _ _ trivial

theorem part31_ok (K : GSem nD τ sig → ℕ) (c : Dev nD) (h0 h1 h2 h3 h4 v2 v5 v10 v124) :
    Runs X G K c s30 22 (k0_part31 A0 h0 A1 h1 A2 h2 (Memref.whole cc0_scratch0) h3 (Memref.whole cc0_scratch1) h4 cc0_scratch2 cc0_scratch3 cc0_scratch4
      cc0_scratch5 cc0_scratch6 cc0_scratch7 c v2 v5 (vz c) v10 v124) (fun _ => True) s31 24 := by
  rw [k0_part31_eq_skeleton]; unfold k0_part31_skel Runs
  extract_lets
  refine step_own X G K c 0 0 2 rfl rfl rfl rfl rfl ?_
  refine step_send X G K c 0 rfl (fun p => by cases p <;> rfl) (dv := k0_dev35) (hlt := k0_dev35_lt) (by decide +kernel) rfl rfl (off := fun c => k0_off5 c 0#32) (fun c => k0_off5_eq c 0) rfl rfl ?_
  refine step_send X G K c 2 rfl (fun p => by cases p <;> rfl) (dv := k0_dev36) (hlt := k0_dev36_lt) (by decide +kernel) rfl rfl (off := fun c => k0_off5 c 0#32) (fun c => k0_off5_eq c 0) rfl rfl ?_
  exact State_ret X G K c s31 (by decide) _ _ trivial

theorem part32_ok (K : GSem nD τ sig → ℕ) (c : Dev nD) (h0 h1 h2 h3 h4 v2 v5 v10 v12 v14 v87 v160) :
    Runs X G K c s31 24 (k0_part32 A0 h0 A1 h1 A2 h2 (Memref.whole cc0_scratch0) h3 (Memref.whole cc0_scratch1) h4 cc0_scratch2 cc0_scratch3 cc0_scratch4
      cc0_scratch5 cc0_scratch6 cc0_scratch7 c v2 v5 (vz c) v10 v12 v14 v87 v160) (fun _ => True) s32 30 := by
  rw [k0_part32_eq_skeleton]; unfold k0_part32_skel Runs
  extract_lets
  refine State_branch X G K c true (σ' := m32 c) (n' := n32 c) (cond := k0_cond46) (by decide +kernel) ?_ ?_ ?_
  · intro e; unfold m32 n32; rw [e]; exact ⟨rfl, rfl⟩
  · intro hc hp k
    have e : State X G K c (m32 c) (n32 c) = State X G K c s32a 30 := by
      rw [show m32 c = s32a by unfold m32; rw [hp]; rfl, show n32 c = 30 by unfold n32; rw [hp]; rfl]
    refine step_mid X G K c false 7 rfl true hp rfl (dv := k0_dev37) (hlt := k0_dev37_lt c hc) (by decide +kernel) (by decide +kernel) (by decide +kernel) rfl rfl rfl (fun _ _ => rfl) (fun _ => rfl) (by rw [k0_part15_eq_skeleton]; rfl) ?_
    refine step_mid X G K c true 1 rfl true hp rfl (dv := k0_dev38) (hlt := k0_dev38_lt c hc) (by decide +kernel) (by decide +kernel) (by decide +kernel) rfl rfl rfl (fun _ _ => rfl) (fun _ => rfl) (by rw [k0_part16_eq_skeleton]; rfl) ?_
    refine step_mid X G K c false 5 rfl true hp rfl (dv := k0_dev39) (hlt := k0_dev39_lt c hc) (by decide +kernel) (by decide +kernel) (by decide +kernel) rfl rfl rfl (fun _ _ => rfl) (fun _ => rfl) (by rw [k0_part17_eq_skeleton]; rfl) ?_
    refine step_mid X G K c true 3 rfl true hp rfl (dv := k0_dev40) (hlt := k0_dev40_lt c hc) (by decide +kernel) (by decide +kernel) (by decide +kernel) rfl rfl rfl (fun _ _ => rfl) (fun _ => rfl) (by rw [k0_part18_eq_skeleton]; rfl) ?_
    refine step_mid X G K c false 3 rfl true hp rfl (dv := k0_dev41) (hlt := k0_dev41_lt c hc) (by decide +kernel) (by decide +kernel) (by decide +kernel) rfl rfl rfl (fun _ _ => rfl) (fun _ => rfl) (by rw [k0_part19_eq_skeleton]; rfl) ?_
    refine step_mid X G K c true 5 rfl true hp rfl (dv := k0_dev42) (hlt := k0_dev42_lt c hc) (by decide +kernel) (by decide +kernel) (by decide +kernel) rfl rfl rfl (fun _ _ => rfl) (fun _ => rfl) (by rw [k0_part20_eq_skeleton]; rfl) ?_
    exact State_to X G K c s32a (by decide) (BIBase.Entails.trans (Entails.of_eq e.symm) k)
  refine State_branch X G K c false (σ' := s32a) (n' := 30) (cond := k0_cond53) (by decide +kernel) ?_ ?_ ?_
  · intro e; unfold m32 n32; rw [e]; exact ⟨rfl, rfl⟩
  · intro hc hp k
    rw [show m32 c = s31 by unfold m32; rw [hp]; rfl, show n32 c = 24 by unfold n32; rw [hp]; rfl]
    refine step_mid X G K c true 1 rfl false hp rfl (dv := k0_dev43) (hlt := k0_dev43_lt c hc) (by decide +kernel) (by decide +kernel) (by decide +kernel) rfl rfl rfl (fun _ _ => rfl) (fun _ => rfl) (by rw [k0_part21_eq_skeleton]; rfl) ?_
    refine step_mid X G K c false 7 rfl false hp rfl (dv := k0_dev44) (hlt := k0_dev44_lt c hc) (by decide +kernel) (by decide +kernel) (by decide +kernel) rfl rfl rfl (fun _ _ => rfl) (fun _ => rfl) (by rw [k0_part22_eq_skeleton]; rfl) ?_
    refine step_mid X G K c true 3 rfl false hp rfl (dv := k0_dev45) (hlt := k0_dev45_lt c hc) (by decide +kernel) (by decide +kernel) (by decide +kernel) rfl rfl rfl (fun _ _ => rfl) (fun _ => rfl) (by rw [k0_part23_eq_skeleton]; rfl) ?_
    refine step_mid X G K c false 5 rfl false hp rfl (dv := k0_dev46) (hlt := k0_dev46_lt c hc) (by decide +kernel) (by decide +kernel) (by decide +kernel) rfl rfl rfl (fun _ _ => rfl) (fun _ => rfl) (by rw [k0_part24_eq_skeleton]; rfl) ?_
    refine step_mid X G K c true 5 rfl false hp rfl (dv := k0_dev47) (hlt := k0_dev47_lt c hc) (by decide +kernel) (by decide +kernel) (by decide +kernel) rfl rfl rfl (fun _ _ => rfl) (fun _ => rfl) (by rw [k0_part25_eq_skeleton]; rfl) ?_
    refine step_mid X G K c false 3 rfl false hp rfl (dv := k0_dev48) (hlt := k0_dev48_lt c hc) (by decide +kernel) (by decide +kernel) (by decide +kernel) rfl rfl rfl (fun _ _ => rfl) (fun _ => rfl) (by rw [k0_part26_eq_skeleton]; rfl) ?_
    exact State_to X G K c s32a (by decide) k
  refine step_recv X G K c 0 rfl (by decide +kernel) rfl rfl ?_
  exact State_ret X G K c s32 (by decide) _ _ trivial

theorem part33_ok (K : GSem nD τ sig → ℕ) (c : Dev nD) (h0 h1 h2 h3 h4 v2 v5 v10 v90 c1) :
    Runs X G K c s32 30 (k0_part33 A0 h0 A1 h1 A2 h2 (Memref.whole cc0_scratch0) h3 (Memref.whole cc0_scratch1) h4 cc0_scratch2 cc0_scratch3 cc0_scratch4
      cc0_scratch5 cc0_scratch6 cc0_scratch7 c v2 v5 (vz c) v10 v90 c1) (fun _ => True) s33 31 := by
  rw [k0_part33_eq_skeleton]; unfold k0_part33_skel Runs
  extract_lets
  refine step_fw X G K c 0 6 (by decide) (by decide) rfl rfl ?_
  refine step_send X G K c 6 rfl (fun p => by cases p <;> rfl) (dv := k0_dev49) (hlt := k0_dev49_lt) (by decide +kernel) rfl rfl (off := fun c => k0_off6 c 0#32) (fun c => k0_off6_eq c 0) rfl rfl ?_
  refine step_recv X G K c 2 rfl (by decide +kernel) rfl rfl ?_
  exact State_ret X G K c s33 (by decide) _ _ trivial

theorem part34_ok (K : GSem nD τ sig → ℕ) (c : Dev nD) (h0 h1 h2 h3 h4 v2 v5 v10 v12 v14 v223 c4) :
    Runs X G K c s33 31 (k0_part34 A0 h0 A1 h1 A2 h2 (Memref.whole cc0_scratch0) h3 (Memref.whole cc0_scratch1) h4 cc0_scratch2 cc0_scratch3 cc0_scratch4
      cc0_scratch5 cc0_scratch6 cc0_scratch7 c v2 v5 (vz c) v10 v12 v14 v223 c4) (fun _ => True) s34 32 := by
  rw [k0_part34_eq_skeleton]; unfold k0_part34_skel Runs
  extract_lets
  refine step_fw X G K c 2 4 (by decide) (by decide) rfl rfl ?_
  refine step_send X G K c 4 rfl (fun p => by cases p <;> rfl) (dv := k0_dev50) (hlt := k0_dev50_lt) (by decide +kernel) rfl rfl (off := fun c => k0_off7 c 0#32) (fun c => k0_off7_eq c 0) rfl rfl ?_
  refine step_arr X G K c true 1 rfl (by decide) (cond := fun c => isz c 0#32) (fun c => isz_iff c 0) (by decide +kernel) rfl (fun _ => rfl) ?_
  refine step_make2 X G K c true 0 1 rfl rfl rfl (by decide +kernel) (fun hz => (fv0 X G 1 c hz).symm) (k0_off8_eq c) (fun _ => rfl) ?_
  refine step_arr X G K c false 3 rfl (by decide) (cond := fun c => isz c 1#32) (fun c => isz_iff c 1) (by decide +kernel) rfl (fun _ => rfl) ?_
  refine step_arr X G K c true 3 rfl (by decide) (cond := fun c => isz c 1#32) (fun c => isz_iff c 1) (by decide +kernel) rfl (fun _ => rfl) ?_
  refine step_make3 X G K c 1 1 rfl rfl rfl (by decide) (by decide +kernel) (fun hz => (fv1 X G 1 c hz).symm) (k0_off9_eq c) (fun _ => rfl) ?_
  refine step_arr X G K c false 5 rfl (by decide) (cond := fun c => isz c 2#32) (fun c => isz_iff c 2) (by decide +kernel) rfl (fun _ => rfl) ?_
  refine step_arr X G K c true 5 rfl (by decide) (cond := fun c => isz c 2#32) (fun c => isz_iff c 2) (by decide +kernel) rfl (fun _ => rfl) ?_
  exact State_ret X G K c s34 (by decide) _ _ trivial

theorem part35_ok (K : GSem nD τ sig → ℕ) (c : Dev nD) (h0 h1 h2 h3 h4 v2 v5 v10 v12 v256 c0) :
    Runs X G K c s34 32 (k0_part35 A0 h0 A1 h1 A2 h2 (Memref.whole cc0_scratch0) h3 (Memref.whole cc0_scratch1) h4 cc0_scratch2 cc0_scratch3 cc0_scratch4
      cc0_scratch5 cc0_scratch6 cc0_scratch7 c v2 v5 (vz c) v10 v12 v256 c0) (fun _ => True) s35 33 := by
  rw [k0_part35_eq_skeleton]; unfold k0_part35_skel Runs
  extract_lets
  refine step_make3 X G K c 2 1 rfl rfl rfl (by decide) (by decide +kernel) (fun hz => (fv2 X G 1 c hz).symm) (k0_off10_eq c) (fun _ => rfl) ?_
  refine step_arr X G K c false 7 rfl (by decide) (cond := fun c => isz c 3#32) (fun c => isz_iff c 3) (by decide +kernel) rfl (fun _ => rfl) ?_
  refine step_make2 X G K c false 3 1 rfl rfl rfl (by decide +kernel) (fun hz => (fv3 X G 1 c hz).symm) (k0_off11_eq c) (fun _ => rfl) ?_
  refine step_own X G K c 1 1 3 rfl rfl rfl rfl rfl ?_
  refine step_send X G K c 1 rfl (fun p => by cases p <;> rfl) (dv := k0_dev51) (hlt := k0_dev51_lt) (by decide +kernel) rfl rfl (off := fun c => k0_off5 c 128#32) (fun c => k0_off5_eq c 1) rfl rfl ?_
  exact State_ret X G K c s35 (by decide) _ _ trivial

end Cert.Talk

end
-- ==== Proof.Part4.lean ====
/- The last parts of the kernel, and the whole of it. -/
module

public import proofs.«01_k».proof.Proof.Part3

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .bf16) (G : Dev nD → Vec F S1x1024 .bf16)

noncomputable def s36 : Cp → ℕ := st ![0, 0, 3, 3, 3, 3, 3, 3] ![3, 3, 3, 3, 3, 3, 0, 0] ![2, 2, 2, 2, 2, 0, 2, 0] ![2, 0, 2, 0, 1, 0, 1, 0] ![5, 5]
noncomputable def s37 : Cp → ℕ := st ![0, 0, 3, 3, 3, 3, 3, 3] ![3, 3, 3, 3, 3, 3, 0, 0] ![2, 2, 2, 2, 2, 0, 2, 2] ![2, 2, 2, 0, 1, 0, 1, 0] ![5, 5]
noncomputable def s38 : Cp → ℕ := st ![0, 0, 3, 3, 3, 3, 3, 3] ![3, 3, 3, 3, 3, 3, 0, 0] ![2, 2, 2, 2, 2, 2, 2, 2] ![2, 2, 2, 2, 1, 0, 1, 0] ![5, 5]
noncomputable def s39 : Cp → ℕ := st ![0, 0, 3, 3, 3, 3, 3, 3] ![3, 3, 3, 3, 3, 3, 0, 0] ![3, 2, 2, 2, 2, 2, 2, 2] ![2, 2, 2, 2, 1, 1, 1, 1] ![5, 5]
noncomputable def s40 : Cp → ℕ := st ![0, 0, 4, 3, 4, 3, 3, 3] ![3, 3, 3, 3, 3, 3, 0, 0] ![3, 2, 3, 2, 3, 2, 3, 2] ![2, 2, 2, 2, 1, 1, 1, 1] ![5, 5]
noncomputable def s41 : Cp → ℕ := st ![0, 0, 4, 3, 4, 3, 4, 3] ![4, 3, 4, 3, 4, 3, 0, 0] ![3, 3, 3, 3, 3, 2, 3, 2] ![2, 2, 2, 2, 1, 1, 1, 1] ![5, 5]
noncomputable def s42 : Cp → ℕ := st ![0, 0, 4, 4, 4, 4, 4, 4] ![4, 4, 4, 4, 4, 3, 0, 0] ![3, 3, 3, 3, 3, 3, 3, 3] ![2, 2, 2, 2, 1, 1, 1, 1] ![5, 5]
noncomputable def sE : Cp → ℕ := st ![0, 0, 4, 4, 4, 4, 4, 4] ![4, 4, 4, 4, 4, 4, 0, 0] ![3, 3, 3, 3, 3, 3, 3, 3] ![2, 2, 2, 2, 1, 1, 1, 1] ![5, 5]

attribute [local irreducible] Scalar.cmpi Scalar.divsi Scalar.remsi Scalar.extui instDecidableEqBitVec vz

theorem part36_ok (K : GSem nD τ sig → ℕ) (c : Dev nD) (h0 h1 h2 h3 h4 v2 v5 v87 v90) :
    Runs X G K c s35 33 (k0_part36 A0 h0 A1 h1 A2 h2 (Memref.whole cc0_scratch0) h3 (Memref.whole cc0_scratch1) h4 cc0_scratch2 cc0_scratch3 cc0_scratch4
      cc0_scratch5 cc0_scratch6 cc0_scratch7 c v2 v5 (vz c) v87 v90) (fun _ => True) s36 34 := by
  rw [k0_part36_eq_skeleton]; unfold k0_part36_skel Runs
  extract_lets
  refine step_send X G K c 3 rfl (fun p => by cases p <;> rfl) (dv := k0_dev52) (hlt := k0_dev52_lt) (by decide +kernel) rfl rfl (off := fun c => k0_off5 c 128#32) (fun c => k0_off5_eq c 1) rfl rfl ?_
  refine step_recv X G K c 4 rfl (by decide +kernel) rfl rfl ?_
  refine step_recv X G K c 6 rfl (by decide +kernel) rfl rfl ?_
  exact State_ret X G K c s36 (by decide) _ _ trivial

theorem part37_ok (K : GSem nD τ sig → ℕ) (c : Dev nD) (h0 h1 h2 h3 h4 v2 v5 v10 v87) :
    Runs X G K c s36 34 (k0_part37 A0 h0 A1 h1 A2 h2 (Memref.whole cc0_scratch0) h3 (Memref.whole cc0_scratch1) h4 cc0_scratch2 cc0_scratch3 cc0_scratch4
      cc0_scratch5 cc0_scratch6 cc0_scratch7 c v2 v5 (vz c) v10 v87) (fun _ => True) s37 35 := by
  rw [k0_part37_eq_skeleton]; unfold k0_part37_skel Runs
  extract_lets
  refine step_recv X G K c 1 rfl (by decide +kernel) rfl rfl ?_
  refine step_fw X G K c 1 7 (by decide) (by decide) rfl rfl ?_
  refine step_send X G K c 7 rfl (fun p => by cases p <;> rfl) (dv := k0_dev53) (hlt := k0_dev53_lt) (by decide +kernel) rfl rfl (off := fun c => k0_off6 c 128#32) (fun c => k0_off6_eq c 1) rfl rfl ?_
  exact State_ret X G K c s37 (by decide) _ _ trivial

theorem part38_ok (K : GSem nD τ sig → ℕ) (c : Dev nD) (h0 h1 h2 h3 h4 v2 v5 v90 v352) :
    Runs X G K c s37 35 (k0_part38 A0 h0 A1 h1 A2 h2 (Memref.whole cc0_scratch0) h3 (Memref.whole cc0_scratch1) h4 cc0_scratch2 cc0_scratch3 cc0_scratch4
      cc0_scratch5 cc0_scratch6 cc0_scratch7 c v2 v5 (vz c) v90 v352) (fun _ => True) s38 36 := by
  rw [k0_part38_eq_skeleton]; unfold k0_part38_skel Runs
  extract_lets
  refine step_recv X G K c 3 rfl (by decide +kernel) rfl rfl ?_
  refine step_fw X G K c 3 5 (by decide) (by decide) rfl rfl ?_
  refine step_send X G K c 5 rfl (fun p => by cases p <;> rfl) (dv := k0_dev54) (hlt := k0_dev54_lt) (by decide +kernel) rfl rfl (off := fun c => k0_off7 c 128#32) (fun c => k0_off7_eq c 1) rfl rfl ?_
  exact State_ret X G K c s38 (by decide) _ _ trivial

theorem part39_ok (K : GSem nD τ sig → ℕ) (c : Dev nD) (h0 h1 h2 h3 h4 v2 v5 v10 v87 v382 v383) :
    Runs X G K c s38 36 (k0_part39 A0 h0 A1 h1 A2 h2 (Memref.whole cc0_scratch0) h3 (Memref.whole cc0_scratch1) h4 cc0_scratch2 cc0_scratch3 cc0_scratch4
      cc0_scratch5 cc0_scratch6 cc0_scratch7 c v2 v5 (vz c) v10 v87 v382 v383) (fun _ => True) s39 36 := by
  rw [k0_part39_eq_skeleton]; unfold k0_part39_skel Runs
  extract_lets
  refine step_recv X G K c 5 rfl (by decide +kernel) rfl rfl ?_
  refine step_recv X G K c 7 rfl (by decide +kernel) rfl rfl ?_
  refine step_sent X G K c 0 rfl (by decide +kernel) rfl rfl ?_
  exact State_ret X G K c s39 (by decide) _ _ trivial

theorem part40_ok (K : GSem nD τ sig → ℕ) (c : Dev nD) (h0 h1 h2 h3 h4 v2 v5 v87 v90) :
    Runs X G K c s39 36 (k0_part40 A0 h0 A1 h1 A2 h2 (Memref.whole cc0_scratch0) h3 (Memref.whole cc0_scratch1) h4 cc0_scratch2 cc0_scratch3 cc0_scratch4
      cc0_scratch5 cc0_scratch6 cc0_scratch7 c v2 v5 (vz c) v87 v90) (fun r => r.1 = Scalar.extui (Scalar.cmpi .slt (vz c) 3#32) ∧ r.2 = 0#32) s40 36 := by
  rw [k0_part40_eq_skeleton]; unfold k0_part40_skel Runs
  extract_lets
  refine step_sent X G K c 2 rfl (by decide +kernel) rfl rfl ?_
  refine step_sent X G K c 4 rfl (by decide +kernel) rfl rfl ?_
  refine step_sent X G K c 6 rfl (by decide +kernel) rfl rfl ?_
  refine step_back X G K c false 2 rfl (cond := fun c => lsz c 1#32) (by decide +kernel) (by decide +kernel) rfl (fun _ => rfl) ?_
  refine step_back X G K c false 4 rfl (cond := fun c => lsz c 2#32) (by decide +kernel) (by decide +kernel) rfl (fun _ => rfl) ?_
  exact State_ret X G K c s40 (by decide) _ _ ⟨rfl, rfl⟩

theorem part41_ok (K : GSem nD τ sig → ℕ) (c : Dev nD) (h0 h1 h2 h3 h4 v2 v5 v10 v90) :
    Runs X G K c s40 36 (k0_part41 A0 h0 A1 h1 A2 h2 (Memref.whole cc0_scratch0) h3 (Memref.whole cc0_scratch1) h4 cc0_scratch2 cc0_scratch3 cc0_scratch4
      cc0_scratch5 cc0_scratch6 cc0_scratch7 c v2 v5 (vz c) v10 v90 (Scalar.extui (Scalar.cmpi .slt (vz c) 3#32)) 0#32) (fun _ => True) s41 36 := by
  rw [k0_part41_eq_skeleton]; unfold k0_part41_skel Runs
  extract_lets
  refine step_back X G K c false 6 rfl (cond := fun c => lsz c 3#32) (by decide +kernel) (by decide +kernel) rfl (fun _ => rfl) ?_
  refine step_back X G K c true 0 rfl (cond := fun c => gsz c 0#32) (by decide +kernel) (by decide +kernel) rfl (fun _ => rfl) ?_
  refine step_back X G K c true 2 rfl (cond := fun c => gsz c 1#32) (by decide +kernel) (by decide +kernel) rfl (fun _ => rfl) ?_
  refine step_back X G K c true 4 rfl (cond := fun c => gsz c 2#32) (by decide +kernel) (by decide +kernel) rfl (fun _ => rfl) ?_
  refine step_sent X G K c 1 rfl (by decide +kernel) rfl rfl ?_
  refine step_sent X G K c 3 rfl (by decide +kernel) rfl rfl ?_
  exact State_ret X G K c s41 (by decide) _ _ trivial

theorem part42_ok (K : GSem nD τ sig → ℕ) (c : Dev nD) (h0 h1 h2 h3 h4 v5 v87) :
    Runs X G K c s41 36 (k0_part42 A0 h0 A1 h1 A2 h2 (Memref.whole cc0_scratch0) h3 (Memref.whole cc0_scratch1) h4 cc0_scratch2 cc0_scratch3 cc0_scratch4
      cc0_scratch5 cc0_scratch6 cc0_scratch7 c v5 (vz c) v87) (fun r => r.1 = Scalar.extui (Scalar.cmpi .sgt (vz c) 2#32) ∧ r.2 = 0#32) s42 36 := by
  rw [k0_part42_eq_skeleton]; unfold k0_part42_skel Runs
  extract_lets
  refine step_sent X G K c 5 rfl (by decide +kernel) rfl rfl ?_
  refine step_sent X G K c 7 rfl (by decide +kernel) rfl rfl ?_
  refine step_back X G K c false 3 rfl (cond := fun c => lsz c 1#32) (by decide +kernel) (by decide +kernel) rfl (fun _ => rfl) ?_
  refine step_back X G K c false 5 rfl (cond := fun c => lsz c 2#32) (by decide +kernel) (by decide +kernel) rfl (fun _ => rfl) ?_
  refine step_back X G K c false 7 rfl (cond := fun c => lsz c 3#32) (by decide +kernel) (by decide +kernel) rfl (fun _ => rfl) ?_
  refine step_back X G K c true 1 rfl (cond := fun c => gsz c 0#32) (by decide +kernel) (by decide +kernel) rfl (fun _ => rfl) ?_
  refine step_back X G K c true 3 rfl (cond := fun c => gsz c 1#32) (by decide +kernel) (by decide +kernel) rfl (fun _ => rfl) ?_
  exact State_ret X G K c s42 (by decide) _ _ ⟨rfl, rfl⟩

theorem pure_pre {φ : Prop} {P Q : sProp 𝕄} (h : φ → P ⊢ Q) : iprop(⌜φ⌝ ∗ P) ⊢ Q := by
  iintro ⟨%hf, H⟩
  iapply (h hf)
  iexact H
theorem pure_pre' {φ : Prop} {P S Q : sProp 𝕄} (h : iprop(P ∗ S) ⊢ Q) : iprop((⌜φ⌝ ∗ P) ∗ S) ⊢ Q := by
  iintro ⟨⟨-, H⟩, HS⟩
  iapply h
  isplitl [H]
  · iexact H
  iexact HS

/-- The whole kernel on one device. -/
theorem body_ok (K : GSem nD τ sig → ℕ) (c : Dev nD) (h0 h1 h2 h3 h4) :
    Pre X G K c ⊢ wp frame (wpE (defs₀ (F := F)) 𝒱₀ (c : Thread nD τ) none) Set.univ
      (cc0_body A0 h0 A1 h1 A2 h2 (Memref.whole cc0_scratch0) h3 (Memref.whole cc0_scratch1) h4 cc0_scratch2 cc0_scratch3 cc0_scratch4
        cc0_scratch5 cc0_scratch6 cc0_scratch7)
      fun _ => iprop((⌜True⌝ ∗ State X G K c sE 36) ∗ atPos ER (bcell c) 1 ∅ 0) := by
  rw [cc0_body_eq_skeleton]; unfold cc0_body_skel
  rw [wp_bind]
  refine BIBase.Entails.trans (part27_ok X G K c h0 h1 h2 h3 h4) (wp_mono _ _ _ fun r => pure_pre fun h => ?_)
  obtain ⟨d, v2, v5, v8, v10, v12, v14, v15, v31, c0⟩ := r
  obtain ⟨e, h8, h15⟩ := h
  dsimp only at e h8 h15
  subst e h8 h15
  dsimp only
  rw [wp_bind]
  refine BIBase.Entails.trans (part28_ok X G K d h0 h1 h2 h3 h4 _ _ _ _ _ _) (wp_mono _ _ _ fun v64 => pure_pre' (State_frame X G K d ?_))
  refine State_bind X G K d (part29_ok X G K d _ _ _ _ _ _ _ _ _ _) fun r _ => ?_
  refine State_bind X G K d (part30_ok X G K d _ _ _ _ _ _ _ _ _ _ _ _) fun r _ => ?_
  refine State_bind X G K d (part31_ok X G K d _ _ _ _ _ _ _ _ _) fun r _ => ?_
  refine State_bind X G K d (part32_ok X G K d _ _ _ _ _ _ _ _ _ _ _ _) fun r _ => ?_
  refine State_bind X G K d (part33_ok X G K d _ _ _ _ _ _ _ _ _ _) fun r _ => ?_
  refine State_bind X G K d (part34_ok X G K d _ _ _ _ _ _ _ _ _ _ _ _) fun r _ => ?_
  refine State_bind X G K d (part35_ok X G K d _ _ _ _ _ _ _ _ _ _ _) fun r _ => ?_
  refine State_bind X G K d (part36_ok X G K d _ _ _ _ _ _ _ _ _) fun r _ => ?_
  refine State_bind X G K d (part37_ok X G K d _ _ _ _ _ _ _ _ _) fun r _ => ?_
  refine State_bind X G K d (part38_ok X G K d _ _ _ _ _ _ _ _ _) fun r _ => ?_
  refine State_bind X G K d (part39_ok X G K d _ _ _ _ _ _ _ _ _ _ _) fun r _ => ?_
  refine State_bind X G K d (part40_ok X G K d _ _ _ _ _ _ _ _ _) fun r h => ?_
  obtain ⟨v441, c1⟩ := r
  obtain ⟨e, e'⟩ := h
  dsimp only at e e'
  subst e e'
  refine State_bind X G K d (part41_ok X G K d _ _ _ _ _ _ _ _ _) fun r _ => ?_
  refine State_bind X G K d (part42_ok X G K d _ _ _ _ _ _ _) fun r h => ?_
  obtain ⟨v497, c2⟩ := r
  obtain ⟨e, e'⟩ := h
  dsimp only at e e'
  subst e e'
  refine step_back X G K d true 5 rfl (cond := fun c => gsz c 2#32) (by decide +kernel) (by decide +kernel) rfl (fun _ => rfl) ?_
  exact State_ret X G K d sE (by decide) _ _ trivial

end Cert.Talk

end
-- ==== Proof.Split.lean ====
/- The buffers of a device cut into the pieces of the protocol and put together again. -/
module

public import proofs.«01_k».proof.Proof.Conds
public import Idealize.ShloMosaic.Lib.Ring

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The slots of a slot buffer -/

abbrev sRef (b : Bool) : Ref sig .tc := match b with | false => cc0_scratch0 | true => cc0_scratch1

theorem slot_disj (s s' : Fin 8) (h : s ≠ s') : Disjoint (slotSet s) (slotSet s') := by
  rw [Finset.disjoint_left]
  intro i h1 h2
  exact h (Fin.ext ((mem_slotSet.mp h1).symm.trans (mem_slotSet.mp h2)))
theorem slot_cover : Finset.univ.biUnion slotSet = Finset.univ := by
  refine Finset.eq_univ_of_forall fun i => ?_
  rw [Finset.mem_biUnion]
  exact ⟨⟨(i 0).val, (i 0).isLt⟩, Finset.mem_univ _, mem_slotSet.mpr rfl⟩

/-- A slot buffer whole, at some contents. -/
noncomputable def bufPt (b : Bool) (c : Dev nD) : sProp 𝕄 :=
  match b with
  | false => iprop(∃ f : Buf (Elt F) ((c : Thread nD τ).loc cc0_scratch0), (c : Thread nD τ).loc cc0_scratch0 ↦{fullShare} f)
  | true => iprop(∃ f : Buf (Elt F) ((c : Thread nD τ).loc cc0_scratch1), (c : Thread nD τ).loc cc0_scratch1 ↦{fullShare} f)

theorem buf_split (b : Bool) (c : Dev nD) : (bufPt b c : sProp 𝕄) ⊢ bigSep Finset.univ fun s => iprop(∃ f, slotPt b s c f) := by
  cases b with
  | false =>
    unfold bufPt slotPt
    iintro ⟨%f, H⟩
    ihave H := (Entails.of_eq (Ring.pointsTo_blocks (ℓ := (c : Thread nD τ).loc cc0_scratch0) slotSet slot_disj slot_cover f)) $$ H
    have h (s : Fin 8) : ((c : Thread nD τ).loc cc0_scratch0 ↦[slotSet s]{fullShare} f : sProp 𝕄)
        ⊢ iprop(∃ f, (c : Thread nD τ).loc cc0_scratch0 ↦[slotSet s]{fullShare} f) := by iintro H; iexists f; iexact H
    iapply (show (bigSep Finset.univ fun s => ((c : Thread nD τ).loc cc0_scratch0 ↦[slotSet s]{fullShare} f : sProp 𝕄)) ⊢ _ from bigSep_mono fun s _ => h s)
    iexact H
  | true =>
    unfold bufPt slotPt
    iintro ⟨%f, H⟩
    ihave H := (Entails.of_eq (Ring.pointsTo_blocks (ℓ := (c : Thread nD τ).loc cc0_scratch1) slotSet slot_disj slot_cover f)) $$ H
    have h (s : Fin 8) : ((c : Thread nD τ).loc cc0_scratch1 ↦[slotSet s]{fullShare} f : sProp 𝕄)
        ⊢ iprop(∃ f, (c : Thread nD τ).loc cc0_scratch1 ↦[slotSet s]{fullShare} f) := by iintro H; iexists f; iexact H
    iapply (show (bigSep Finset.univ fun s => ((c : Thread nD τ).loc cc0_scratch1 ↦[slotSet s]{fullShare} f : sProp 𝕄)) ⊢ _ from bigSep_mono fun s _ => h s)
    iexact H

theorem buf_join (b : Bool) (c : Dev nD) : (bigSep Finset.univ fun s => iprop(∃ f, slotPt b s c f)) ⊢ (bufPt b c : sProp 𝕄) := by
  have f₀ : Vec F S8x128x1024 .bf16 := fun _ => FloatOps.ofBits .bf16 0
  cases b with
  | false => exact Ring.pointsTo_blocks_join_exists (ℓ := (c : Thread nD τ).loc cc0_scratch0) slotSet slot_disj slot_cover f₀
  | true => exact Ring.pointsTo_blocks_join_exists (ℓ := (c : Thread nD τ).loc cc0_scratch1) slotSet slot_disj slot_cover f₀

/-! ## The rows of the result -/

/-- The own rows and the rows that others bring. -/
noncomputable def pcO (c : Dev nD) (k : Fin 2 ⊕ Fin 8) : ℕ :=
  match k with
  | .inl h => 512 * (c.val / 8) + 256 * ((c.val / 4) % 2) + 128 * h.val
  | .inr q => ro q (pd q c)
noncomputable def pcN (k : Fin 2 ⊕ Fin 8) : ℕ :=
  match k with
  | .inl _ => 128
  | .inr q => rn q
noncomputable def pc (c : Dev nD) (k : Fin 2 ⊕ Fin 8) : Finset S1024x1024.Idx := rows (pcO c k) (pcN k)

theorem pc_apart : ∀ (c : Dev nD) (k l : Fin 2 ⊕ Fin 8), k ≠ l → pcO c k + pcN k ≤ pcO c l ∨ pcO c l + pcN l ≤ pcO c k := by decide +kernel
theorem pc_reach : ∀ (c : Dev nD) (j : Fin 16), ∃ k, pcO c k ≤ 64 * j.val ∧ 64 * j.val + 64 ≤ pcO c k + pcN k := by decide +kernel

theorem pc_disj (c : Dev nD) (k l : Fin 2 ⊕ Fin 8) (h : k ≠ l) : Disjoint (pc c k) (pc c l) := by
  rw [Finset.disjoint_left]
  intro i h1 h2
  have h1 := mem_rows.mp h1
  have h2 := mem_rows.mp h2
  have := pc_apart c k l h
  omega
theorem pc_cover (c : Dev nD) : Finset.univ.biUnion (pc c) = Finset.univ := by
  refine Finset.eq_univ_of_forall fun i => ?_
  have hi : (i 0).val < 1024 := (i 0).isLt
  obtain ⟨k, h1, h2⟩ := pc_reach c ⟨(i 0).val / 64, by omega⟩
  dsimp only at h1 h2
  rw [Finset.mem_biUnion]
  exact ⟨k, Finset.mem_univ _, mem_rows.mpr (by omega)⟩

theorem out_pieces (c : Dev nD) (f : Vec F S1024x1024 .bf16) :
    (outPt c Finset.univ fullShare f : sProp 𝕄)
      = iprop((bigSep Finset.univ fun h => outPt c (own h c) fullShare f) ∗ bigSep Finset.univ fun q => outPt c (reg q (pd q c)) fullShare f) := by
  unfold outPt
  rw [Ring.pointsTo_blocks (ℓ := (c : Thread nD τ).loc cc0_stg2_0) (pc c) (pc_disj c) (pc_cover c) f, bigSep_univ_sum]
  rfl

end Cert.Talk

end
-- ==== Proof.Start.lean ====
/- What the kernel holds when it starts, out of what the launch and the region give. -/
module

public import proofs.«01_k».proof.Proof.Part4
public import proofs.«01_k».proof.Proof.Split

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .bf16) (G : Dev nD → Vec F S1x1024 .bf16)

attribute [local irreducible] OW okWait ord

/-- The right to pay the barrier signal `i`. -/
noncomputable def sgT (i : Fin 4) (c : Dev nD) : sProp 𝕄 := bif nbOk i c then dutyTok ER (bcell (nb i c)) 0 i else iprop(emp)
/-- The rights to pay everything a device pays. -/
noncomputable def toks (c : Dev nD) : sProp 𝕄 :=
  iprop((bigSep Finset.univ fun i => sgT i c) ∗ ((bigSep Finset.univ fun s => slotTok false s c) ∗ (bigSep Finset.univ fun s => slotTok true s c))
    ∗ bigSep Finset.univ fun q => rowTok q c)
/-- The units that bring a slot. -/
noncomputable def slotCr (b : Bool) (s : Fin 8) (c : Dev nD) : sProp 𝕄 :=
  bif rcv b s c then cred (tallyAt (dcell (aR b) s c) () u128) else iprop(emp)
/-- The units that a device receives. -/
noncomputable def creds (c : Dev nD) : sProp 𝕄 :=
  iprop(bcr c ∗ ((bigSep Finset.univ fun s => slotCr false s c) ∗ (bigSep Finset.univ fun s => slotCr true s c))
    ∗ bigSep Finset.univ fun q => cred (tallyAt (dcell 5 q c) () (uD 5 q)))
/-- The positions of the own copies' cells. -/
noncomputable def ats (c : Dev nD) (n : Fin 6 → Fin 8 → ℕ) : sProp 𝕄 :=
  bigSep Finset.univ fun p : Fin 6 × Fin 8 => atPos ER (dcell p.1 p.2 c) (n p.1 p.2) ∅ 0
/-- What a device holds of the protocol once its cells stand open. -/
noncomputable def opened (K : GSem nD τ sig → ℕ) (c : Dev nD) : sProp 𝕄 :=
  iprop(ctx X G K c ∗ atPos ER (bcell c) 0 ∅ 0 ∗ ats c (fun _ _ => 0) ∗ toks c)

theorem big_six (f : Fin 6 → sProp 𝕄) : bigSep Finset.univ f = iprop(f 0 ∗ f 1 ∗ f 2 ∗ f 3 ∗ f 4 ∗ f 5) := by
  rw [show (Finset.univ : Finset (Fin 6)) = {0, 1, 2, 3, 4, 5} by decide, bigSep_insert (by decide), bigSep_insert (by decide),
    bigSep_insert (by decide), bigSep_insert (by decide), bigSep_insert (by decide), bigSep_singleton]
  rfl
theorem big_four (f : Fin 4 → sProp 𝕄) : bigSep Finset.univ f = iprop(f 0 ∗ f 1 ∗ f 2 ∗ f 3) := by
  rw [show (Finset.univ : Finset (Fin 4)) = {0, 1, 2, 3} by decide, bigSep_insert (by decide), bigSep_insert (by decide),
    bigSep_insert (by decide), bigSep_singleton]
  rfl
/-- The positions of one array of cells. -/
noncomputable def atRow (c : Dev nD) (a : Fin 6) (n : Fin 8 → ℕ) : sProp 𝕄 := bigSep Finset.univ fun s => atPos ER (dcell a s c) (n s) ∅ 0
theorem ats_rows (c : Dev nD) (n : Fin 6 → Fin 8 → ℕ) : (ats c n : sProp 𝕄)
    = iprop(atRow c 0 (n 0) ∗ atRow c 1 (n 1) ∗ atRow c 2 (n 2) ∗ atRow c 3 (n 3) ∗ atRow c 4 (n 4) ∗ atRow c 5 (n 5)) := by
  unfold ats atRow
  rw [bigSep_univ_prod, big_six]

/-- A slot buffer becomes what is given to the previous device and what is kept. -/
theorem start_slot (K : GSem nD τ sig → ℕ) (b : Bool) (c : Dev nD) (s : Fin 8) :
    iprop(ctx X G K c ∗ ((∃ f, slotPt b s c f) ∗ slotCr b s c)) ⊢ iprop(slotOpen b s (pv b c) ∗ slotIn b s c) := by
  unfold slotOpen slotIn slotCr
  rw [snd_pv, nx_pv]
  cases rcv b s c with
  | true =>
    simp only [cond_true]
    iintro ⟨HC, Hs, Hc⟩
    isplitl [HC Hs]
    · isplitl [Hs]; · iexact Hs
      iapply (ctx_own X G K c (aR b) s); iexact HC
    iexact Hc
  | false =>
    simp only [cond_false]
    iintro ⟨-, Hs, -⟩
    isplitr; · iempintro
    iexact Hs
theorem start_slots (K : GSem nD τ sig → ℕ) (b : Bool) (c : Dev nD) :
    iprop(ctx X G K c ∗ bufPt b c ∗ bigSep Finset.univ fun s => slotCr b s c) ⊢ iprop(slotsOpen b (pv b c) ∗ bigSep Finset.univ fun s => slotIn b s c) := by
  have h : iprop(ctx X G K c ∗ bigSep Finset.univ fun s => iprop((∃ f, slotPt b s c f) ∗ slotCr b s c))
      ⊢ bigSep Finset.univ fun s => iprop(slotOpen b s (pv b c) ∗ slotIn b s c) :=
    bigSep_with_persistent fun s _ => start_slot X G K b c s
  rw [bigSep_sep', bigSep_sep', ← big_eight (fun s => slotOpen b s (pv b c))] at h
  iintro ⟨HC, HB, Hc⟩
  iapply h
  isplitl [HC]; · iexact HC
  isplitl [HB]
  · iapply buf_split; iexact HB
  iexact Hc

/-- The rows that others bring are given to them. -/
theorem start_row (K : GSem nD τ sig → ℕ) (c : Dev nD) (f : Vec F S1024x1024 .bf16) (q : Fin 8) :
    iprop(ctx X G K c ∗ outPt c (reg q (pd q c)) fullShare f) ⊢ rowOpen q (pd q c) := by
  unfold rowOpen
  rw [pd_pd]
  iintro ⟨HC, H⟩
  isplitl [H]; · iexists f; iexact H
  iapply (ctx_own X G K c 5 q); iexact HC
theorem start_rows (K : GSem nD τ sig → ℕ) (c : Dev nD) :
    iprop(ctx X G K c ∗ ∃ f, outPt c Finset.univ fullShare f)
      ⊢ iprop(barPay (px c) 0 ∗ barPay (py c) 1 ∗ (∃ f, outPt c (own 0 c) fullShare f) ∗ ∃ f, outPt c (own 1 c) fullShare f) := by
  iintro ⟨HC, %f, H⟩
  ihave H := (Entails.of_eq (out_pieces c f)) $$ H
  icases H with ⟨HO, HQ⟩
  ihave HO := (Entails.of_eq (bigSep_univ_two (fun h => (outPt c (own h c) fullShare f : sProp 𝕄)))) $$ HO
  icases HO with ⟨H0, H1⟩
  have h : iprop(ctx X G K c ∗ bigSep Finset.univ fun q => outPt c (reg q (pd q c)) fullShare f)
      ⊢ bigSep Finset.univ fun q => rowOpen q (pd q c) := bigSep_with_persistent fun q _ => start_row X G K c f q
  rw [← big_eight (fun q => rowOpen q (pd q c))] at h
  ihave HQ := h $$ [HC HQ]
  · isplitl [HC] <;> iassumption
  icases HQ with ⟨Q0, Q1, Q2, Q3, Q4, Q5, Q6, Q7⟩
  isplitl [Q0 Q1 Q4 Q5]
  · iapply (show iprop(rowOpen 0 (pd 0 c) ∗ rowOpen 1 (pd 1 c) ∗ rowOpen 4 (pd 4 c) ∗ rowOpen 5 (pd 5 c)) ⊢ barPay (px c) 0 from BIBase.Entails.refl)
    isplitl [Q0]; · iexact Q0
    isplitl [Q1]; · iexact Q1
    isplitl [Q4] <;> iassumption
  isplitl [Q2 Q3 Q6 Q7]
  · iapply (show iprop(rowOpen 2 (pd 2 c) ∗ rowOpen 3 (pd 3 c) ∗ rowOpen 6 (pd 6 c) ∗ rowOpen 7 (pd 7 c)) ⊢ barPay (py c) 1 from BIBase.Entails.refl)
    isplitl [Q2]; · iexact Q2
    isplitl [Q3]; · iexact Q3
    isplitl [Q6] <;> iassumption
  isplitl [H0]; · iexists f; iexact H0
  iexists f; iexact H1

theorem start_sg (i : Fin 4) (c : Dev nD) : (iprop(sgT i c ∗ barPay (nb i c) i) : sProp 𝕄) ⊢ sg i c := by
  unfold sgT sg
  cases nbOk i c with
  | true => simp only [cond_true]; iintro H; iexact H
  | false => simp only [cond_false]; iintro -; iempintro

theorem start_prep (c : Dev nD) :
    iprop(((bigSep Finset.univ fun s => slotTok false s c) ∗ atRow c 0 (fun _ => 0) ∗ atRow c 1 (fun _ => 0) ∗ bigSep Finset.univ fun s => slotIn false s c)
      ∗ ((bigSep Finset.univ fun s => slotTok true s c) ∗ atRow c 2 (fun _ => 0) ∗ atRow c 3 (fun _ => 0) ∗ bigSep Finset.univ fun s => slotIn true s c)
      ∗ ((bigSep Finset.univ fun q => rowTok q c) ∗ atRow c 4 (fun _ => 0))
      ∗ ((bigSep Finset.univ fun q => cred (tallyAt (dcell 5 q c) () (uD 5 q))) ∗ atRow c 5 (fun _ => 0))
      ∗ (∃ f, outPt c (own 0 c) fullShare f) ∗ ∃ f, outPt c (own 1 c) fullShare f) ⊢ prep X G c := by
  unfold prep atRow
  rw [← big_cp, bigSep_univ_sum (fun r => prepC X G c (.inr (.inr r)))]
  rw [← bigSep_sep', ← bigSep_sep', ← bigSep_sep', ← bigSep_sep', ← bigSep_sep', ← bigSep_sep', ← bigSep_sep', ← bigSep_sep', bigSep_univ_two]
  show _ ⊢ iprop((bigSep Finset.univ fun s => iprop(slotTok false s c ∗ atPos ER (dcell 0 s c) 0 ∅ 0 ∗ atPos ER (dcell 1 s c) 0 ∅ 0 ∗ slotIn false s c))
    ∗ (bigSep Finset.univ fun s => iprop(slotTok true s c ∗ atPos ER (dcell 2 s c) 0 ∅ 0 ∗ atPos ER (dcell 3 s c) 0 ∅ 0 ∗ slotIn true s c))
    ∗ (bigSep Finset.univ fun q => iprop(rowTok q c ∗ atPos ER (dcell 4 q c) 0 ∅ 0))
    ∗ (bigSep Finset.univ fun q => iprop(cred (tallyAt (dcell 5 q c) () (uD 5 q)) ∗ atPos ER (dcell 5 q c) 0 ∅ 0))
    ∗ rowO X G 0 c 0 ∗ rowO X G 1 c 0)
  unfold rowO
  iintro H
  iexact H

theorem start_ok (K : GSem nD τ sig → ℕ) (c : Dev nD) :
    iprop(opened X G K c ∗ creds c ∗ ow c 0 ∗ xPt X c ∗ gPt G c ∗ (∃ f, outPt c Finset.univ fullShare f) ∗ bufPt false c ∗ bufPt true c) ⊢ Pre X G K c := by
  unfold opened creds toks Pre
  rw [ats_rows, big_four]
  iintro ⟨⟨#HC, Hb, ⟨A0, A1, A2, A3, A4, A5⟩, ⟨T0, T1, T2, T3⟩, ⟨TF, TT⟩, TR⟩, ⟨HB, ⟨CF, CT⟩, CR⟩, HO, Hx, Hg, Hout, BF, BT⟩
  ihave HS := (start_rows X G K c) $$ [Hout]
  · isplitr; · iexact HC
    iexact Hout
  icases HS with ⟨P0, P1, O0, O1⟩
  ihave HF := (start_slots X G K false c) $$ [BF CF]
  · isplitr; · iexact HC
    isplitl [BF] <;> iassumption
  icases HF with ⟨P2, IF⟩
  ihave HT := (start_slots X G K true c) $$ [BT CT]
  · isplitr; · iexact HC
    isplitl [BT] <;> iassumption
  icases HT with ⟨P3, IT⟩
  isplitr; · iexact HC
  isplitl [HO]; · iexact HO
  isplitl [T0 P0]
  · iapply (show iprop(sgT 0 c ∗ barPay (px c) 0) ⊢ sg 0 c from start_sg 0 c)
    isplitl [T0] <;> iassumption
  isplitl [T1 P1]
  · iapply (show iprop(sgT 1 c ∗ barPay (py c) 1) ⊢ sg 1 c from start_sg 1 c)
    isplitl [T1] <;> iassumption
  isplitl [T2 P2]
  · iapply (show iprop(sgT 2 c ∗ slotsOpen false (pv false c)) ⊢ sg 2 c from start_sg 2 c)
    isplitl [T2] <;> iassumption
  isplitl [T3 P3]
  · iapply (show iprop(sgT 3 c ∗ slotsOpen true (pv true c)) ⊢ sg 3 c from start_sg 3 c)
    isplitl [T3] <;> iassumption
  isplitl [HB]; · iexact HB
  isplitl [Hb]; · iexact Hb
  isplitl [Hx]; · iexact Hx
  isplitl [Hg]; · iexact Hg
  iapply (start_prep X G c)
  isplitl [TF A0 A1 IF]
  · isplitl [TF]; · iexact TF
    isplitl [A0]; · iexact A0
    isplitl [A1] <;> iassumption
  isplitl [TT A2 A3 IT]
  · isplitl [TT]; · iexact TT
    isplitl [A2]; · iexact A2
    isplitl [A3] <;> iassumption
  isplitl [TR A4]
  · isplitl [TR] <;> iassumption
  isplitl [CR A5]
  · isplitl [CR] <;> iassumption
  isplitl [O0] <;> iassumption

end Cert.Talk

end
-- ==== Proof.Finish.lean ====
/- What the kernel hands back when it ends. -/
module

public import proofs.«01_k».proof.Proof.Start

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .bf16) (G : Dev nD → Vec F S1x1024 .bf16)

attribute [local irreducible] OW okWait ord

/-- Whether a cell has had its round. -/
noncomputable def past (c : Dev nD) (a : Fin 6) (s : Fin 8) : ℕ := bif used a s c then 1 else 0

theorem sE_slot : ∀ (b : Bool) (s : Fin 8) (c : Dev nD), sE (kC b s) = 4 ∨ (sE (kC b s) = 0 ∧ snd b s c = false ∧ rcv b s c = false) := by decide +kernel
theorem sE_s : ∀ q : Fin 8, sE (kS q) = 3 := by decide
theorem sE_r : ∀ q : Fin 8, (sE (kR q) = 2) ∨ (sE (kR q) = 1 ∧ ¬ q.val < 4) := by decide

theorem end_slot (b : Bool) (s : Fin 8) (c : Dev nD) : comp X G c (kC b s) (sE (kC b s)) ⊢ slotEnd b s c := by
  show slotC X b s c (sE (kC b s)) ⊢ _
  rcases sE_slot b s c with h | ⟨h, h1, h2⟩
  · rw [h]; exact BIBase.Entails.refl
  · rw [h]
    show slotA b s c ⊢ _
    unfold slotA slotIn slotEnd
    rw [h1, h2]
    simp only [cond_false]
    iintro ⟨-, -, H1, H2, H⟩
    isplitl [H]; · iexact H
    isplitl [H1] <;> iassumption
theorem end_slots (b : Bool) (c : Dev nD) : (bigSep Finset.univ fun s => comp X G c (kC b s) (sE (kC b s)))
    ⊢ iprop(bufPt b c ∗ atRow c (aS b) (past c (aS b)) ∗ atRow c (aR b) (past c (aR b))) := by
  have h : (bigSep Finset.univ fun s => comp X G c (kC b s) (sE (kC b s))) ⊢ bigSep Finset.univ fun s => slotEnd b s c :=
    bigSep_mono fun s _ => end_slot X G b s c
  unfold slotEnd at h
  rw [bigSep_sep', bigSep_sep'] at h
  unfold atRow past
  simp only [used_sent, used_got]
  refine BIBase.Entails.trans h ?_
  iintro ⟨H, H1, H2⟩
  isplitl [H]; · iapply buf_join; iexact H
  isplitl [H1] <;> iassumption

theorem end_recv (q : Fin 8) (c : Dev nD) : comp X G c (kR q) (sE (kR q))
    ⊢ iprop(atPos ER (dcell 5 q c) 1 ∅ 0 ∗ outPt c (rem q c) fullShare (out X G (zz c))) := by
  show rowR X G q c (sE (kR q)) ⊢ _
  rcases sE_r q with h | ⟨h, hq⟩
  · rw [h]; exact BIBase.Entails.refl
  · rw [h]
    show iprop(atPos ER (dcell 5 q c) 1 ∅ 0 ∗ outPt c (reg q (pd q c)) fullShare (out X G (zz c))) ⊢ _
    unfold rem
    rw [if_neg hq]

/-- The own rows come back from their two copies. -/
theorem end_own (h : Fin 2) (c : Dev nD) (q q' : Fin 8) (hq : q = ⟨h.val, by omega⟩) (hq' : q' = ⟨h.val + 2, by omega⟩) (f : Vec F S1024x1024 .bf16) :
    iprop(outPt c (reg q c) (shr q) f ∗ outPt c (reg q' c) (shr q') f) ⊢ outPt c (own h c) fullShare f := by
  have e : shr q = fullShare.left ∧ shr q' = fullShare.right := by subst hq hq'; revert h; decide
  rw [e.1, e.2, hq, hq', (reg_own h c).1, (reg_own h c).2]
  unfold outPt
  exact (pointsTo_share (PosShare.mem_left_op_right fullShare)).2
/-- The rows that were forwarded come back to those that were not. -/
theorem end_fw (q q' : Fin 8) (c : Dev nD) (hq : q.val < 4) (hq' : q' = fw q) (f : Vec F S1024x1024 .bf16) :
    iprop(outPt c (reg q' c) (shr q') f ∗ outPt c (rem q c) fullShare f) ⊢ outPt c (reg q (pd q c)) fullShare f := by
  subst hq'
  unfold rem
  rw [if_pos hq, shr_fw q hq]
  unfold outPt
  exact (pointsTo_split_subset (fw_sub q hq c)).2
theorem end_keep (q : Fin 8) (c : Dev nD) (hq : ¬ q.val < 4) (f : Vec F S1024x1024 .bf16) :
    (outPt c (rem q c) fullShare f : sProp 𝕄) ⊢ outPt c (reg q (pd q c)) fullShare f := by
  unfold rem
  rw [if_neg hq]

theorem end_rows (c : Dev nD) (f : Vec F S1024x1024 .bf16) :
    iprop((bigSep Finset.univ fun q => outPt c (reg q c) (shr q) f) ∗ bigSep Finset.univ fun q => outPt c (rem q c) fullShare f)
      ⊢ outPt c Finset.univ fullShare f := by
  rw [out_pieces, bigSep_univ_two, ← big_eight (fun q => outPt c (reg q c) (shr q) f), ← big_eight (fun q => outPt c (rem q c) fullShare f),
    ← big_eight (fun q => outPt c (reg q (pd q c)) fullShare f)]
  iintro ⟨⟨S0, S1, S2, S3, S4, S5, S6, S7⟩, R0, R1, R2, R3, R4, R5, R6, R7⟩
  isplitl [S0 S1 S2 S3]
  · isplitl [S0 S2]
    · iapply (end_own 0 c 0 2 rfl rfl f)
      isplitl [S0] <;> iassumption
    iapply (end_own 1 c 1 3 rfl rfl f)
    isplitl [S1] <;> iassumption
  isplitl [S6 R0]
  · iapply (end_fw 0 6 c (by decide) (by decide) f)
    isplitl [S6] <;> iassumption
  isplitl [S7 R1]
  · iapply (end_fw 1 7 c (by decide) (by decide) f)
    isplitl [S7] <;> iassumption
  isplitl [S4 R2]
  · iapply (end_fw 2 4 c (by decide) (by decide) f)
    isplitl [S4] <;> iassumption
  isplitl [S5 R3]
  · iapply (end_fw 3 5 c (by decide) (by decide) f)
    isplitl [S5] <;> iassumption
  isplitl [R4]; · iapply (end_keep 4 c (by decide) f); iexact R4
  isplitl [R5]; · iapply (end_keep 5 c (by decide) f); iexact R5
  isplitl [R6]; · iapply (end_keep 6 c (by decide) f); iexact R6
  iapply (end_keep 7 c (by decide) f); iexact R7

theorem end_comps (c : Dev nD) : comps X G c sE ⊢ iprop(bufPt false c ∗ bufPt true c ∗ outPt c Finset.univ fullShare (out X G (zz c)) ∗ ats c (past c)) := by
  have hS : (bigSep Finset.univ fun q => comp X G c (kS q) (sE (kS q)))
      ⊢ iprop(atRow c 4 (past c 4) ∗ bigSep Finset.univ fun q => outPt c (reg q c) (shr q) (out X G (zz c))) := by
    unfold atRow
    rw [← bigSep_sep']
    refine bigSep_mono fun q _ => ?_
    show comp X G c (kS q) (sE (kS q)) ⊢ _
    rw [sE_s q]
    exact BIBase.Entails.refl
  have hR : (bigSep Finset.univ fun q => comp X G c (kR q) (sE (kR q)))
      ⊢ iprop(atRow c 5 (past c 5) ∗ bigSep Finset.univ fun q => outPt c (rem q c) fullShare (out X G (zz c))) := by
    unfold atRow
    rw [← bigSep_sep']
    exact bigSep_mono fun q _ => end_recv X G q c
  have hF := end_slots X G false c
  have hT := end_slots X G true c
  have e : (comps X G c sE : sProp 𝕄) = iprop((bigSep Finset.univ fun s => comp X G c (kC false s) (sE (kC false s)))
      ∗ (bigSep Finset.univ fun s => comp X G c (kC true s) (sE (kC true s)))
      ∗ (bigSep Finset.univ fun q => comp X G c (kS q) (sE (kS q)))
      ∗ (bigSep Finset.univ fun q => comp X G c (kR q) (sE (kR q)))
      ∗ bigSep Finset.univ fun h => comp X G c (kO h) (sE (kO h))) := by
    unfold comps
    rw [← big_cp, bigSep_univ_sum (fun r => comp X G c (.inr (.inr r)) (sE (.inr (.inr r))))]
    rfl
  rw [e, ats_rows]
  iintro ⟨HF, HT, HS, HR, -⟩
  ihave HF := hF $$ HF
  icases HF with ⟨BF, A0, A1⟩
  ihave HT := hT $$ HT
  icases HT with ⟨BT, A2, A3⟩
  ihave HS := hS $$ HS
  icases HS with ⟨A4, RS⟩
  ihave HR := hR $$ HR
  icases HR with ⟨A5, RR⟩
  isplitl [BF]; · iexact BF
  isplitl [BT]; · iexact BT
  isplitl [RS RR]
  · iapply (end_rows c (out X G (zz c)))
    isplitl [RS] <;> iassumption
  isplitl [A0]; · iexact A0
  isplitl [A1]; · iexact A1
  isplitl [A2]; · iexact A2
  isplitl [A3]; · iexact A3
  isplitl [A4] <;> iassumption

/-! ## The cells are closed -/

theorem close_bar (K : GSem nD τ sig → ℕ) (c : Dev nD) :
    iprop(ctx X G K c ∗ atPos ER (bcell c) 1 ∅ 0) ⊢ (|={Set.univ}=> semVal (bcell c) 0 : sProp 𝕄) := by
  iintro ⟨HC, H⟩
  iapply (Rounds.cell_close ER (Rd X G) (g := bcell c) (Set.mem_univ (K (bcell c))) id (fun r hr => duties_later X G (bcell c) r hr))
  isplitl [HC]; · iapply (ctx_bar X G K c c); iexact HC
  iexact H
theorem later_d (c : Dev nD) (a : Fin 6) (s : Fin 8) (r : ℕ) (hr : past c a s ≤ r) : (Rd X G).duties (dcell a s c) r = ∅ := by
  unfold past at hr
  by_cases h : 1 ≤ r
  · exact duties_later X G _ r h
  · obtain rfl : r = 0 := by omega
    cases hu : used a s c with
    | true => rw [hu] at hr; exact absurd hr (by decide)
    | false => exact duties_d_unused X G a s c hu
theorem close_d (K : GSem nD τ sig → ℕ) (c : Dev nD) (p : Fin 6 × Fin 8) :
    iprop(ctx X G K c ∗ atPos ER (dcell p.1 p.2 c) (past c p.1 p.2) ∅ 0) ⊢ (|={Set.univ}=> semVal (dcell p.1 p.2 c) 0 : sProp 𝕄) := by
  iintro ⟨HC, H⟩
  iapply (Rounds.cell_close ER (Rd X G) (g := dcell p.1 p.2 c) (Set.mem_univ (K (dcell p.1 p.2 c))) id (fun r hr => later_d X G c p.1 p.2 r hr))
  isplitl [HC]; · iapply (ctx_inv X G K c c p.1 p.2); iexact HC
  iexact H
theorem close_ds (K : GSem nD τ sig → ℕ) (c : Dev nD) :
    iprop(ctx X G K c ∗ ats c (past c)) ⊢ (|={Set.univ}=> bigSep Finset.univ fun p : Fin 6 × Fin 8 => semVal (dcell p.1 p.2 c) 0 : sProp 𝕄) := by
  unfold ats
  exact BIBase.Entails.trans (bigSep_with_persistent fun p _ => close_d X G K c p) (bigSep_fupd _ _)

/-- What the kernel leaves. -/
noncomputable def Post (c : Dev nD) : sProp 𝕄 :=
  iprop(semVal (bcell c) 0 ∗ (bigSep Finset.univ fun p : Fin 6 × Fin 8 => semVal (dcell p.1 p.2 c) 0) ∗ ow c 36 ∗ xPt X c ∗ gPt G c
    ∗ outPt c Finset.univ fullShare (out X G (zz c)) ∗ bufPt false c ∗ bufPt true c)

theorem end_ok (K : GSem nD τ sig → ℕ) (c : Dev nD) :
    iprop((⌜True⌝ ∗ State X G K c sE 36) ∗ atPos ER (bcell c) 1 ∅ 0) ⊢ (|={Set.univ}=> Post X G c : sProp 𝕄) := by
  unfold State Post
  iintro ⟨⟨-, #HC, HO, Hx, Hg, HK⟩, Hb⟩
  ihave HK := (end_comps X G c) $$ HK
  icases HK with ⟨BF, BT, Hout, HA⟩
  imod (close_bar X G K c) $$ [Hb] with Hb
  · isplitr; · iexact HC
    iexact Hb
  imod (close_ds X G K c) $$ [HA] with HA
  · isplitr; · iexact HC
    iexact HA
  imodintro
  isplitl [Hb]; · iexact Hb
  isplitl [HA]; · iexact HA
  isplitl [HO]; · iexact HO
  isplitl [Hx]; · iexact Hx
  isplitl [Hg]; · iexact Hg
  isplitl [Hout]; · iexact Hout
  isplitl [BF] <;> iassumption

/-- The kernel on one device, from what it is given to what it leaves. -/
theorem run_ok (K : GSem nD τ sig → ℕ) (c : Dev nD) (h0 h1 h2 h3 h4) :
    iprop(opened X G K c ∗ creds c ∗ ow c 0 ∗ xPt X c ∗ gPt G c ∗ (∃ f, outPt c Finset.univ fullShare f) ∗ bufPt false c ∗ bufPt true c)
      ⊢ wp frame (wpE (defs₀ (F := F)) 𝒱₀ (c : Thread nD τ) none) Set.univ
      (cc0_body A0 h0 A1 h1 A2 h2 (Memref.whole cc0_scratch0) h3 (Memref.whole cc0_scratch1) h4 cc0_scratch2 cc0_scratch3 cc0_scratch4
        cc0_scratch5 cc0_scratch6 cc0_scratch7)
      fun _ => Post X G c :=
  BIBase.Entails.trans (start_ok X G K c) (BIBase.Entails.trans (body_ok X G K c h0 h1 h2 h3 h4)
    (BIBase.Entails.trans (wp_mono _ _ _ fun _ => end_ok X G K c) (wp_fupd _ _ _ _ _)))

end Cert.Talk

end
-- ==== Proof.Region.lean ====
/- The kernel as the one region of the program: what it is entered with, what it leaves. -/
module

public import proofs.«01_k».proof.Proof.Finish
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.Value
public import Idealize.ShloMosaic.Lib.Pipeline.ValueKit.Geometry

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

attribute [local irreducible] OW okWait ord out

variable (m : (ℓ : Loc nD τ sig) → Buf (Elt F) ℓ)

/-- The kernel's operands on a device: the four blocks of the device's partial sums, and gamma. -/
noncomputable def Xm (c : Dev nD) : Vec F S4x256x1024 .bf16 := V1 m c main_v16
noncomputable def Gm (c : Dev nD) : Vec F S1x1024 .bf16 := V1 m c main_v17
/-- What the kernel's result holds. -/
noncomputable def outs : Outs (F := F) := fun _ r c =>
  if h : r = main_v18 then h ▸ (out (Xm m) (Gm m) (zz c) : Vec F S1024x1024 .bf16) else V1 m c r
theorem outs_v18 (c : Dev nD) : outs m 2 main_v18 c = (out (Xm m) (Gm m) (zz c) : Vec F S1024x1024 .bf16) := by
  unfold outs; rw [dif_pos rfl]

/-! ## What the region is entered with -/

/-- The records common to all devices. -/
noncomputable def shared (K : GSem nD τ sig → ℕ) : sProp 𝕄 :=
  iprop((bigSep Finset.univ fun p : Dev nD × Fin 6 × Fin 8 => cellInv ER (Rd (Xm m) (Gm m)) (K (dcell p.2.1 p.2.2 p.1)) (dcell p.2.1 p.2.2 p.1))
    ∗ (bigSep Finset.univ fun d : Dev nD => cellInv ER (Rd (Xm m) (Gm m)) (K (bcell d)) (bcell d))
    ∗ bigSep Finset.univ fun d : Dev nD => reached ER (bcell d) 0)
instance shared_persistent (K : GSem nD τ sig → ℕ) : BI.Persistent (shared m K) := by unfold shared; infer_instance
/-- With what one device keeps from the launch on. -/
noncomputable def ghost (K : GSem nD τ sig → ℕ) (c : Dev nD) : sProp 𝕄 :=
  iprop(shared m K ∗ atPos ER (bcell c) 0 ∅ 0 ∗ (bigSep Finset.univ fun p : Fin 6 × Fin 8 => openTok ER (dcell p.1 p.2 c)) ∗ toks c)
noncomputable def Tk (c : Dev nD) : sProp 𝕄 := iprop((∃ K, ghost m K c) ∗ creds c)
noncomputable def Xk (c : Dev nD) : sProp 𝕄 := iprop((∃ K, opened (Xm m) (Gm m) K c) ∗ creds c)
noncomputable def Yk (c : Dev nD) : sProp 𝕄 := semVal (bcell c) 0

/-- The kernel's own counters. -/
def osem (p : Fin 6 × Fin 8) : SemLoc sig := .dma (ix p.1 p.2)
theorem ownFacts : Pipeline.OwnSemFacts spec0 osem where
  isScoped := by decide +kernel
  inj := by decide +kernel
  disj := by decide +kernel

theorem open_one (K : GSem nD τ sig → ℕ) (c : Dev nD) (p : Fin 6 × Fin 8) :
    iprop(shared m K ∗ (openTok ER (dcell p.1 p.2 c) ∗ semVal (dcell p.1 p.2 c) 0))
      ⊢ (|={Set.univ}=> iprop(atPos ER (dcell p.1 p.2 c) 0 ∅ 0 ∗ reached ER (dcell p.1 p.2 c) 0) : sProp 𝕄) := by
  unfold shared
  iintro ⟨⟨HI, -⟩, H⟩
  iapply (Rounds.cell_open ER (Rd (Xm m) (Gm m)) (g := dcell p.1 p.2 c) (Set.mem_univ (K (dcell p.1 p.2 c))))
  isplitl [HI]
  · iapply (show (bigSep Finset.univ fun p : Dev nD × Fin 6 × Fin 8 => cellInv ER (Rd (Xm m) (Gm m)) (K (dcell p.2.1 p.2.2 p.1)) (dcell p.2.1 p.2.2 p.1) : sProp 𝕄)
      ⊢ cellInv ER (Rd (Xm m) (Gm m)) (K (dcell p.1 p.2 c)) (dcell p.1 p.2 c) from bigSep_elim (Finset.mem_univ (c, p.1, p.2))); iexact HI
  iexact H

theorem hopen (c : Dev nD) : iprop(Tk m c ∗ Pipeline.ownSems0 osem c ∗ levAts L lv) ⊢ (|={Set.univ}=> Xk m c : sProp 𝕄) := by
  unfold Tk Xk
  iintro ⟨⟨⟨%K, Hg⟩, Hc⟩, Ho, #Hlev⟩
  unfold ghost
  icases Hg with ⟨#HS, HB, HO, HT⟩
  ihave Ho := (show (Pipeline.ownSems0 osem c : sProp 𝕄) ⊢ bigSep Finset.univ fun p : Fin 6 × Fin 8 => semVal (dcell p.1 p.2 c) 0 from BIBase.Entails.refl) $$ Ho
  ihave H := (show iprop((bigSep Finset.univ fun p : Fin 6 × Fin 8 => openTok ER (dcell p.1 p.2 c)) ∗ (bigSep Finset.univ fun p : Fin 6 × Fin 8 => semVal (dcell p.1 p.2 c) 0))
      ⊢ (bigSep Finset.univ fun p : Fin 6 × Fin 8 => iprop(openTok ER (dcell p.1 p.2 c) ∗ semVal (dcell p.1 p.2 c) 0) : sProp 𝕄)
      from Entails.of_eq (bigSep_sep' ..).symm) $$ [HO Ho]
  · isplitl [HO] <;> iassumption
  imod (BIBase.Entails.trans (bigSep_with_persistent (R := shared m K) fun p _ => open_one m K c p) (bigSep_fupd _ _)) $$ [H] with H
  · isplitr; · iexact HS
    iexact H
  ihave H := (show (bigSep Finset.univ fun p : Fin 6 × Fin 8 => iprop(atPos ER (dcell p.1 p.2 c) 0 ∅ 0 ∗ reached ER (dcell p.1 p.2 c) 0) : sProp 𝕄)
      ⊢ iprop(ats c (fun _ _ => 0) ∗ bigSep Finset.univ fun p : Fin 6 × Fin 8 => reached ER (dcell p.1 p.2 c) 0)
      from Entails.of_eq (bigSep_sep' ..)) $$ H
  icases H with ⟨HA, #HR⟩
  imodintro
  isplitr [Hc]
  · iexists K
    unfold opened ctx shared
    icases HS with ⟨#H1, #H2, #H3⟩
    isplitr
    · isplitr; · iexact H1
      isplitr; · iexact H2
      isplitr; · unfold levs; iexact Hlev
      isplitr; · iexact H3
      iexact HR
    isplitl [HB]; · iexact HB
    isplitl [HA] <;> iassumption
  iexact Hc

/-! ## The region's data -/

/-- Before the kernel: what it is given beside its staged operands; after it: every counter at zero. -/
noncomputable def Φ₀ (c : Dev nD) : sProp 𝕄 := iprop(Xk m c ∗ bufPt false c ∗ bufPt true c ∗ ∃ r, prngReg c r)
noncomputable def Φ₁ (c : Dev nD) : sProp 𝕄 :=
  iprop(semVal (bcell c) 0 ∗ (bigSep Finset.univ fun p : Fin 6 × Fin 8 => semVal (dcell p.1 p.2 c) 0) ∗ bufPt false c ∗ bufPt true c ∗ ∃ r, prngReg c r)

noncomputable def dat (c : Dev nD) : Dat τ (Elt F) Unit ℕ UU ℕ cfg0 c where
  A w := V1 m c (Proc.devRef .tc (Pipeline.arrRef spec0 w))
  after w _ := match w with
    | ⟨0, _⟩ => Xm m c
    | ⟨1, _⟩ => Gm m c
    | ⟨2, _⟩ => (out (Xm m) (Gm m) (zz c) : Vec F S1024x1024 .bf16)
  Φ t := if t.val = 0 then Φ₀ m c else Φ₁ c
  q _ := fullShare
  owed t := if t.val = 0 then OW c 0 else 0

noncomputable def pdats : (p : Fin 1) → (c : Dev nD) → Dat τ (Elt F) Unit ℕ UU ℕ (cfgs p) c
  | 0 => dat m

theorem owed_first (c : Dev nD) : (dat m c).owed t0_0.castSucc = OW c 0 := by
  show (if (t0_0.castSucc).val = 0 then OW c 0 else 0) = OW c 0; exact if_pos rfl
theorem owed_zero (c : Dev nD) : (pdats m 0 c).owed 0 = OW c 0 := by
  show (if (0 : Fin (cfg0.N + 1)).val = 0 then OW c 0 else 0) = OW c 0; exact if_pos rfl
theorem owed_last (c : Dev nD) : (pdats m 0 c).owed (Fin.last _) = 0 := by
  show (if (Fin.last cfg0.N).val = 0 then OW c 0 else 0) = 0
  rw [Fin.val_last, if_neg (by rw [show cfg0.N = 1 from N_0]; decide)]

theorem owes_in {cfg : Pipeline.Cfg sig Λ₀} {c : Dev nD} (d : Dat τ (Elt F) Unit ℕ UU ℕ cfg c) (t : Fin (cfg.N + 1))
    (O : CellTallies nD τ sig Unit) (h : d.owed t = O) (hr : d.recorded t = Set.univ) :
    iprop(∃ W, owes (c : Thread nD τ) O W) ⊢ (d.owesAt () t : sProp 𝕄) := by
  unfold Dat.owesAt Pipeline.owesWithin Dat.bound
  rw [h, hr]
  iintro ⟨%W, H⟩
  iexists W
  isplitr
  · ipureintro; exact fun _ _ => Or.inl trivial
  iexact H
theorem owes_out {cfg : Pipeline.Cfg sig Λ₀} {c : Dev nD} (d : Dat τ (Elt F) Unit ℕ UU ℕ cfg c) (t : Fin (cfg.N + 1))
    (O : CellTallies nD τ sig Unit) (h : d.owed t = O) : (d.owesAt () t : sProp 𝕄) ⊢ iprop(∃ W, owes (c : Thread nD τ) O W) := by
  unfold Dat.owesAt Pipeline.owesWithin
  rw [h]
  iintro ⟨%W, -, H⟩
  iexists W
  iexact H

omit [FloatOps F] in
/-- A window's one block is its whole array. -/
theorem read_x (A : Vec F S4x256x1024 .bf16) : ((cfg0.win 0).blk t0_0).view.read (Elt F) A = A := by
  funext j
  rw [View.read_apply]
  refine congrArg A (funext fun a => Fin.ext ?_)
  exact Pipeline.Window.rect_emb_val_of_index_zero (cfg0.win 0) t0_0 a (by revert a; decide) j
omit [FloatOps F] in
theorem read_g (A : Vec F S1x1024 .bf16) : ((cfg0.win 1).blk t0_0).view.read (Elt F) A = A := by
  funext j
  rw [View.read_apply]
  refine congrArg A (funext fun a => Fin.ext ?_)
  exact Pipeline.Window.rect_emb_val_of_index_zero (cfg0.win 1) t0_0 a (by revert a; decide) j
theorem before_x (c : Dev nD) (d) : (dat m c).before 0 t0_0 d = Xm m c := by
  unfold Dat.before; rw [if_pos (fetch0_0 t0_0)]
  exact read_x (Xm m c)
theorem before_g (c : Dev nD) (d) : (dat m c).before 1 t0_0 d = Gm m c := by
  unfold Dat.before; rw [if_pos (fetch0_1 t0_0)]
  exact read_g (Gm m c)
theorem arr_out (c : Dev nD) : (dat m c).arrAt 2 cfg0.N = (out (Xm m) (Gm m) (zz c) : Vec F S1024x1024 .bf16) :=
  Dat.arrAt_eq_of_after_last (dat m c) 2 t0_0 (by decide +kernel) (out (Xm m) (Gm m) (zz c)) (fun j => rfl)

omit [FloatOps F] in
theorem owns_all (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ ((c : Thread nD τ).loc b ↦{fullShare} f)) := by
  unfold owns; simp only [Memref.view_whole, View.read_whole, View.set_whole]

/-! ## The kernel at the region's one point -/

theorem body_all (c : Dev nD) : BodyObligation (dat m c) (defs₀ (F := F)) 𝒱₀ () Set.univ := fun t => by
  obtain rfl := fin_N0 t
  rw [bigSep_W0, bigSep_W0]
  simp only [owns_all]
  rw [show (dat m c).Φ t0_0.castSucc = Φ₀ m c from rfl, show (dat m c).Φ t0_0.succ = Φ₁ c from rfl]
  unfold Φ₀ Φ₁ Xk
  iintro ⟨⟨⟨⟨%K, Hg⟩, Hc⟩, HF, HT, Hp⟩, HO, ⟨%d0, %f0, %hf0, H0⟩, ⟨%d1, %f1, %hf1, H1⟩, ⟨%d2, %f2, -, H2⟩⟩
  rw [before_x] at hf0
  rw [before_g] at hf1
  subst hf0 hf1
  ihave HO := (owes_out (dat m c) _ (OW c 0) (owed_first m c)) $$ HO
  iapply (BIBase.Entails.trans (sep_mono_left (run_ok (Xm m) (Gm m) K c (Memref.isWhole_whole _) (Memref.isWhole_whole _) (Memref.isWhole_whole _) (Memref.isWhole_whole _) (Memref.isWhole_whole _)))
    (BIBase.Entails.trans (wp_frame_r _ _ _ (R := iprop(∃ r, prngReg c r))) (wp_mono _ _ _ (fun _ => ?_))))
  rotate_left
  · isplitr [Hp]
    · isplitl [Hg]; · iexact Hg
      isplitl [Hc]; · iexact Hc
      isplitl [HO]; · unfold ow; iexact HO
      isplitl [H0]; · unfold xPt; iexact H0
      isplitl [H1]; · unfold gPt; iexact H1
      isplitl [H2]; · iexists f2; unfold outPt; iexact H2
      isplitl [HF] <;> iassumption
    iexact Hp
  · unfold Post
    iintro ⟨⟨Hb, Hd, HO, H0, H1, H2, HF, HT⟩, Hp⟩
    isplitl [Hb Hd HF HT Hp]
    · isplitl [Hb]; · iexact Hb
      isplitl [Hd]; · iexact Hd
      isplitl [HF]; · iexact HF
      isplitl [HT] <;> iassumption
    isplitl [HO]
    · iapply (owes_in (dat m c) t0_0.succ 0 (owed_last m c) rfl)
      unfold ow
      iapply (Entails.of_eq (congrArg (fun O => (iprop(∃ W, owes (c : Thread nD τ) O W) : sProp 𝕄)) (OW_end c)))
      iexact HO
    isplitl [H0]
    · iexists _; isplitr; swap; (· unfold xPt; iexact H0); ipureintro; rfl
    isplitl [H1]
    · iexists _; isplitr; swap; (· unfold gPt; iexact H1); ipureintro; rfl
    iexists _; isplitr; swap; (· unfold outPt; iexact H2); ipureintro; rfl

/-! ## The region's record -/

theorem lev_stage : ∀ (c : Dev nD) (w : Fin 3) (s : Fin (cfg0.win w).nbuf), lv ((c : Thread nD τ), .dma ((cfg0.win w).sem s)) () = 0 := by decide +kernel
theorem lev_duty : ∀ c : Dev nD, ∀ d ∈ ord c, d.act c = true → 0 < lv (d.cell c) () := by decide +kernel
theorem owed_pos (c : Dev nD) (g : GSem nD τ sig) (i : Unit) (h : 0 < OW c 0 g i) : i ∈ L g ∧ 0 < lv g i := by
  unfold OW at h
  obtain ⟨d, hd, ha, rfl⟩ := sum_pos c g i h
  refine ⟨?_, lev_duty c d hd ha⟩
  have e := cell_tc c d
  unfold L
  rw [if_pos e]; exact Finset.mem_singleton_self _
theorem cut_pos (c : Dev nD) (t : Fin (cfg0.N + 1)) (g : GSem nD τ sig) (i : Unit) (h : 0 < (pdats m 0 c).owed t g i) : i ∈ L g ∧ 0 < lv g i := by
  have e : (pdats m 0 c).owed t = if t.val = 0 then OW c 0 else 0 := rfl
  rw [e] at h
  split at h
  · exact owed_pos c g i h
  · exact absurd h (Nat.lt_irrefl 0)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

omit [FloatOps F] in
theorem held_none (c : Dev nD) (V : Valuation τ sig (Elt F)) : (StableHlo.held (c.tc : Thread nD τ) ∅ V : sProp 𝕄) = BI.emp := by
  unfold StableHlo.held; exact BI.bigSep_empty

theorem hin (c : Dev nD) : iprop(Pipeline.scopedRest spec0 c ∗ (∃ r, prngReg c r) ∗ StableHlo.held (c.tc : Thread nD τ) ∅ (V1 m c) ∗ Xk m c)
    ⊢ (pdats m 0 c).Φ 0 := by
  rw [show (pdats m 0 c).Φ 0 = Φ₀ m c from rfl, scopedRest0_eq, held_none]
  unfold Φ₀ bufPt
  iintro ⟨⟨HF, HT⟩, Hp, -, HX⟩
  isplitl [HX]; · iexact HX
  isplitl [HF]; · iexact HF
  isplitl [HT] <;> iassumption
theorem hout (c : Dev nD) : (pdats m 0 c).Φ (Fin.last cfg0.N)
    ⊢ iprop(Pipeline.scopedRest spec0 c ∗ (∃ r, prngReg c r) ∗ StableHlo.held (c.tc : Thread nD τ) ∅ (V2 m (outs m) c)
      ∗ Pipeline.ownSems0 osem c ∗ Yk c) := by
  rw [show (pdats m 0 c).Φ (Fin.last cfg0.N) = Φ₁ c from rfl, scopedRest0_eq, held_none]
  unfold Φ₁ bufPt Yk
  iintro ⟨Hb, Hd, HF, HT, Hp⟩
  isplitl [HF HT]; · isplitl [HF] <;> iassumption
  isplitl [Hp]; · iexact Hp
  isplitr; · iempintro
  isplitl [Hd]; · unfold Pipeline.ownSems0 osem; iexact Hd
  iexact Hb

/-- The unscoped buffers that are no window's array. -/
noncomputable def others : Finset (DevRef τ sig) := Pipeline.ucRefs τ sig \ Pipeline.arrRefs (τ := τ) spec0
theorem others_same (c : Dev nD) : ∀ b ∈ others \ ∅, V2 m (outs m) c b = V1 m c b := fun b hb => by
  refine Function.update_of_ne (fun h => ?_) _ _
  subst h
  exact absurd hb (by decide +kernel)

theorem arr_first (c : Dev nD) (w : Fin 3) : (pdats m 0 c).arrAt w 0 = V1 m c (Proc.devRef .tc (Pipeline.arrRef spec0 w)) := rfl
theorem arr_last (c : Dev nD) (w : Fin 3) : (pdats m 0 c).arrAt w cfg0.N = V2 m (outs m) c (Proc.devRef .tc (Pipeline.arrRef spec0 w)) := by
  match w with
  | ⟨0, _⟩ => exact ((dat m c).arrAt_in 0 rfl _).trans (V2_of m (outs m) c main_v16 (by decide)).symm
  | ⟨1, _⟩ => exact ((dat m c).arrAt_in 1 rfl _).trans (V2_of m (outs m) c main_v17 (by decide)).symm
  | ⟨2, _⟩ => exact (arr_out m c).trans ((outs_v18 m c).symm.trans (Function.update_self (Proc.devRef .tc main_v18) (outs m 2 main_v18 c) (V1 m c)).symm)

set_option backward.isDefEq.respectTransparency.types false in
/-- The kernel's region. -/
noncomputable def reg0 : Pipeline.RegionSeg (pcfgs (F := F)) adm (pdats m) () defs₀ 𝒱₀ L lv 0 :=
  Pipeline.RegionSeg.ofTalk (pcfgs (F := F)) adm (pdats m) () defs₀ 𝒱₀ L lv 0 osem ownFacts
    ∅ others (Finset.empty_subset _) kitP rfl (fun c => (body_all m c).loose)
    (fun _ => 0) (fun c => OW c 0) (fun c => (owed_zero m c).trans (zero_add _).symm) (owed_last m) (fun _ => rfl) (fun _ _ => by unfold Dat.share; split <;> rfl)
    (V1 m) (V2 m (outs m)) (others_same m) (Tk m) Yk (Xk m) Yk (hopen m) (hin m) (hout m)
    (fun c => by iintro H; imodintro; iexact H)
    (fun _ => 0)
    ⟨fun c w s => by rw [L_tc]; exact Finset.mem_singleton_self _, fun c w s => Nat.le_of_eq (lev_stage c w s), fun c t g i h => cut_pos m c t g i h⟩
    (fun _ => iprop(emp)) (arr_first m) (arr_last m)

end Cert.Talk

end
-- ==== Proof.Fund.lean ====
/- The launch: the cells, the rights and the units, dealt to the devices. -/
module

public import proofs.«01_k».proof.Proof.Region

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The units each cell is owed at launch -/

/-- The units of one payment to a cell. -/
noncomputable def unitOf (g : GSem nD τ sig) : ℕ := match g.2 with | .reg _ => 1 | .dma n => uD (aOf n.val) (sOf n.val)
theorem amt_unit (d : Dev nD) (e : Duty) : e.amt = unitOf (e.cell d) := by
  have h (a : Fin 6) (s : Fin 8) (c : Dev nD) : unitOf (dcell a s c) = uD a s := by
    show uD (aOf (ix a s).val) (sOf (ix a s).val) = _; rw [aOf_ix, sOf_ix]
  cases e with
  | bar i => rfl
  | edge b s => show u128 = unitOf (dcell (aR b) s (nx b d)); rw [h]; cases b <;> rfl
  | mid b s => show u128 = unitOf (dcell (aR b) s (nx b d)); rw [h]; cases b <;> rfl
  | pb q => exact (h 5 q (pd q d)).symm
/-- How often a device pays a cell. -/
noncomputable def cnt (g : GSem nD τ sig) (d : Dev nD) : ℕ := (ord d).countP fun e => e.act d && decide (e.cell d = g)
theorem sum_cnt (g : GSem nD τ sig) (d : Dev nD) (l : List Duty) :
    (l.map (Duty.owed d)).sum g () = (l.countP fun e => e.act d && decide (e.cell d = g)) * unitOf g := by
  induction l with
  | nil => rw [List.countP_nil, Nat.zero_mul]; rfl
  | cons e l ih =>
    rw [List.map_cons, List.sum_cons, Pi.add_apply, Finsupp.add_apply, ih, List.countP_cons, Nat.add_mul, Nat.add_comm]
    congr 1
    unfold Duty.owed
    cases ha : e.act d with
    | false => rw [cond_false, Bool.false_and, if_neg (by decide), Nat.zero_mul]; rfl
    | true =>
      rw [cond_true, Bool.true_and, tallyAt_apply]
      by_cases hg : e.cell d = g
      · subst hg
        rw [if_pos ⟨rfl, rfl⟩, decide_eq_true rfl, if_pos rfl, Nat.one_mul, amt_unit d]
      · rw [if_neg fun h => hg h.1.symm, decide_eq_false hg, if_neg (by decide), Nat.zero_mul]
theorem owed_cnt (g : GSem nD τ sig) : (∑ d : Dev nD, OW d 0 g ()) = (∑ d : Dev nD, cnt g d) * unitOf g := by
  rw [Finset.sum_mul]
  exact Finset.sum_congr rfl fun d _ => sum_cnt g d (ord d)

set_option maxRecDepth 20000 in
theorem cnt_bar : ∀ c : Dev nD, (∑ d : Dev nD, cnt (bcell c) d) = 3 + bif inner c then 1 else 0 := by decide +kernel
set_option maxRecDepth 20000 in
theorem cnt_slot : ∀ (b : Bool) (s : Fin 8) (c : Dev nD), rcv b s c = true → (∑ d : Dev nD, cnt (dcell (aR b) s c) d) = 1 := by decide +kernel
set_option maxRecDepth 20000 in
theorem cnt_row : ∀ (q : Fin 8) (c : Dev nD), (∑ d : Dev nD, cnt (dcell 5 q c) d) = 1 := by decide +kernel

end Cert.Talk

end
-- ==== Proof.Deal.lean ====
/- What the launch deals each device. -/
module

public import proofs.«01_k».proof.Proof.Fund

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The units each cell is owed at launch -/

attribute [local irreducible] OW okWait ord cnt unitOf

theorem big_cong {ι : Type} [Fintype ι] [DecidableEq ι] {Φ Ψ : ι → sProp 𝕄} (h : ∀ i, Φ i ⊢ Ψ i) : bigSep Finset.univ Φ ⊢ bigSep Finset.univ Ψ :=
  bigSep_mono fun i _ => h i

theorem big_sum {ι κ : Type} [Fintype ι] [Fintype κ] [DecidableEq ι] [DecidableEq κ] (Φ : ι ⊕ κ → sProp 𝕄) :
    bigSep Finset.univ Φ = iprop((bigSep Finset.univ fun i => Φ (.inl i)) ∗ bigSep Finset.univ fun j => Φ (.inr j)) := bigSep_univ_sum _

/-! ## The units -/

theorem credit_at (g : GSem nD τ sig) (n : ℕ) (h : (∑ d : Dev nD, cnt g d) = n) :
    tallyOn g (launchCredit (Pipeline.owing fun c : Dev nD => OW c 0) 0 g) = (tallyAt g () (n * unitOf g) : CellTallies nD τ sig Unit) := by
  unfold tallyAt
  refine congrArg _ (Finsupp.ext fun u => ?_)
  cases u
  rw [Pipeline.launchCredit_owing, Finsupp.single_eq_same, owed_cnt, h]

/-- The semaphores that receive units. -/
def smEmb : Unit ⊕ (Fin 6 × Fin 8) ↪ SemLoc sig :=
  ⟨fun k => match k with | .inl _ => .reg barS | .inr p => .dma (ix p.1 p.2), fun k l h => by
    match k, l, h with
    | .inl _, .inl _, _ => rfl
    | .inl _, .inr p, h => exact absurd h (by simp)
    | .inr p, .inl _, h => exact absurd h (by simp)
    | .inr p, .inr q, h =>
      have e := ix_inj (SemLoc.dma.inj h)
      exact congrArg Sum.inr (Prod.ext e.1 e.2)⟩

theorem creds_in (c : Dev nD) : (Pipeline.launchCred (fun c : Dev nD => OW c 0) c : sProp 𝕄) ⊢ creds c := by
  unfold Pipeline.launchCred
  refine BIBase.Entails.trans (bigSep_subset (Finset.subset_univ (Finset.univ.map smEmb))) ?_
  rw [bigSep_map, big_sum, bigSep_univ_prod, big_six]
  unfold creds
  have hb : (bigSep Finset.univ fun k : Unit => cred (tallyOn ((c : Thread nD τ), smEmb (.inl k)) (launchCredit (Pipeline.owing fun c : Dev nD => OW c 0) 0 ((c : Thread nD τ), smEmb (.inl k)))) : sProp 𝕄) ⊢ bcr c := by
    refine BIBase.Entails.trans (bigSep_elim (Finset.mem_univ ())) ?_
    show (cred (tallyOn (bcell c) (launchCredit (Pipeline.owing fun c : Dev nD => OW c 0) 0 (bcell c))) : sProp 𝕄) ⊢ _
    rw [credit_at (bcell c) _ (cnt_bar c), show unitOf (bcell c) = 1 by unfold unitOf; rfl, Nat.mul_one, ← tallyAt_add]
    unfold bcr
    refine BIBase.Entails.trans (cred_add _ _).1 (sep_mono_right ?_)
    cases inner c with
    | true => exact BIBase.Entails.refl
    | false => iintro -; rw [cond_false]; iempintro
  have hu (a : Fin 6) (s : Fin 8) : unitOf (dcell a s c) = uD a s := by
    unfold unitOf
    show uD (aOf (ix a s).val) (sOf (ix a s).val) = _
    rw [aOf_ix, sOf_ix]
  have hs (b : Bool) (s : Fin 8) : (cred (tallyOn (dcell (aR b) s c) (launchCredit (Pipeline.owing fun c : Dev nD => OW c 0) 0 (dcell (aR b) s c))) : sProp 𝕄) ⊢ slotCr b s c := by
    unfold slotCr
    cases hr : rcv b s c with
    | false => iintro -; rw [cond_false]; iempintro
    | true =>
      rw [cond_true, credit_at _ 1 (cnt_slot b s c hr), Nat.one_mul, hu, show uD (aR b) s = u128 by cases b <;> rfl]
  have hr (q : Fin 8) : (cred (tallyOn (dcell 5 q c) (launchCredit (Pipeline.owing fun c : Dev nD => OW c 0) 0 (dcell 5 q c))) : sProp 𝕄)
      ⊢ cred (tallyAt (dcell 5 q c) () (uD 5 q)) := by
    rw [credit_at _ 1 (cnt_row q c), Nat.one_mul, hu]
  iintro ⟨HB, -, H1, -, H3, -, H5⟩
  isplitl [HB]; · iapply hb; iexact HB
  isplitl [H1 H3]
  · isplitl [H1]
    · iapply (big_cong (hs false)); iexact H1
    · iapply (big_cong (hs true)); iexact H3
  iapply (big_cong hr); iexact H5

/-! ## The rights -/

/-- The device whose cell `(a, s)` a device pays. -/
def who (a : Fin 6) (s : Fin 8) (c : Dev nD) : Dev nD :=
  match a with | 1 => nx false c | 3 => nx true c | 5 => pd s c | _ => c
theorem who_inj : ∀ (a : Fin 6) (s : Fin 8), Function.Injective (who a s) := fun a s c c' h => by
  match a, h with
  | 0, h => exact h
  | 1, h => exact (nxE false).injective h
  | 2, h => exact h
  | 3, h => exact (nxE true).injective h
  | 4, h => exact h
  | 5, h => exact (pdE s).injective h
theorem nb_inj (i : Fin 4) : Function.Injective (nb i) := fun c c' h => by
  match i, h with
  | 0, h => exact pxE.injective h
  | 1, h => exact pyE.injective h
  | 2, h => exact (nxE true).injective h
  | 3, h => exact (nxE false).injective h

/-- The rights, by the device that pays. -/
def rtEmb : Dev nD × (Fin 4 ⊕ (Fin 6 × Fin 8)) ↪ GSem nD τ sig × ℕ × Fin 4 :=
  ⟨fun k => match k with | (c, .inl i) => (bcell (nb i c), 0, i) | (c, .inr p) => (dcell p.1 p.2 (who p.1 p.2 c), 0, 0), fun k l h => by
    match k, l, h with
    | (c, .inl i), (c', .inl i'), h =>
      obtain rfl : i = i' := congrArg (fun t : GSem nD τ sig × ℕ × Fin 4 => t.2.2) h
      have e : nb i c = nb i c' := congrArg (fun t : GSem nD τ sig × ℕ × Fin 4 => t.1.1.1) h
      rw [nb_inj i e]
    | (c, .inl i), (c', .inr p), h => exact absurd (congrArg (fun t : GSem nD τ sig × ℕ × Fin 4 => t.1.2) h) (by simp)
    | (c, .inr p), (c', .inl i), h => exact absurd (congrArg (fun t : GSem nD τ sig × ℕ × Fin 4 => t.1.2) h) (by simp)
    | (c, .inr p), (c', .inr q), h =>
      have e := ix_inj (SemLoc.dma.inj (congrArg (fun t : GSem nD τ sig × ℕ × Fin 4 => t.1.2) h))
      obtain rfl : p = q := Prod.ext e.1 e.2
      have e : who p.1 p.2 c = who p.1 p.2 c' := congrArg (fun t : GSem nD τ sig × ℕ × Fin 4 => t.1.1.1) h
      rw [who_inj _ _ e]⟩
def rights : Finset (GSem nD τ sig × ℕ × Fin 4) := Finset.univ.map rtEmb

theorem rights_in : (bigSep rights fun x => dutyTok ER x.1 x.2.1 x.2.2 : sProp 𝕄) ⊢ bigSep Finset.univ fun c : Dev nD => toks c := by
  unfold rights
  rw [bigSep_map, bigSep_univ_prod]
  refine big_cong fun c => ?_
  rw [big_sum, bigSep_univ_prod, big_six]
  unfold toks
  have hi (i : Fin 4) : (dutyTok ER (bcell (nb i c)) 0 i : sProp 𝕄) ⊢ sgT i c := by
    unfold sgT
    cases nbOk i c with
    | true => exact BIBase.Entails.refl
    | false => iintro -; rw [cond_false]; iempintro
  have hs (b : Bool) (s : Fin 8) : iprop(dutyTok ER (dcell (aS b) s c) 0 0 ∗ dutyTok ER (dcell (aR b) s (nx b c)) 0 0) ⊢ (slotTok b s c : sProp 𝕄) := by
    unfold slotTok
    cases snd b s c with
    | true => exact BIBase.Entails.refl
    | false => iintro -; rw [cond_false]; iempintro
  have two (f g h : Fin 8 → sProp 𝕄) (k : ∀ s, iprop(f s ∗ g s) ⊢ h s) : iprop(bigSep Finset.univ f ∗ bigSep Finset.univ g) ⊢ bigSep Finset.univ h :=
    BIBase.Entails.trans (Entails.of_eq (bigSep_sep' ..).symm) (big_cong k)
  iintro ⟨HB, H0, H1, H2, H3, H4, H5⟩
  isplitl [HB]; · iapply (big_cong hi); iexact HB
  isplitl [H0 H1 H2 H3]
  · isplitl [H0 H1]
    · iapply (two _ _ _ (hs false))
      isplitl [H0]; · iexact H0
      iexact H1
    · iapply (two _ _ _ (hs true))
      isplitl [H2]; · iexact H2
      iexact H3
  iapply (two _ _ _ (fun s => (BIBase.Entails.refl : (rowTok s c : sProp 𝕄) ⊢ rowTok s c)))
  isplitl [H4]; · iexact H4
  iexact H5

end Cert.Talk

end
-- ==== Proof.Run.lean ====
/- The program's run, from any memory to its end. -/
module

public import proofs.«01_k».proof.Proof.Deal

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The units each cell is owed at launch -/

attribute [local irreducible] OW okWait ord out

variable (m : (ℓ : Loc nD τ sig) → Buf (Elt F) ℓ) (ρ : Dev nD → PrngReg)

omit [FloatOps F] in
theorem split_all {ι : Type} [Fintype ι] {Φ Ψ : ι → sProp 𝕄} : (bigSep Finset.univ fun i => iprop(Φ i ∗ Ψ i)) ⊢ iprop(bigSep Finset.univ Φ ∗ bigSep Finset.univ Ψ) :=
  Entails.of_eq (bigSep_sep' ..)
omit [FloatOps F] in
theorem join_all {ι : Type} [Fintype ι] {Φ Ψ : ι → sProp 𝕄} : iprop(bigSep Finset.univ Φ ∗ bigSep Finset.univ Ψ) ⊢ bigSep Finset.univ fun i => iprop(Φ i ∗ Ψ i) :=
  Entails.of_eq (bigSep_sep' ..).symm

/-! ## The cells -/

def barEmb : Dev nD ↪ GSem nD τ sig := ⟨fun c => bcell c, fun _ _ h => congrArg (fun g : GSem nD τ sig => g.1.1) h⟩
def ownEmb : Dev nD × Fin 6 × Fin 8 ↪ GSem nD τ sig :=
  ⟨fun p => dcell p.2.1 p.2.2 p.1, fun p q h => by
    have e := ix_inj (SemLoc.dma.inj (congrArg (fun g : GSem nD τ sig => g.2) h))
    exact Prod.ext (congrArg (fun g : GSem nD τ sig => g.1.1) h) (Prod.ext e.1 e.2)⟩
/-- The barrier cells stand open from the start; the kernel's own are dormant until the kernel is entered. -/
def barCells : Finset (GSem nD τ sig) := Finset.univ.map barEmb
def ownCells : Finset (GSem nD τ sig) := Finset.univ.map ownEmb
theorem cells_apart : Disjoint barCells ownCells := by
  rw [Finset.disjoint_left]
  intro g h h'
  obtain ⟨c, -, rfl⟩ := Finset.mem_map.mp h
  obtain ⟨p, -, h⟩ := Finset.mem_map.mp h'
  exact absurd (congrArg (fun g : GSem nD τ sig => g.2) h) (by simp [ownEmb, barEmb])

/-- The ghost state at launch. -/
def u₀ : UU :=
  (initOf (Pipeline.cells (Pipeline.pin (pcfgs (F := F)) adm) cellOf_inj) (Pipeline.launchToks (Pipeline.pin (pcfgs (F := F)) adm) cellOf_inj),
    launchOf barCells ownCells rights)
/-- The protocol's part of it, kept by the first device until it is dealt. -/
def park (c : Dev nD) : sProp 𝕄 := if c = 0 then BI.own (ER (launchOf barCells ownCells rights)) else iprop(emp)
omit [FloatOps F] in
theorem park_all : bigSep Finset.univ (park (F := F)) = BI.own (ER (launchOf barCells ownCells rights)) := by
  rw [bigSep_univ_at _ 0, bigSep_congr (s := Finset.univ.erase 0) (Ψ := fun _ => (BI.emp : sProp 𝕄))
    fun c hc => by unfold park; rw [if_neg (Finset.ne_of_mem_erase hc)]; rfl, BI.bigSep_emp_const]
  unfold park
  rw [if_pos rfl]
  exact BI.equiv_iff.mp sep_emp

theorem shared_in (κ : GSem nD τ sig → ℕ) :
    iprop((bigSep (barCells ∪ ownCells) fun g => cellInv ER (Rd (Xm m) (Gm m)) (κ g) g) ∗ bigSep barCells fun g => reached ER g 0)
      ⊢ (shared m κ : sProp 𝕄) := by
  have e := bigSep_union (Φ := fun g => (cellInv ER (Rd (Xm m) (Gm m)) (κ g) g : sProp 𝕄)) cells_apart
  unfold barCells ownCells at e
  rw [bigSep_map, bigSep_map] at e
  have e' : (bigSep (barCells ∪ ownCells) fun g => (cellInv ER (Rd (Xm m) (Gm m)) (κ g) g : sProp 𝕄))
      ⊢ iprop((bigSep Finset.univ fun d : Dev nD => cellInv ER (Rd (Xm m) (Gm m)) (κ (bcell d)) (bcell d))
        ∗ bigSep Finset.univ fun p : Dev nD × Fin 6 × Fin 8 => cellInv ER (Rd (Xm m) (Gm m)) (κ (dcell p.2.1 p.2.2 p.1)) (dcell p.2.1 p.2.2 p.1)) :=
    Entails.of_eq e
  have er : (bigSep barCells fun g => (reached ER g 0 : sProp 𝕄)) ⊢ bigSep Finset.univ fun d : Dev nD => reached ER (bcell d) 0 :=
    Entails.of_eq (bigSep_map ..)
  unfold shared
  iintro ⟨HI, HR⟩
  ihave HI := e' $$ HI
  icases HI with ⟨HB, HD⟩
  isplitl [HD]; · iexact HD
  isplitl [HB]; · iexact HB
  iapply er; iexact HR

/-! ## What rides along -/

/-- Up to the kernel; -/
def E0 (c : Dev nD) : sProp 𝕄 := iprop(Tk m c ∗ (∃ W, owes (c : Thread nD τ) (OW c 0) W) ∗ ∃ r, prngReg c r)
/-- and after it. -/
def E1 (c : Dev nD) : sProp 𝕄 := iprop(semVal (bcell c) 0 ∗ ∃ W, owes (c : Thread nD τ) (0 : CellTallies nD τ sig Unit) W)
def E : Fin 2 → Dev nD → sProp 𝕄 := fun | 0 => E0 m | 1 => E1

omit [FloatOps F] in
theorem unscoped_bar (c : Dev nD) : (unscopedSems0 c : sProp 𝕄) = semVal (bcell c) 0 := by
  unfold unscopedSems0
  rw [show (Finset.univ.filter fun sm : SemLoc sig => ¬ sm.isScoped .tc) = {SemLoc.reg barS} from by decide +kernel, BI.bigSep_singleton]
theorem only_bar : ∀ sm : SemLoc sig, sm.isScoped .tc = false → sm = .reg barS := by decide +kernel

/-- What a device keeps to itself of the deal. -/
def mine (c : Dev nD) : sProp 𝕄 :=
  iprop(atPos ER (bcell c) 0 ∅ 0 ∗ (bigSep Finset.univ fun p : Fin 6 × Fin 8 => openTok ER (dcell p.1 p.2 c)) ∗ toks c)
/-- What of a device's launch holdings is no protocol state. -/
def rest (c : Dev nD) : sProp 𝕄 := iprop(creds c ∗ owes (c : Thread nD τ) (OW c 0) ∅ ∗ ∃ r, prngReg c r)
theorem E0_in (κ : GSem nD τ sig → ℕ) (c : Dev nD) : iprop(shared m κ ∗ (mine c ∗ rest c)) ⊢ (E0 m c : sProp 𝕄) := by
  unfold mine rest E0 Tk ghost
  iintro ⟨HS, ⟨HB, HO, HT⟩, Hc, Ho, Hp⟩
  isplitl [HS HB HO HT Hc]
  · isplitr [Hc]
    · iexists κ
      isplitl [HS]; · iexact HS
      isplitl [HB]; · iexact HB
      isplitl [HO] <;> iassumption
    iexact Hc
  isplitl [Ho]
  · iexists ∅; iexact Ho
  iexact Hp

theorem deal : iprop((bigSep Finset.univ fun c : Dev nD => iprop(unscopedSems0 c ∗ owes (c : Thread nD τ) (OW c 0) ∅
        ∗ Pipeline.launchCred (fun c => OW c 0) c ∗ prngReg c (ρ c) ∗ park c)) ∗ levAts L lv)
      ⊢ (|={Set.univ}=> bigSep Finset.univ (E0 m) : sProp 𝕄) := by
  have one (c : Dev nD) : iprop(unscopedSems0 c ∗ owes (c : Thread nD τ) (OW c 0) ∅ ∗ Pipeline.launchCred (fun c => OW c 0) c ∗ prngReg c (ρ c) ∗ park c)
      ⊢ (iprop(rest c ∗ (semVal (bcell c) 0 ∗ park c)) : sProp 𝕄) := by
    rw [unscoped_bar]
    unfold rest
    iintro ⟨Hv, HO, Hc, Hp, HG⟩
    isplitr [Hv HG]
    · isplitl [Hc]; · iapply (creds_in c); iexact Hc
      isplitl [HO]; · iexact HO
      iexists ρ c; iexact Hp
    isplitl [Hv] <;> iassumption
  have hv : bigSep Finset.univ (fun c : Dev nD => (semVal (bcell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have ha : bigSep barCells (fun g => (atPos ER g 0 ∅ 0 : sProp 𝕄)) ⊢ bigSep Finset.univ (fun c : Dev nD => (atPos ER (bcell c) 0 ∅ 0 : sProp 𝕄)) :=
    Entails.of_eq (bigSep_map (s := Finset.univ) barEmb (Φ := fun g : GSem nD τ sig => (atPos ER g 0 ∅ 0 : sProp 𝕄)))
  have ho : bigSep ownCells (fun g => (openTok ER g : sProp 𝕄))
      ⊢ bigSep Finset.univ (fun c : Dev nD => (bigSep Finset.univ fun p : Fin 6 × Fin 8 => openTok ER (dcell p.1 p.2 c) : sProp 𝕄)) :=
    Entails.of_eq (by unfold ownCells; rw [bigSep_map, bigSep_univ_prod]; rfl)
  iintro ⟨H, -⟩
  ihave H := (big_cong one) $$ H
  ihave H := split_all $$ H
  icases H with ⟨HB, H⟩
  ihave H := split_all $$ H
  icases H with ⟨Hv, HG⟩
  ihave Hu := (show bigSep Finset.univ (park (F := F)) ⊢ BI.own (ER (launchOf barCells ownCells rights)) from Entails.of_eq park_all) $$ HG
  imod (Rounds.fund_launch ER (Rd (Xm m) (Gm m)) cells_apart (fun g _ h => h) rights) $$ [Hv Hu] with ⟨%κ, -, #HI, #HR, Ha, Ho, Ht⟩
  · isplitl [Hv]; · iapply hv; iexact Hv
    iexact Hu
  imodintro
  iapply (bigSep_with_persistent (R := shared m κ) (Φ := fun c => iprop(mine c ∗ rest c)) fun c _ => E0_in m κ c)
  isplitr
  · iapply (shared_in m κ)
    isplitr; · iexact HI
    iexact HR
  iapply join_all
  isplitr [HB]
  · unfold mine
    iapply join_all; isplitl [Ha]; · iapply ha; iexact Ha
    iapply join_all; isplitl [Ho]; · iapply ho; iexact Ho
    iapply rights_in; iexact Ht
  iexact HB

/-! ## The chain of the items -/

omit [FloatOps F] in
theorem refs_sub : Pipeline.arrRefs (τ := τ) spec0 ⊆ Pipeline.ucRefs τ sig := by decide +kernel
theorem pre_in (c : Dev nD) : iprop(StableHlo.held (c : Thread nD τ) (Pipeline.ucRefs τ sig) (V1 m c) ∗ E0 m c) ⊢ (reg0 m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) others (V1 m c) ∗ emp) ∗ Tk m c ∗ ∃ Wd, owes (c : Thread nD τ) (0 + OW c 0) Wd)
  rw [zero_add, StableHlo.held_sub_split (c.tc : Thread nD τ) refs_sub (V1 m c)]
  unfold E0 others
  iintro ⟨⟨HA, HR⟩, HT, HO, Hp⟩
  isplitl [HA]; · iexact HA
  isplitl [Hp]; · iexact Hp
  isplitl [HR]
  · isplitl [HR]; · iexact HR
    iempintro
  isplitl [HT]; · iexact HT
  iexact HO
theorem post_out (c : Dev nD) : (reg0 m).post c ⊢ iprop(StableHlo.held (c : Thread nD τ) (Pipeline.ucRefs τ sig) (V2 m (outs m) c) ∗ E1 c) := by
  show iprop(StableHlo.held (c.tc : Thread nD τ) (Pipeline.arrRefs (τ := τ) (pcfgs (F := F) 0).spec) (V2 m (outs m) c) ∗ (∃ r, prngReg c r)
    ∗ (StableHlo.held (c.tc : Thread nD τ) others (V2 m (outs m) c) ∗ emp) ∗ Yk c ∗ ∃ Wd, owes (c : Thread nD τ) (0 : CellTallies nD τ sig Unit) Wd) ⊢ _
  rw [StableHlo.held_sub_split (c.tc : Thread nD τ) refs_sub (V2 m (outs m) c)]
  unfold E1 Yk others
  iintro ⟨HA, -, ⟨HR, -⟩, Hb, HO⟩
  isplitl [HA HR]
  · isplitl [HA]; · iexact HA
    iexact HR
  isplitl [Hb] <;> iassumption

set_option backward.isDefEq.respectTransparency.types false in
/-- The program from any memory: it ends, the arguments are unchanged, the result holds `out`, every counter is zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v18) = (out (Xm m) (Gm m) (zz c) : Vec F S1024x1024 .bf16)) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg0 m))
    (fun c Q => by
      rewrite [main_chain c, Pipeline.Seg.run_eq_chain,
        show (segs m 𝒱₀ L lv (E m) () (pdats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) (fun c => OW c 0) L_of_ne park (u₀ (F := F))
    ?_
    (T₀ := fun c => iprop(StableHlo.held (c : Thread nD τ) (Pipeline.ucRefs τ sig) (V0 m c) ∗ E0 m c))
    (Tₙ := fun c => iprop(StableHlo.held (c : Thread nD τ) (Pipeline.ucRefs τ sig) (V2 m (outs m) c) ∗ semVal (bcell c) 0))
    (hch := fun c => ⟨.rfl, pre_in m c, (post_out m c).trans ?_⟩)
    (hinit := ?_) (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v18) = (out (Xm m) (Gm m) (zz c) : Vec F S1024x1024 .bf16)) ∧ s.sem (bcell c) = 0)
    (hfin := fun c s' => ?_) (hQ := fun s h hs => ⟨fun c => (h c).1, sem_eq_zero hs fun c sm hsm => by
        obtain rfl := only_bar sm hsm
        exact (h c).2⟩)
  · unfold u₀
    iintro Hu
    ihave H := (ownU_pair _ _) $$ Hu
    icases H with ⟨HP, HX⟩
    imodintro
    isplitl [HP]; · iexact HP
    rw [park_all]; iexact HX
  · unfold E1
    iintro ⟨Hh, Hb, HO⟩
    isplitr [HO]
    · isplitl [Hh] <;> iassumption
    iexact HO
  · have hs : (bigSep Finset.univ fun c : Dev nD => iprop(unscopedBufs c (fun b => m ((c.tc : Thread nD τ).loc b)) ∗ unscopedSems0 c
          ∗ owes (c.tc : Thread nD τ) (OW c 0) ∅ ∗ Pipeline.launchCred (fun c => OW c 0) c ∗ prngReg c (ρ c) ∗ park c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (OW c 0) ∅
              ∗ Pipeline.launchCred (fun c => OW c 0) c ∗ prngReg c (ρ c) ∗ park c)) : sProp 𝕄) := by
      rw [← bigSep_sep']
      exact bigSep_mono fun c _ => by rw [← Pipeline.unscopedBufs_held c (V0 m c)]; exact BI.Entails.refl _
    iintro ⟨H, HL⟩
    ihave H := hs $$ H
    icases H with ⟨Hh, Hr⟩
    imod (deal m ρ) $$ [Hr HL] with HE
    · isplitl [Hr]; · iexact Hr
      iexact HL
    imodintro
    iapply join_all
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    imodintro
    isplitr
    · ipureintro
      exact ⟨⟨(h (Proc.devRef .tc main_arg0) (by decide +kernel)).trans (V2_main_arg0 m (outs m) c),
        (h (Proc.devRef .tc main_arg1) (by decide +kernel)).trans (V2_main_arg1 m (outs m) c),
        (h (Proc.devRef .tc main_v18) (by decide +kernel)).trans ((arr_last m c 2).symm.trans (arr_out m c))⟩, by simpa using hb⟩
    iexact HSI

end Cert.Talk

end
-- ==== Proof.Frames.lean ====
/- The frames of the two readings of the kernel. -/
module

public import proofs.«01_k».proof.Defs
public import proofs.«01_k».proof.Proof.Gen.Kernel
public import proofs.«01_k».proof.Proof.Run

@[expose] public section

noncomputable section

namespace Cert.Talk

open Idealize.ShloMosaic Idealize.SL.Sem

/-- The two printed bodies are one program. -/
theorem body_eq {F : FTy → Type} [FloatOps F] : @Cert.Kernel.cc0_body F _ _ = @Cert.KernelIdeal.cc0_body F _ _ := rfl

/-- And so are the two tables of bodies. -/
theorem defs0_eq {F : FTy → Type} [FloatOps F] : @Cert.Kernel.defs₀ F _ _ = @Cert.KernelIdeal.defs₀ F _ _ := by
  unfold Cert.Kernel.defs₀ Cert.KernelIdeal.defs₀
  refine congrArg (fun f => Defs.onTc (nD := Cert.KernelIdeal.nD) (τ := Cert.KernelIdeal.τ) (sig := Cert.KernelIdeal.sig) f) ?_
  funext l
  match l with
  | ⟨0, h⟩ =>
    funext a
    obtain ⟨t, s⟩ := a
    change @Cert.Kernel.cc0_body F _ _ _ _ _ _ _ _ _ _ _ _ _ _ _ _ _ _ = _
    rw [body_eq]

/-- The two tables with the regions and the pipelines. -/
theorem defs_eq {F : FTy → Type} [FloatOps F] : @Cert.Kernel.defs F _ _ = @Cert.KernelIdeal.defs F _ _ := by
  unfold Cert.Kernel.defs Cert.KernelIdeal.defs
  rw [defs0_eq]
  rfl

/-- The two host programs. -/
theorem main_eq {F : FTy → Type} [FloatOps F] : @Cert.Kernel.main F _ = @Cert.KernelIdeal.main F _ := rfl

/-- The kernel at the bit-exact instance. -/
theorem frame_kernel : Cert.quiescent_Kernel := fun m g _ => by
  rw [defs_eq, main_eq]
  exact (θ_run Cert.KernelIdeal.defs _ _).mono (fun _ h => ⟨fun c => ⟨(h.1 c).1, (h.1 c).2.1⟩, h.2⟩)
    (run_main (F := Bits) m g)

/-- The kernel at the ideal instance. -/
theorem frame_kernelIdeal : Cert.quiescent_KernelIdeal := fun m g _ =>
  (θ_run Cert.KernelIdeal.defs _ _).mono (fun _ h => ⟨fun c => ⟨(h.1 c).1, (h.1 c).2.1⟩, h.2⟩)
    (run_main (F := Ideal) m g)

end Cert.Talk

end
-- ==== Proof.Reference.lean ====
/- The reference's frame: its generated run, with the counters, of which it has none. -/
module

public import proofs.«01_k».proof.Defs
public import proofs.«01_k».proof.Proof.Gen.ReferenceIdeal.Run
public import Idealize.ShloMosaic.Lib.Quiescent

@[expose] public section

noncomputable section

namespace Cert.Talk

open Idealize.ShloMosaic Idealize.SL.Sem

/-- The reference at the ideal instance. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

end Cert.Talk

end
-- ==== Proof.Norm.lean ====
/- The norm of a row over the extended reals: the product with the inverse root is the quotient by the root. -/
module

public import Idealize.ShloMosaic.Lib.Pointwise
public import Idealize.ShloMosaic.PureOps.Ideal

@[expose] public section

noncomputable section

namespace Cert.Talk

open Idealize.ShloMosaic

/-- The length of a row, and the number under the root. -/
abbrev rowLen : EReal := Ideal.ofBits FTy.f32 1149239296#32
abbrev small : EReal := Ideal.ofBits FTy.f32 897988541#32

theorem rowLen_eq : ∃ r : ℝ, 0 < r ∧ rowLen = (r : EReal) := by
  refine ⟨_, ?_, rfl⟩
  norm_num
  rw [if_neg (by decide)]
  positivity

theorem small_eq : ∃ r : ℝ, 0 < r ∧ small = (r : EReal) := by
  refine ⟨_, ?_, rfl⟩
  norm_num
  rw [if_neg (by decide)]
  positivity

theorem sq_nonneg' (a : EReal) : 0 ≤ a * a := by
  rcases le_total 0 a with h | h
  · exact mul_nonneg h h
  · induction a with
    | bot => exact le_top
    | top => exact le_top
    | coe r => exact_mod_cast mul_self_nonneg r

/-- The mean square is not negative. -/
theorem mean_nonneg (y : Fin 1024 → EReal) : 0 ≤ Ideal.div (∑ x, y x * y x) rowLen := by
  obtain ⟨r, hr, e⟩ := rowLen_eq
  have hs : 0 ≤ ∑ x, y x * y x := Finset.sum_nonneg fun x _ => sq_nonneg' (y x)
  unfold Ideal.div
  rw [e, if_neg (by exact_mod_cast hr.ne')]
  exact mul_nonneg hs (EReal.inv_nonneg_of_nonneg (by exact_mod_cast hr.le))

theorem div_sqrt (v a : EReal) (ha : 0 ≤ a) : Ideal.div v (Ideal.sqrt (a + small)) = v * Ideal.rsqrt (a + small) := by
  obtain ⟨r, hr, e⟩ := small_eq
  rw [e]
  induction a with
  | bot => exact absurd ha (by simp)
  | top =>
    have h : (⊤ : EReal) + (r : EReal) = ⊤ := EReal.top_add_coe r
    rw [h]
    show Ideal.div v ⊤ = v * 0
    unfold Ideal.div
    rw [if_neg (by simp), EReal.inv_top]
  | coe q =>
    have hq : 0 ≤ q := by exact_mod_cast ha
    have hp : 0 < q + r := by linarith
    have h : (q : EReal) + (r : EReal) = ((q + r : ℝ) : EReal) := by push_cast; rfl
    rw [h]
    have e1 : Ideal.sqrt ((q + r : ℝ) : EReal) = ((Real.sqrt (q + r) : ℝ) : EReal) := by
      show (if q + r < 0 then ⊥ else _) = _
      rw [if_neg (not_lt.2 hp.le)]
    have e2 : Ideal.rsqrt ((q + r : ℝ) : EReal) = (((Real.sqrt (q + r))⁻¹ : ℝ) : EReal) := by
      show (if q + r < 0 then ⊥ else if q + r = 0 then ⊤ else _) = _
      rw [if_neg (not_lt.2 hp.le), if_neg hp.ne']
    rw [e1, e2]
    unfold Ideal.div
    have hs : 0 < Real.sqrt (q + r) := Real.sqrt_pos.2 hp
    rw [if_neg (by exact_mod_cast hs.ne'), EReal.coe_inv]

/-- One element of a normalised row. -/
def nrm (y : Fin 1024 → EReal) (k : Fin 1024) (g : EReal) : EReal :=
  y k * Ideal.rsqrt (Ideal.div (∑ x, y x * y x) rowLen + small) * g

theorem nrm_eq (y : Fin 1024 → EReal) (k : Fin 1024) (g : EReal) :
    Ideal.div (y k) (Ideal.sqrt (Ideal.div (∑ x, y x * y x) rowLen + small)) * g = nrm y k g := by
  unfold nrm
  rw [div_sqrt _ _ (mean_nonneg y)]

end Cert.Talk

end
-- ==== Proof.Host.lean ====
/- What the host hands the launch: the device's own rows of the first argument, and the second as a row. -/
module

public import proofs.«01_k».proof.Proof.Region
public import proofs.«01_k».proof.Proof.Norm
public import Idealize.ShloMosaic.Lib.Pointwise
public import Idealize.ShloMosaic.Lib.DynamicIndex
public import Idealize.ShloMosaic.Lib.StableHlo.Run

@[expose] public section

noncomputable section

namespace Cert.Talk

open Idealize.ShloMosaic Idealize.SL.Sem Idealize.ShloMosaic.TcCoe

open Cert.KernelIdeal Cert.KernelIdeal.Gen

variable {F : FTy → Type} [FloatOps F]
variable (m : (ℓ : Loc nD τ sig) → Buf (Elt F) ℓ)

/-- Where the host's slice starts. -/
def starts (c : Dev nD) (k : Fin 4) : ℤ := ![0, (c.val / 4 : ℕ), 0, 0] k

/-- The host's arithmetic on the device's number. -/
def word (c : Dev nD) : IVec S_ 32 :=
  let a : IVec S_ 32 := addi
    (muli (constantI S_ 32 2#32) (Host.remui (Host.divui (constantI S_ 32 (Dev.word c)) (constantI S_ 32 8#32)) (constantI S_ 32 2#32)))
    (Host.remui (Host.divui (constantI S_ 32 (Dev.word c)) (constantI S_ 32 4#32)) (constantI S_ 32 2#32))
  select (cmpi .slt a (constantI S_ 32 0#32)) (addi a (constantI S_ 32 4#32)) a

/-- It names the block `c / 4`. -/
theorem start_word (c : Dev nD) : BitVec.toInt (word c (Shape.Idx.first h_S_)) = starts c 1 := by
  revert c; decide +kernel

set_option maxHeartbeats 2000000 in
/-- The first operand, as the host cuts it. -/
theorem Xm_eq (c : Dev nD) : Xm m c = (shapeCast S4x256x1024 (Host.dynamicSlice S4x1x256x1024 (shapeCast S4x4x256x1024 (m ((c.tc : Thread nD τ).loc main_arg0) : Vec F S1x4096x1024 .bf16) shapeCasts_S1x4096x1024_S4x4x256x1024) (starts c) sliceFits_S4x4x256x1024_S4x1x256x1024) shapeCasts_S4x1x256x1024_S4x256x1024 : Vec F S4x256x1024 .bf16) := by
  unfold Xm
  after_results
  refine congrArg (fun s => shapeCast S4x256x1024 (Host.dynamicSlice S4x1x256x1024 (shapeCast S4x4x256x1024 (m ((c.tc : Thread nD τ).loc main_arg0) : Vec F S1x4096x1024 .bf16) shapeCasts_S1x4096x1024_S4x4x256x1024) s sliceFits_S4x4x256x1024_S4x1x256x1024) shapeCasts_S4x1x256x1024_S4x256x1024) ?_
  funext k
  match k with
  | 0 =>
    after_results
    rfl
  | 1 =>
    after_results
    change BitVec.toInt ((HloOp.result (StableHlo.ternary main_v12 main_v13 main_v10 main_v14 select _ _ _ _) _ (Proc.devRef .tc main_v14) : Vec F S_ .i32) (Shape.Idx.first h_S_)) = _
    repeat (first
      | rw [StableHlo.nullary_result] | rw [StableHlo.unary_result] | rw [StableHlo.binary_result] | rw [StableHlo.ternary_result]
      | (rw [StableHlo.nullary_result_ne]; rotate_left; decide) | (rw [StableHlo.unary_result_ne]; rotate_left; decide)
      | (rw [StableHlo.binary_result_ne]; rotate_left; decide) | (rw [StableHlo.reshape_result_ne]; rotate_left; decide))
    exact start_word c
  | 2 =>
    after_results
    rfl
  | 3 =>
    after_results
    rfl

/-- The second operand. -/
theorem Gm_eq (c : Dev nD) : Gm m c = (shapeCast S1x1024 (m ((c.tc : Thread nD τ).loc main_arg1) : Vec F S1024 .bf16) shapeCasts_S1024_S1x1024 : Vec F S1x1024 .bf16) := by
  unfold Gm
  after_results
  rfl

/-- The block is inside. -/
theorem sliceOff (c : Dev nD) : S4x4x256x1024.Slices ![0, c.val / 4, 0, 0] S4x1x256x1024 := by
  revert c; decide +kernel
/-- The rows the launch reads of the first argument: block `c / 4` of the four, in each of the four slabs. -/
theorem Xm_at (c : Dev nD) (j : Fin 4) (q : Fin 256) (k : Fin 1024) (n : Fin 4096) (hn : n.val = 1024 * j.val + 256 * (c.val / 4) + q.val) :
    Xm m c (ix3 j q k) = (m ((c.tc : Thread nD τ).loc main_arg0) : Vec F S1x4096x1024 .bf16) (ix3 0 n k) := by
  have hc : c.val < 16 := c.isLt
  rw [Xm_eq, Host.dynamicSlice_eq_extractStridedSlice (off := ![0, c.val / 4, 0, 0]) (hoff := sliceOff c) (hs := fun a => by match a with | 0 => rfl | 1 => rfl | 2 => rfl | 3 => rfl)]
  refine (shapeCast_apply _ shapeCasts_S4x1x256x1024_S4x256x1024 (ix3 j q k) (ix4 j (0 : Fin 1) q k) ?_).trans ?_
  · rw [Shape.rowMajor_val_three, Shape.rowMajor_val_four]
    show ((j.val * 1 + 0) * 256 + q.val) * 1024 + k.val = (j.val * 256 + q.val) * 1024 + k.val
    omega
  refine (extractStridedSlice_apply _ _ (sliceOff c) (ix4 j (0 : Fin 1) q k) (ix4 j (⟨c.val / 4, by omega⟩ : Fin 4) q k) ?_).trans ?_
  · intro a
    match a with
    | 0 => exact (Nat.zero_add _).symm
    | 1 => rfl
    | 2 => exact (Nat.zero_add _).symm
    | 3 => exact (Nat.zero_add _).symm
  refine shapeCast_apply _ shapeCasts_S1x4096x1024_S4x4x256x1024 _ (ix3 (0 : Fin 1) n k) ?_
  rw [Shape.rowMajor_val_three, Shape.rowMajor_val_four]
  show (0 * 4096 + n.val) * 1024 + k.val = ((j.val * 4 + c.val / 4) * 256 + q.val) * 1024 + k.val
  omega

/-- The launch reads the second argument whole. -/
theorem Gm_at (c : Dev nD) (k : Fin 1024) : Gm m c (ix2 0 k) = (m ((c.tc : Thread nD τ).loc main_arg1) : Vec F S1024 .bf16) (ix1 k) := by
  rw [Gm_eq]
  pointwise

end Cert.Talk

end
-- ==== Proof.Terms.lean ====
/- What the kernel's arithmetic says of one element, over the extended reals. -/
module

public import proofs.«01_k».proof.Proof.Vals
public import proofs.«01_k».proof.Proof.Norm

@[expose] public section

noncomputable section

namespace Cert.Talk

open Idealize.ShloMosaic
open Cert.KernelIdeal Cert.KernelIdeal.Gen

/-! ## The payloads at an element -/

theorem pay7_at (v : FVec Ideal S1x128x1024 .bf16) (p : Fin 128) (k : Fin 1024) :
    k0_pay7 (F := Ideal) v (ix3 0 p k) = v (ix3 0 p k) := by
  pointwise [k0_pay7]

theorem pay1_at (v w : FVec Ideal S1x128x1024 .bf16) (p : Fin 128) (k : Fin 1024) :
    k0_pay1 (F := Ideal) v w (ix3 0 p k) = v (ix3 0 p k) + w (ix3 0 p k) := by
  pointwise [k0_pay1]

theorem pay43_at (v w : FVec Ideal S1x128x1024 .bf16) (g : FVec Ideal S1x1024 .bf16) (p : Fin 128) (k : Fin 1024) :
    k0_pay43 (F := Ideal) v w g (ix2 p k) = nrm (fun x => v (ix3 0 p x) + w (ix3 0 p x)) k (g (ix2 0 k)) := by
  pointwise [k0_pay43]
  rfl

theorem pay44_at (v w u : FVec Ideal S1x128x1024 .bf16) (g : FVec Ideal S1x1024 .bf16) (p : Fin 128) (k : Fin 1024) :
    k0_pay44 (F := Ideal) v w u g (ix2 p k)
      = nrm (fun x => v (ix3 0 p x) + w (ix3 0 p x) + u (ix3 0 p x)) k (g (ix2 0 k)) := by
  pointwise [k0_pay44]
  rfl

/-! ## The chains -/

theorem up_dv {r z : ℕ} (hz : z < 3) : up (dv r z) = dv r (z + 1) := Fin.ext (by
  show (4 * (r % 4) + z % 4) % 16 / 4 * 4 + ((4 * (r % 4) + z % 4) % 16 + 1) % 4 = (4 * (r % 4) + (z + 1) % 4) % 16
  omega)
theorem dn_dv {r z : ℕ} (hz : z < 3) : dn (dv r (z + 1)) = dv r z := Fin.ext (by
  show (4 * (r % 4) + (z + 1) % 4) % 16 / 4 * 4 + ((4 * (r % 4) + (z + 1) % 4) % 16 + 3) % 4 = (4 * (r % 4) + z % 4) % 16
  omega)
theorem zz_dv {r z : ℕ} (hz : z < 4) : zz (dv r z) = z := by
  show (4 * (r % 4) + z % 4) % 16 % 4 = z
  omega

variable (X : Dev nD → Vec Ideal S4x256x1024 .bf16) (G : Dev nD → Vec Ideal S1x1024 .bf16)

theorem sv_zero (b : Bool) (s : Fin 8) (c : Dev nD) (p : Fin 128) (k : Fin 1024) :
    sv X b s 0 c (ix3 0 p k) = xch (X c) (jS s) (hS s) (ix3 0 p k) := pay7_at _ p k
theorem sv_succ (b : Bool) (s : Fin 8) (n : ℕ) (c : Dev nD) (p : Fin 128) (k : Fin 1024) :
    sv X b s (n + 1) c (ix3 0 p k) = sv X b s n (pv b c) (ix3 0 p k) + xch (X c) (jS s) (hS s) (ix3 0 p k) :=
  pay1_at _ _ p k

theorem jS_sl (j : Fin 4) (h : Fin 2) : jS (sl j h) = j := by revert j h; decide
theorem hS_sl (j : Fin 4) (h : Fin 2) : hS (sl j h) = h := by revert j h; decide

/-- The sum over the four places of an element of chunk `j` of the devices of plane block `r`. -/
def colSum (r : ℕ) (j : Fin 4) (h : Fin 2) (p : Fin 128) (k : Fin 1024) : EReal :=
  ∑ z : Fin 4, (xch (X (dv r z.val)) j h (ix3 0 p k) : EReal)

theorem colSum_eq (r : ℕ) (j : Fin 4) (h : Fin 2) (p : Fin 128) (k : Fin 1024) :
    colSum X r j h p k = (xch (X (dv r 0)) j h (ix3 0 p k) : EReal) + xch (X (dv r 1)) j h (ix3 0 p k)
      + xch (X (dv r 2)) j h (ix3 0 p k) + xch (X (dv r 3)) j h (ix3 0 p k) := by
  unfold colSum
  rw [Fin.sum_univ_four]
  rfl

/-- What the upward chain hands a device, and the downward chain. -/
theorem got_up (s : Fin 8) (r z : ℕ) (hz : z < 3) : got X false s (dv r (z + 1)) = sv X false s z (dv r z) := by
  unfold got sent
  show sv X false s (pos false (dn (dv r (z + 1)))) (dn (dv r (z + 1))) = _
  rw [dn_dv hz]
  show sv X false s (zz (dv r z)) (dv r z) = _
  rw [zz_dv (by omega)]
theorem got_dn (s : Fin 8) (r z : ℕ) (hz : z < 3) : got X true s (dv r z) = sv X true s (2 - z) (dv r (z + 1)) := by
  unfold got sent
  show sv X true s (pos true (up (dv r z))) (up (dv r z)) = _
  rw [up_dv hz]
  show sv X true s (3 - zz (dv r (z + 1))) (dv r (z + 1)) = _
  rw [zz_dv (by omega)]
  congr 1
  omega

theorem pv_up {r z : ℕ} (hz : z < 3) : pv false (dv r (z + 1)) = dv r z := dn_dv hz
theorem pv_dn {r z : ℕ} (hz : z < 3) : pv true (dv r z) = dv r (z + 1) := up_dv hz

/-- The normalised rows at an element: the norm of the sum over the places. -/
theorem fv_at (r : ℕ) (z : Fin 4) (h : Fin 2) (p : Fin 128) (k : Fin 1024) :
    fv X G h (dv r z.val) (ix2 p k) = nrm (colSum X r z h p) k (gch (G (dv r z.val)) (ix2 0 k)) := by
  have key : ∀ {f f' : Fin 1024 → EReal} {g : EReal}, (∀ x, f x = f' x) → nrm f k g = nrm f' k g :=
    fun e => by rw [funext e]
  match z with
  | 0 =>
    change fv X G h (dv r 0) (ix2 p k) = nrm (colSum X r 0 h p) k (gch (G (dv r 0)) (ix2 0 k))
    rw [fv0 X G h _ (zz_dv (by decide)), pay43_at]
    refine key fun x => ?_
    rw [colSum_eq, got_dn X _ r 0 (by decide)]
    show _ + sv X true (sl 0 h) (0 + 1 + 1) (dv r (0 + 1)) (ix3 0 p x) = _
    rw [sv_succ, pv_dn (by decide), sv_succ, pv_dn (by decide), sv_zero, jS_sl, hS_sl]
    show (_ : EReal) + (_ + _ + _) = _
    simp only [Nat.reduceAdd]
    ac_rfl
  | 1 =>
    change fv X G h (dv r 1) (ix2 p k) = nrm (colSum X r 1 h p) k (gch (G (dv r 1)) (ix2 0 k))
    rw [fv1 X G h _ (zz_dv (by decide)), pay44_at]
    refine key fun x => ?_
    rw [colSum_eq, got_dn X _ r 1 (by decide), got_up X _ r 0 (by decide)]
    show _ + sv X true (sl 1 h) (0 + 1) (dv r (1 + 1)) (ix3 0 p x) = _
    rw [sv_succ, pv_dn (by decide), sv_zero, sv_zero, jS_sl, hS_sl]
    show (_ : EReal) + _ + (_ + _) = _
    ac_rfl
  | 2 =>
    change fv X G h (dv r 2) (ix2 p k) = nrm (colSum X r 2 h p) k (gch (G (dv r 2)) (ix2 0 k))
    rw [fv2 X G h _ (zz_dv (by decide)), pay44_at]
    refine key fun x => ?_
    rw [colSum_eq, got_dn X _ r 2 (by decide), got_up X _ r 1 (by decide)]
    show _ + sv X false (sl 2 h) (0 + 1) (dv r (0 + 1)) (ix3 0 p x) + sv X true (sl 2 h) 0 (dv r (2 + 1)) (ix3 0 p x) = _
    rw [sv_succ, pv_up (by decide), sv_zero, sv_zero, jS_sl, hS_sl]
    show (_ : EReal) + (_ + _) + _ = _
    ac_rfl
  | 3 =>
    change fv X G h (dv r 3) (ix2 p k) = nrm (colSum X r 3 h p) k (gch (G (dv r 3)) (ix2 0 k))
    rw [fv3 X G h _ (zz_dv (by decide)), pay43_at]
    refine key fun x => ?_
    rw [colSum_eq, got_up X _ r 2 (by decide)]
    show _ + sv X false (sl 3 h) (1 + 1) (dv r (1 + 1)) (ix3 0 p x) = _
    rw [sv_succ, pv_up (by decide)]
    show _ + (sv X false (sl 3 h) (0 + 1) (dv r (0 + 1)) (ix3 0 p x) + _) = _
    rw [sv_succ, pv_up (by decide), sv_zero, jS_sl, hS_sl]
    show (_ : EReal) + (_ + _ + _) = _
    simp only [Nat.reduceAdd]
    ac_rfl

end Cert.Talk

end
-- ==== Proof.RefAt.lean ====
/- One element of the reference's result, over the extended reals. -/
module

public import proofs.«01_k».proof.Proof.Gen.ReferenceIdeal.Run
public import proofs.«01_k».proof.Proof.Norm
public import Idealize.ShloMosaic.Lib.Pointwise

@[expose] public section

noncomputable section

namespace Cert.Talk

open Idealize.ShloMosaic Idealize.SL.Sem
open Cert.ReferenceIdeal Cert.ReferenceIdeal.Gen

/-- The sum of the four shards. -/
def refSum (x : FVec Ideal S4x4096x1024 .bf16) : FVec Ideal S4096x1024 .f32 :=
  Host.reduceAdd (extf .f32 x bitsLt_bf16_f32) (constant S_ .f32 0x00000000#32) reducesTo_S4x4096x1024_S4096x1024_d0 h_S_

/-- The reference's result, of its two arguments. -/
def refOut (x : FVec Ideal S4x4096x1024 .bf16) (g : FVec Ideal S1024 .bf16) : FVec Ideal S4096x1024 .bf16 :=
  truncf .bf16 (mulf (Host.divf (refSum x) (broadcastInDim S4096x1024 ![0, 1] bcast_S4096x1_S4096x1024_0_1 (Host.sqrt (addf (Host.divf (broadcastInDim S4096x1 ![0] bcast_S4096_S4096x1_0 (Host.reduceAdd (mulf (refSum x) (refSum x)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (extf .f32 g bitsLt_bf16_f32)))) bitsLt_bf16_f32

/-- At an element it is the norm of the row of sums. -/
theorem refOut_at (x : FVec Ideal S4x4096x1024 .bf16) (g : FVec Ideal S1024 .bf16) (p : Fin 4096) (k : Fin 1024) :
    refOut x g (ix2 p k) = nrm (fun y => ∑ z : Fin 4, (x (ix3 z p y) : EReal)) k (g (ix1 k)) := by
  pointwise [refOut, refSum]
  exact nrm_eq (fun y => ∑ z : Fin 4, (x (ix3 z p y) : EReal)) k _

end Cert.Talk

end
-- ==== Proof.Agree.lean ====
/- The two programs compute the same: each device's result is its block of the reference's. -/
module

public import proofs.«01_k».proof.Defs
public import proofs.«01_k».proof.Proof.Run
public import proofs.«01_k».proof.Proof.Host
public import proofs.«01_k».proof.Proof.Terms
public import proofs.«01_k».proof.Proof.RefAt

@[expose] public section

noncomputable section

namespace Cert.Talk

open Idealize.ShloMosaic Idealize.SL.Sem Idealize.ShloMosaic.TcCoe
open Cert.KernelIdeal Cert.KernelIdeal.Gen

/-- Half `h` of chunk `j`, by rows. -/
theorem xch_at (x : Vec Ideal S4x256x1024 .bf16) (j : Fin 4) (h : Fin 2) (p : Fin 128) (k : Fin 1024) (q : Fin 256)
    (hq : q.val = 128 * h.val + p.val) : xch x j h (ix3 0 p k) = x (ix3 j q k) := by
  unfold xch
  refine congrArg x (funext fun a => Fin.ext ?_)
  match a with
  | 0 => show j.val + 1 * 0 = j.val; omega
  | 1 => show 128 * h.val + 1 * p.val = q.val; omega
  | 2 => show 0 + 1 * k.val = k.val; omega

theorem gch_at (g : Vec Ideal S1x1024 .bf16) (k : Fin 1024) : gch g (ix2 0 k) = g (ix2 0 k) := by
  unfold gch
  refine congrArg g (funext fun a => Fin.ext ?_)
  match a with
  | 0 => rfl
  | 1 => show 0 + 1 * k.val = k.val; omega

theorem dv_block {r z : ℕ} (hr : r < 4) : (dv r z).val / 4 = r := by
  show (4 * (r % 4) + z % 4) % 16 / 4 = r
  omega

variable (m : (ℓ : Loc nD τ sig) → Buf (Elt Ideal) ℓ)

/-- The result at row `q` of the device at the place `z`, of the devices' arguments. -/
theorem out_at (z : Fin 4) (q k : Fin 1024) (n : Fin 4096) (hn : n.val = 1024 * z.val + q.val) :
    (out (Xm m) (Gm m) z.val : Vec Ideal S1024x1024 .bf16) (ix2 q k)
      = nrm (fun y => ∑ w : Fin 4, ((m (((dv (q.val / 256) w.val).tc : Thread nD τ).loc main_arg0) : Vec Ideal S1x4096x1024 .bf16) (ix3 0 n y) : EReal)) k
          ((m (((dv (q.val / 256) z.val).tc : Thread nD τ).loc main_arg1) : Vec Ideal S1024 .bf16) (ix1 k)) := by
  have hq : q.val < 1024 := q.isLt
  have e : inHalf (ix2 q k) = ix2 (⟨q.val % 128, Nat.mod_lt _ (by decide)⟩ : Fin 128) k := by
    funext a
    match a with
    | 0 => rfl
    | 1 => rfl
  show fv (Xm m) (Gm m) ⟨q.val % 256 / 128, _⟩ (dv (q.val / 256) z.val) (inHalf (ix2 q k)) = _
  rw [e, fv_at, gch_at, Gm_at]
  refine congrArg (fun f => nrm f k _) (funext fun y => ?_)
  unfold colSum
  refine Finset.sum_congr rfl fun w _ => ?_
  rw [xch_at _ _ _ _ _ (⟨q.val % 256, Nat.mod_lt _ (by decide)⟩ : Fin 256) (by show q.val % 256 = 128 * (q.val % 256 / 128) + q.val % 128; omega)]
  refine Xm_at m _ z _ y n ?_
  rw [dv_block (by omega)]
  show n.val = 1024 * z.val + 256 * (q.val / 256) + q.val % 256
  omega

/-- A device's block of the rows. -/
theorem block_rows (c : Dev nD) (v : FVec Ideal Cert.ReferenceIdeal.S4096x1024 .bf16) (q k : Fin 1024) (n : Fin 4096)
    (hn : n.val = 1024 * zz c + q.val) :
    Layout.blockN ⟨2, ![1024, 1024]⟩ ⟨2, ![4096, 1024]⟩ (Layout.meshBlock [2, 2, 4] ![[2], []] c) v (by decide) (ix2 q k) = v (ix2 n k) := by
  have hm : ((Layout.meshBlock [2, 2, 4] ![[2], []] c : (b : Fin 2) → _) 0).val = zz c := by
    clear hn; revert c; decide +kernel
  refine congrArg v (funext fun a => Fin.ext ?_)
  rw [Layout.TilesN.idx_val]
  match a with
  | 0 =>
    show ((Layout.meshBlock [2, 2, 4] ![[2], []] c : (b : Fin 2) → _) 0).val * 1024 + q.val = n.val
    rw [hm]; omega
  | 1 => show 0 * 1024 + k.val = k.val; omega

/-- A device's shard. -/
theorem block_shard (c : Dev nD) (w : Fin 4) (hw : zz c = w.val) (v : FVec Ideal Cert.ReferenceIdeal.S4x4096x1024 .bf16) (n : Fin 4096) (k : Fin 1024) :
    Layout.blockN ⟨3, ![1, 4096, 1024]⟩ ⟨3, ![4, 4096, 1024]⟩ (Layout.meshBlock [2, 2, 4] ![[2], [], []] c) v (by decide) (ix3 0 n k) = v (ix3 w n k) := by
  have hm : ((Layout.meshBlock [2, 2, 4] ![[2], [], []] c : (b : Fin 3) → _) 0).val = zz c := by
    clear hw; revert c; decide +kernel
  refine congrArg v (funext fun a => Fin.ext ?_)
  rw [Layout.TilesN.idx_val]
  match a with
  | 0 =>
    show ((Layout.meshBlock [2, 2, 4] ![[2], [], []] c : (b : Fin 3) → _) 0).val * 1 + 0 = w.val
    rw [hm]; omega
  | 1 => show 0 * 4096 + n.val = n.val; omega
  | 2 => show 0 * 1024 + k.val = k.val; omega

theorem zz_lt (c : Dev nD) : zz c < 4 := Nat.mod_lt _ (by decide)

/-- Where the devices hold the shards of `x` and all of `g`, a device's result is its block of the reference's. -/
theorem out_block (x : FVec Ideal Cert.ReferenceIdeal.S4x4096x1024 .bf16) (g : FVec Ideal Cert.ReferenceIdeal.S1024 .bf16)
    (h : ∀ c : Dev nD, m ((c.tc : Thread nD τ).loc main_arg0)
        = Layout.blockN ⟨3, ![1, 4096, 1024]⟩ ⟨3, ![4, 4096, 1024]⟩ (Layout.meshBlock [2, 2, 4] ![[2], [], []] c) x
      ∧ m ((c.tc : Thread nD τ).loc main_arg1) = g) (c : Dev nD) :
    (out (Xm m) (Gm m) (zz c) : Vec Ideal S1024x1024 .bf16)
      = Layout.blockN ⟨2, ![1024, 1024]⟩ ⟨2, ![4096, 1024]⟩ (Layout.meshBlock [2, 2, 4] ![[2], []] c) (refOut x g) := by
  funext i
  obtain ⟨q, k, rfl⟩ : ∃ q k : Fin 1024, i = ix2 q k := ⟨i 0, i 1, eq_ix2 i⟩
  have hz := zz_lt c
  have hq : q.val < 1024 := q.isLt
  refine Eq.trans ?_ (block_rows c (refOut x g) q k ⟨1024 * zz c + q.val, by omega⟩ rfl).symm
  rw [refOut_at]
  refine (out_at m ⟨zz c, hz⟩ q k ⟨1024 * zz c + q.val, by omega⟩ rfl).trans ?_
  rw [(h _).2]
  refine congrArg (fun f => nrm f k _) (funext fun y => Finset.sum_congr rfl fun w _ => ?_)
  rw [(h _).1]
  exact block_shard _ w (zz_dv w.isLt) x _ y

/-- The two programs compute the same. -/
theorem algebraic : Cert.algebraic_KernelIdeal_ReferenceIdeal := fun m g m' g' _ h =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ hr c => ⟨(hr.1 c).2.2.trans (out_block m _ _ h c), (hr.1 c).1, (hr.1 c).2.1⟩) (run_main m g),
    (θ_run Cert.ReferenceIdeal.defs _ _).mono (fun _ hr => hr 0) (Cert.ReferenceIdeal.Value.run (F := Ideal) m' g')⟩

end Cert.Talk

end
-- ==== Proof.lean ====
/- The certificate's claims put together: each is proved in a module under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Reference
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Talk.frame_kernel, Cert.Talk.frame_kernelIdeal, Cert.Talk.frame_reference, trivial, Cert.Talk.algebraic⟩

end Cert.Proof

end
